-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2 = (fun _ => 1#1)

def Pre_FnetOut (m : (ℓ : Loc Cert.FnetOut.nD Cert.FnetOut.τ Cert.FnetOut.sig) → Buf (Elt Bits) ℓ) : Prop :=
  True

def Pre_FnetOutIdeal (m : (ℓ : Loc Cert.FnetOutIdeal.nD Cert.FnetOutIdeal.τ Cert.FnetOutIdeal.sig) → Buf (Elt Ideal) ℓ) : Prop :=
  True

def Pre_FnetOutRefIdeal (m : (ℓ : Loc Cert.FnetOutRefIdeal.nD Cert.FnetOutRefIdeal.τ Cert.FnetOutRefIdeal.sig) → Buf (Elt Ideal) ℓ) : Prop :=
  True

def Pre_MlaOut (m : (ℓ : Loc Cert.MlaOut.nD Cert.MlaOut.τ Cert.MlaOut.sig) → Buf (Elt Bits) ℓ) : Prop :=
  True

def Pre_MlaOutIdeal (m : (ℓ : Loc Cert.MlaOutIdeal.nD Cert.MlaOutIdeal.τ Cert.MlaOutIdeal.sig) → Buf (Elt Ideal) ℓ) : Prop :=
  True

def Pre_MlaOutRefIdeal (m : (ℓ : Loc Cert.MlaOutRefIdeal.nD Cert.MlaOutRefIdeal.τ Cert.MlaOutRefIdeal.sig) → Buf (Elt Ideal) ℓ) : Prop :=
  True

def Pre_Scores (m : (ℓ : Loc Cert.Scores.nD Cert.Scores.τ Cert.Scores.sig) → Buf (Elt Bits) ℓ) : Prop :=
  True

def Pre_ScoresIdeal (m : (ℓ : Loc Cert.ScoresIdeal.nD Cert.ScoresIdeal.τ Cert.ScoresIdeal.sig) → Buf (Elt Ideal) ℓ) : Prop :=
  True

def Pre_ScoresIdeal_finite_inputs [hPre_finite_inputs : Cert.Pre_finite_inputs.Facts] (m : (ℓ : Loc Cert.ScoresIdeal.nD Cert.ScoresIdeal.τ Cert.ScoresIdeal.sig) → Buf (Elt Ideal) ℓ) : Prop :=
  ∀ c : Dev Cert.ScoresIdeal.nD,
    (Cert.Pre_finite_inputs.fn (F := Ideal) (m ((c.tc : Thread Cert.ScoresIdeal.nD Cert.ScoresIdeal.τ).loc Cert.ScoresIdeal.main_arg0)) (m ((c.tc : Thread Cert.ScoresIdeal.nD Cert.ScoresIdeal.τ).loc Cert.ScoresIdeal.main_arg1)) (m ((c.tc : Thread Cert.ScoresIdeal.nD Cert.ScoresIdeal.τ).loc Cert.ScoresIdeal.main_arg2)) (m ((c.tc : Thread Cert.ScoresIdeal.nD Cert.ScoresIdeal.τ).loc Cert.ScoresIdeal.main_arg3))).1 = (fun _ => 1#1)
    ∧ (Cert.Pre_finite_inputs.fn (F := Ideal) (m ((c.tc : Thread Cert.ScoresIdeal.nD Cert.ScoresIdeal.τ).loc Cert.ScoresIdeal.main_arg0)) (m ((c.tc : Thread Cert.ScoresIdeal.nD Cert.ScoresIdeal.τ).loc Cert.ScoresIdeal.main_arg1)) (m ((c.tc : Thread Cert.ScoresIdeal.nD Cert.ScoresIdeal.τ).loc Cert.ScoresIdeal.main_arg2)) (m ((c.tc : Thread Cert.ScoresIdeal.nD Cert.ScoresIdeal.τ).loc Cert.ScoresIdeal.main_arg3))).2.1 = (fun _ => 1#1)
    ∧ (Cert.Pre_finite_inputs.fn (F := Ideal) (m ((c.tc : Thread Cert.ScoresIdeal.nD Cert.ScoresIdeal.τ).loc Cert.ScoresIdeal.main_arg0)) (m ((c.tc : Thread Cert.ScoresIdeal.nD Cert.ScoresIdeal.τ).loc Cert.ScoresIdeal.main_arg1)) (m ((c.tc : Thread Cert.ScoresIdeal.nD Cert.ScoresIdeal.τ).loc Cert.ScoresIdeal.main_arg2)) (m ((c.tc : Thread Cert.ScoresIdeal.nD Cert.ScoresIdeal.τ).loc Cert.ScoresIdeal.main_arg3))).2.2.1 = (fun _ => 1#1)
    ∧ (Cert.Pre_finite_inputs.fn (F := Ideal) (m ((c.tc : Thread Cert.ScoresIdeal.nD Cert.ScoresIdeal.τ).loc Cert.ScoresIdeal.main_arg0)) (m ((c.tc : Thread Cert.ScoresIdeal.nD Cert.ScoresIdeal.τ).loc Cert.ScoresIdeal.main_arg1)) (m ((c.tc : Thread Cert.ScoresIdeal.nD Cert.ScoresIdeal.τ).loc Cert.ScoresIdeal.main_arg2)) (m ((c.tc : Thread Cert.ScoresIdeal.nD Cert.ScoresIdeal.τ).loc Cert.ScoresIdeal.main_arg3))).2.2.2 = (fun _ => 1#1)

def Pre_ScoresRefIdeal (m : (ℓ : Loc Cert.ScoresRefIdeal.nD Cert.ScoresRefIdeal.τ Cert.ScoresRefIdeal.sig) → Buf (Elt Ideal) ℓ) : Prop :=
  True

def Pre_ScoresRefIdeal_finite_inputs [hPre_finite_inputs : Cert.Pre_finite_inputs.Facts] (m : (ℓ : Loc Cert.ScoresRefIdeal.nD Cert.ScoresRefIdeal.τ Cert.ScoresRefIdeal.sig) → Buf (Elt Ideal) ℓ) : Prop :=
  ∀ c : Dev Cert.ScoresRefIdeal.nD,
    (Cert.Pre_finite_inputs.fn (F := Ideal) (m ((c.tc : Thread Cert.ScoresRefIdeal.nD Cert.ScoresRefIdeal.τ).loc Cert.ScoresRefIdeal.main_arg0)) (m ((c.tc : Thread Cert.ScoresRefIdeal.nD Cert.ScoresRefIdeal.τ).loc Cert.ScoresRefIdeal.main_arg1)) (m ((c.tc : Thread Cert.ScoresRefIdeal.nD Cert.ScoresRefIdeal.τ).loc Cert.ScoresRefIdeal.main_arg2)) (m ((c.tc : Thread Cert.ScoresRefIdeal.nD Cert.ScoresRefIdeal.τ).loc Cert.ScoresRefIdeal.main_arg3))).1 = (fun _ => 1#1)
    ∧ (Cert.Pre_finite_inputs.fn (F := Ideal) (m ((c.tc : Thread Cert.ScoresRefIdeal.nD Cert.ScoresRefIdeal.τ).loc Cert.ScoresRefIdeal.main_arg0)) (m ((c.tc : Thread Cert.ScoresRefIdeal.nD Cert.ScoresRefIdeal.τ).loc Cert.ScoresRefIdeal.main_arg1)) (m ((c.tc : Thread Cert.ScoresRefIdeal.nD Cert.ScoresRefIdeal.τ).loc Cert.ScoresRefIdeal.main_arg2)) (m ((c.tc : Thread Cert.ScoresRefIdeal.nD Cert.ScoresRefIdeal.τ).loc Cert.ScoresRefIdeal.main_arg3))).2.1 = (fun _ => 1#1)
    ∧ (Cert.Pre_finite_inputs.fn (F := Ideal) (m ((c.tc : Thread Cert.ScoresRefIdeal.nD Cert.ScoresRefIdeal.τ).loc Cert.ScoresRefIdeal.main_arg0)) (m ((c.tc : Thread Cert.ScoresRefIdeal.nD Cert.ScoresRefIdeal.τ).loc Cert.ScoresRefIdeal.main_arg1)) (m ((c.tc : Thread Cert.ScoresRefIdeal.nD Cert.ScoresRefIdeal.τ).loc Cert.ScoresRefIdeal.main_arg2)) (m ((c.tc : Thread Cert.ScoresRefIdeal.nD Cert.ScoresRefIdeal.τ).loc Cert.ScoresRefIdeal.main_arg3))).2.2.1 = (fun _ => 1#1)
    ∧ (Cert.Pre_finite_inputs.fn (F := Ideal) (m ((c.tc : Thread Cert.ScoresRefIdeal.nD Cert.ScoresRefIdeal.τ).loc Cert.ScoresRefIdeal.main_arg0)) (m ((c.tc : Thread Cert.ScoresRefIdeal.nD Cert.ScoresRefIdeal.τ).loc Cert.ScoresRefIdeal.main_arg1)) (m ((c.tc : Thread Cert.ScoresRefIdeal.nD Cert.ScoresRefIdeal.τ).loc Cert.ScoresRefIdeal.main_arg2)) (m ((c.tc : Thread Cert.ScoresRefIdeal.nD Cert.ScoresRefIdeal.τ).loc Cert.ScoresRefIdeal.main_arg3))).2.2.2 = (fun _ => 1#1)

def Pre_MlaIn (m : (ℓ : Loc Cert.MlaIn.nD Cert.MlaIn.τ Cert.MlaIn.sig) → Buf (Elt Bits) ℓ) : Prop :=
  True

def Pre_MlaInIdeal (m : (ℓ : Loc Cert.MlaInIdeal.nD Cert.MlaInIdeal.τ Cert.MlaInIdeal.sig) → Buf (Elt Ideal) ℓ) : Prop :=
  True

def Pre_MlaInIdeal_finite_factors [hPre_finite_factors : Cert.Pre_finite_factors.Facts] (m : (ℓ : Loc Cert.MlaInIdeal.nD Cert.MlaInIdeal.τ Cert.MlaInIdeal.sig) → Buf (Elt Ideal) ℓ) : Prop :=
  ∀ c : Dev Cert.MlaInIdeal.nD,
    (Cert.Pre_finite_factors.fn (F := Ideal) (m ((c.tc : Thread Cert.MlaInIdeal.nD Cert.MlaInIdeal.τ).loc Cert.MlaInIdeal.main_arg0)) (m ((c.tc : Thread Cert.MlaInIdeal.nD Cert.MlaInIdeal.τ).loc Cert.MlaInIdeal.main_arg1))).1 = (fun _ => 1#1)
    ∧ (Cert.Pre_finite_factors.fn (F := Ideal) (m ((c.tc : Thread Cert.MlaInIdeal.nD Cert.MlaInIdeal.τ).loc Cert.MlaInIdeal.main_arg0)) (m ((c.tc : Thread Cert.MlaInIdeal.nD Cert.MlaInIdeal.τ).loc Cert.MlaInIdeal.main_arg1))).2 = (fun _ => 1#1)

def Pre_MlaInRefIdeal (m : (ℓ : Loc Cert.MlaInRefIdeal.nD Cert.MlaInRefIdeal.τ Cert.MlaInRefIdeal.sig) → Buf (Elt Ideal) ℓ) : Prop :=
  True

def Pre_MlaInRefIdeal_finite_factors [hPre_finite_factors : Cert.Pre_finite_factors.Facts] (m : (ℓ : Loc Cert.MlaInRefIdeal.nD Cert.MlaInRefIdeal.τ Cert.MlaInRefIdeal.sig) → Buf (Elt Ideal) ℓ) : Prop :=
  ∀ c : Dev Cert.MlaInRefIdeal.nD,
    (Cert.Pre_finite_factors.fn (F := Ideal) (m ((c.tc : Thread Cert.MlaInRefIdeal.nD Cert.MlaInRefIdeal.τ).loc Cert.MlaInRefIdeal.main_arg0)) (m ((c.tc : Thread Cert.MlaInRefIdeal.nD Cert.MlaInRefIdeal.τ).loc Cert.MlaInRefIdeal.main_arg1))).1 = (fun _ => 1#1)
    ∧ (Cert.Pre_finite_factors.fn (F := Ideal) (m ((c.tc : Thread Cert.MlaInRefIdeal.nD Cert.MlaInRefIdeal.τ).loc Cert.MlaInRefIdeal.main_arg0)) (m ((c.tc : Thread Cert.MlaInRefIdeal.nD Cert.MlaInRefIdeal.τ).loc Cert.MlaInRefIdeal.main_arg1))).2 = (fun _ => 1#1)

def Pre_Q (m : (ℓ : Loc Cert.Q.nD Cert.Q.τ Cert.Q.sig) → Buf (Elt Bits) ℓ) : Prop :=
  True

def Pre_QIdeal (m : (ℓ : Loc Cert.QIdeal.nD Cert.QIdeal.τ Cert.QIdeal.sig) → Buf (Elt Ideal) ℓ) : Prop :=
  True

def Pre_QIdeal_finite_weights [hPre_finite_weights : Cert.Pre_finite_weights.Facts] (m : (ℓ : Loc Cert.QIdeal.nD Cert.QIdeal.τ Cert.QIdeal.sig) → Buf (Elt Ideal) ℓ) : Prop :=
  ∀ c : Dev Cert.QIdeal.nD,
    (Cert.Pre_finite_weights.fn (F := Ideal) (m ((c.tc : Thread Cert.QIdeal.nD Cert.QIdeal.τ).loc Cert.QIdeal.main_arg0)) (m ((c.tc : Thread Cert.QIdeal.nD Cert.QIdeal.τ).loc Cert.QIdeal.main_arg1)) (m ((c.tc : Thread Cert.QIdeal.nD Cert.QIdeal.τ).loc Cert.QIdeal.main_arg2)) (m ((c.tc : Thread Cert.QIdeal.nD Cert.QIdeal.τ).loc Cert.QIdeal.main_arg3)) (m ((c.tc : Thread Cert.QIdeal.nD Cert.QIdeal.τ).loc Cert.QIdeal.main_arg4))).1 = (fun _ => 1#1)
    ∧ (Cert.Pre_finite_weights.fn (F := Ideal) (m ((c.tc : Thread Cert.QIdeal.nD Cert.QIdeal.τ).loc Cert.QIdeal.main_arg0)) (m ((c.tc : Thread Cert.QIdeal.nD Cert.QIdeal.τ).loc Cert.QIdeal.main_arg1)) (m ((c.tc : Thread Cert.QIdeal.nD Cert.QIdeal.τ).loc Cert.QIdeal.main_arg2)) (m ((c.tc : Thread Cert.QIdeal.nD Cert.QIdeal.τ).loc Cert.QIdeal.main_arg3)) (m ((c.tc : Thread Cert.QIdeal.nD Cert.QIdeal.τ).loc Cert.QIdeal.main_arg4))).2 = (fun _ => 1#1)

def Pre_QRefIdeal (m : (ℓ : Loc Cert.QRefIdeal.nD Cert.QRefIdeal.τ Cert.QRefIdeal.sig) → Buf (Elt Ideal) ℓ) : Prop :=
  True

def Pre_QRefIdeal_finite_weights [hPre_finite_weights : Cert.Pre_finite_weights.Facts] (m : (ℓ : Loc Cert.QRefIdeal.nD Cert.QRefIdeal.τ Cert.QRefIdeal.sig) → Buf (Elt Ideal) ℓ) : Prop :=
  ∀ c : Dev Cert.QRefIdeal.nD,
    (Cert.Pre_finite_weights.fn (F := Ideal) (m ((c.tc : Thread Cert.QRefIdeal.nD Cert.QRefIdeal.τ).loc Cert.QRefIdeal.main_arg0)) (m ((c.tc : Thread Cert.QRefIdeal.nD Cert.QRefIdeal.τ).loc Cert.QRefIdeal.main_arg1)) (m ((c.tc : Thread Cert.QRefIdeal.nD Cert.QRefIdeal.τ).loc Cert.QRefIdeal.main_arg2)) (m ((c.tc : Thread Cert.QRefIdeal.nD Cert.QRefIdeal.τ).loc Cert.QRefIdeal.main_arg3)) (m ((c.tc : Thread Cert.QRefIdeal.nD Cert.QRefIdeal.τ).loc Cert.QRefIdeal.main_arg4))).1 = (fun _ => 1#1)
    ∧ (Cert.Pre_finite_weights.fn (F := Ideal) (m ((c.tc : Thread Cert.QRefIdeal.nD Cert.QRefIdeal.τ).loc Cert.QRefIdeal.main_arg0)) (m ((c.tc : Thread Cert.QRefIdeal.nD Cert.QRefIdeal.τ).loc Cert.QRefIdeal.main_arg1)) (m ((c.tc : Thread Cert.QRefIdeal.nD Cert.QRefIdeal.τ).loc Cert.QRefIdeal.main_arg2)) (m ((c.tc : Thread Cert.QRefIdeal.nD Cert.QRefIdeal.τ).loc Cert.QRefIdeal.main_arg3)) (m ((c.tc : Thread Cert.QRefIdeal.nD Cert.QRefIdeal.τ).loc Cert.QRefIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_FnetOut [hFnetOut : Cert.FnetOut.Facts] : Prop :=
  ∀ (m : (ℓ : Loc Cert.FnetOut.nD Cert.FnetOut.τ Cert.FnetOut.sig) → Buf (Elt Bits) ℓ) (g : Dev Cert.FnetOut.nD → PrngReg), Pre_FnetOut m →
    θ_run (Cert.FnetOut.defs (F := Bits)) (onTc (τ := Cert.FnetOut.τ) (Cert.FnetOut.main (F := Bits))) ⟨m, fun _ => 0, g⟩ (fun r => (∀ c : Dev Cert.FnetOut.nD,
      r.2.mem ((c.tc : Thread Cert.FnetOut.nD Cert.FnetOut.τ).loc Cert.FnetOut.main_arg0) = m ((c.tc : Thread Cert.FnetOut.nD Cert.FnetOut.τ).loc Cert.FnetOut.main_arg0)
      ∧ r.2.mem ((c.tc : Thread Cert.FnetOut.nD Cert.FnetOut.τ).loc Cert.FnetOut.main_arg1) = m ((c.tc : Thread Cert.FnetOut.nD Cert.FnetOut.τ).loc Cert.FnetOut.main_arg1)
      ∧ r.2.mem ((c.tc : Thread Cert.FnetOut.nD Cert.FnetOut.τ).loc Cert.FnetOut.main_arg2) = m ((c.tc : Thread Cert.FnetOut.nD Cert.FnetOut.τ).loc Cert.FnetOut.main_arg2))
      ∧ r.2.sem = fun _ => 0)

def quiescent_FnetOutIdeal [hFnetOutIdeal : Cert.FnetOutIdeal.Facts] : Prop :=
  ∀ (m : (ℓ : Loc Cert.FnetOutIdeal.nD Cert.FnetOutIdeal.τ Cert.FnetOutIdeal.sig) → Buf (Elt Ideal) ℓ) (g : Dev Cert.FnetOutIdeal.nD → PrngReg), Pre_FnetOutIdeal m →
    θ_run (Cert.FnetOutIdeal.defs (F := Ideal)) (onTc (τ := Cert.FnetOutIdeal.τ) (Cert.FnetOutIdeal.main (F := Ideal))) ⟨m, fun _ => 0, g⟩ (fun r => (∀ c : Dev Cert.FnetOutIdeal.nD,
      r.2.mem ((c.tc : Thread Cert.FnetOutIdeal.nD Cert.FnetOutIdeal.τ).loc Cert.FnetOutIdeal.main_arg0) = m ((c.tc : Thread Cert.FnetOutIdeal.nD Cert.FnetOutIdeal.τ).loc Cert.FnetOutIdeal.main_arg0)
      ∧ r.2.mem ((c.tc : Thread Cert.FnetOutIdeal.nD Cert.FnetOutIdeal.τ).loc Cert.FnetOutIdeal.main_arg1) = m ((c.tc : Thread Cert.FnetOutIdeal.nD Cert.FnetOutIdeal.τ).loc Cert.FnetOutIdeal.main_arg1)
      ∧ r.2.mem ((c.tc : Thread Cert.FnetOutIdeal.nD Cert.FnetOutIdeal.τ).loc Cert.FnetOutIdeal.main_arg2) = m ((c.tc : Thread Cert.FnetOutIdeal.nD Cert.FnetOutIdeal.τ).loc Cert.FnetOutIdeal.main_arg2))
      ∧ r.2.sem = fun _ => 0)

def quiescent_FnetOutRefIdeal [hFnetOutRefIdeal : Cert.FnetOutRefIdeal.Facts] : Prop :=
  ∀ (m : (ℓ : Loc Cert.FnetOutRefIdeal.nD Cert.FnetOutRefIdeal.τ Cert.FnetOutRefIdeal.sig) → Buf (Elt Ideal) ℓ) (g : Dev Cert.FnetOutRefIdeal.nD → PrngReg), Pre_FnetOutRefIdeal m →
    θ_run (Cert.FnetOutRefIdeal.defs (F := Ideal)) (onTc (τ := Cert.FnetOutRefIdeal.τ) (Cert.FnetOutRefIdeal.main (F := Ideal))) ⟨m, fun _ => 0, g⟩ (fun r => (∀ c : Dev Cert.FnetOutRefIdeal.nD,
      r.2.mem ((c.tc : Thread Cert.FnetOutRefIdeal.nD Cert.FnetOutRefIdeal.τ).loc Cert.FnetOutRefIdeal.main_arg0) = m ((c.tc : Thread Cert.FnetOutRefIdeal.nD Cert.FnetOutRefIdeal.τ).loc Cert.FnetOutRefIdeal.main_arg0)
      ∧ r.2.mem ((c.tc : Thread Cert.FnetOutRefIdeal.nD Cert.FnetOutRefIdeal.τ).loc Cert.FnetOutRefIdeal.main_arg1) = m ((c.tc : Thread Cert.FnetOutRefIdeal.nD Cert.FnetOutRefIdeal.τ).loc Cert.FnetOutRefIdeal.main_arg1)
      ∧ r.2.mem ((c.tc : Thread Cert.FnetOutRefIdeal.nD Cert.FnetOutRefIdeal.τ).loc Cert.FnetOutRefIdeal.main_arg2) = m ((c.tc : Thread Cert.FnetOutRefIdeal.nD Cert.FnetOutRefIdeal.τ).loc Cert.FnetOutRefIdeal.main_arg2))
      ∧ r.2.sem = fun _ => 0)

def quiescent_MlaOut [hMlaOut : Cert.MlaOut.Facts] : Prop :=
  ∀ (m : (ℓ : Loc Cert.MlaOut.nD Cert.MlaOut.τ Cert.MlaOut.sig) → Buf (Elt Bits) ℓ) (g : Dev Cert.MlaOut.nD → PrngReg), Pre_MlaOut m →
    θ_run (Cert.MlaOut.defs (F := Bits)) (onTc (τ := Cert.MlaOut.τ) (Cert.MlaOut.main (F := Bits))) ⟨m, fun _ => 0, g⟩ (fun r => (∀ c : Dev Cert.MlaOut.nD,
      r.2.mem ((c.tc : Thread Cert.MlaOut.nD Cert.MlaOut.τ).loc Cert.MlaOut.main_arg0) = m ((c.tc : Thread Cert.MlaOut.nD Cert.MlaOut.τ).loc Cert.MlaOut.main_arg0)
      ∧ r.2.mem ((c.tc : Thread Cert.MlaOut.nD Cert.MlaOut.τ).loc Cert.MlaOut.main_arg1) = m ((c.tc : Thread Cert.MlaOut.nD Cert.MlaOut.τ).loc Cert.MlaOut.main_arg1))
      ∧ r.2.sem = fun _ => 0)

def quiescent_MlaOutIdeal [hMlaOutIdeal : Cert.MlaOutIdeal.Facts] : Prop :=
  ∀ (m : (ℓ : Loc Cert.MlaOutIdeal.nD Cert.MlaOutIdeal.τ Cert.MlaOutIdeal.sig) → Buf (Elt Ideal) ℓ) (g : Dev Cert.MlaOutIdeal.nD → PrngReg), Pre_MlaOutIdeal m →
    θ_run (Cert.MlaOutIdeal.defs (F := Ideal)) (onTc (τ := Cert.MlaOutIdeal.τ) (Cert.MlaOutIdeal.main (F := Ideal))) ⟨m, fun _ => 0, g⟩ (fun r => (∀ c : Dev Cert.MlaOutIdeal.nD,
      r.2.mem ((c.tc : Thread Cert.MlaOutIdeal.nD Cert.MlaOutIdeal.τ).loc Cert.MlaOutIdeal.main_arg0) = m ((c.tc : Thread Cert.MlaOutIdeal.nD Cert.MlaOutIdeal.τ).loc Cert.MlaOutIdeal.main_arg0)
      ∧ r.2.mem ((c.tc : Thread Cert.MlaOutIdeal.nD Cert.MlaOutIdeal.τ).loc Cert.MlaOutIdeal.main_arg1) = m ((c.tc : Thread Cert.MlaOutIdeal.nD Cert.MlaOutIdeal.τ).loc Cert.MlaOutIdeal.main_arg1))
      ∧ r.2.sem = fun _ => 0)

def quiescent_MlaOutRefIdeal [hMlaOutRefIdeal : Cert.MlaOutRefIdeal.Facts] : Prop :=
  ∀ (m : (ℓ : Loc Cert.MlaOutRefIdeal.nD Cert.MlaOutRefIdeal.τ Cert.MlaOutRefIdeal.sig) → Buf (Elt Ideal) ℓ) (g : Dev Cert.MlaOutRefIdeal.nD → PrngReg), Pre_MlaOutRefIdeal m →
    θ_run (Cert.MlaOutRefIdeal.defs (F := Ideal)) (onTc (τ := Cert.MlaOutRefIdeal.τ) (Cert.MlaOutRefIdeal.main (F := Ideal))) ⟨m, fun _ => 0, g⟩ (fun r => (∀ c : Dev Cert.MlaOutRefIdeal.nD,
      r.2.mem ((c.tc : Thread Cert.MlaOutRefIdeal.nD Cert.MlaOutRefIdeal.τ).loc Cert.MlaOutRefIdeal.main_arg0) = m ((c.tc : Thread Cert.MlaOutRefIdeal.nD Cert.MlaOutRefIdeal.τ).loc Cert.MlaOutRefIdeal.main_arg0)
      ∧ r.2.mem ((c.tc : Thread Cert.MlaOutRefIdeal.nD Cert.MlaOutRefIdeal.τ).loc Cert.MlaOutRefIdeal.main_arg1) = m ((c.tc : Thread Cert.MlaOutRefIdeal.nD Cert.MlaOutRefIdeal.τ).loc Cert.MlaOutRefIdeal.main_arg1))
      ∧ r.2.sem = fun _ => 0)

def quiescent_Scores [hScores : Cert.Scores.Facts] : Prop :=
  ∀ (m : (ℓ : Loc Cert.Scores.nD Cert.Scores.τ Cert.Scores.sig) → Buf (Elt Bits) ℓ) (g : Dev Cert.Scores.nD → PrngReg), Pre_Scores m →
    θ_run (Cert.Scores.defs (F := Bits)) (onTc (τ := Cert.Scores.τ) (Cert.Scores.main (F := Bits))) ⟨m, fun _ => 0, g⟩ (fun r => (∀ c : Dev Cert.Scores.nD,
      r.2.mem ((c.tc : Thread Cert.Scores.nD Cert.Scores.τ).loc Cert.Scores.main_arg0) = m ((c.tc : Thread Cert.Scores.nD Cert.Scores.τ).loc Cert.Scores.main_arg0)
      ∧ r.2.mem ((c.tc : Thread Cert.Scores.nD Cert.Scores.τ).loc Cert.Scores.main_arg1) = m ((c.tc : Thread Cert.Scores.nD Cert.Scores.τ).loc Cert.Scores.main_arg1)
      ∧ r.2.mem ((c.tc : Thread Cert.Scores.nD Cert.Scores.τ).loc Cert.Scores.main_arg2) = m ((c.tc : Thread Cert.Scores.nD Cert.Scores.τ).loc Cert.Scores.main_arg2)
      ∧ r.2.mem ((c.tc : Thread Cert.Scores.nD Cert.Scores.τ).loc Cert.Scores.main_arg3) = m ((c.tc : Thread Cert.Scores.nD Cert.Scores.τ).loc Cert.Scores.main_arg3))
      ∧ r.2.sem = fun _ => 0)

def quiescent_ScoresIdeal [hScoresIdeal : Cert.ScoresIdeal.Facts] : Prop :=
  ∀ (m : (ℓ : Loc Cert.ScoresIdeal.nD Cert.ScoresIdeal.τ Cert.ScoresIdeal.sig) → Buf (Elt Ideal) ℓ) (g : Dev Cert.ScoresIdeal.nD → PrngReg), Pre_ScoresIdeal m →
    θ_run (Cert.ScoresIdeal.defs (F := Ideal)) (onTc (τ := Cert.ScoresIdeal.τ) (Cert.ScoresIdeal.main (F := Ideal))) ⟨m, fun _ => 0, g⟩ (fun r => (∀ c : Dev Cert.ScoresIdeal.nD,
      r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
      ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
      ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2)
      ∧ r.2.mem ((c.tc : Thread Cert.ScoresIdeal.nD Cert.ScoresIdeal.τ).loc Cert.ScoresIdeal.main_arg3) = m ((c.tc : Thread Cert.ScoresIdeal.nD Cert.ScoresIdeal.τ).loc Cert.ScoresIdeal.main_arg3))
      ∧ r.2.sem = fun _ => 0)

def quiescent_ScoresIdeal_pre_finite_inputs [hScoresIdeal : Cert.ScoresIdeal.Facts] [hPre_finite_inputs : Cert.Pre_finite_inputs.Facts] : Prop :=
  ∀ (m : (ℓ : Loc Cert.ScoresIdeal.nD Cert.ScoresIdeal.τ Cert.ScoresIdeal.sig) → Buf (Elt Ideal) ℓ) (g : Dev Cert.ScoresIdeal.nD → PrngReg), Pre_ScoresIdeal_finite_inputs m →
    θ_run (Cert.ScoresIdeal.defs (F := Ideal)) (onTc (τ := Cert.ScoresIdeal.τ) (Cert.ScoresIdeal.main (F := Ideal))) ⟨m, fun _ => 0, g⟩ (fun r => (∀ c : Dev Cert.ScoresIdeal.nD,
      r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
      ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
      ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2)
      ∧ r.2.mem ((c.tc : Thread Cert.ScoresIdeal.nD Cert.ScoresIdeal.τ).loc Cert.ScoresIdeal.main_arg3) = m ((c.tc : Thread Cert.ScoresIdeal.nD Cert.ScoresIdeal.τ).loc Cert.ScoresIdeal.main_arg3))
      ∧ r.2.sem = fun _ => 0)

def quiescent_ScoresRefIdeal [hScoresRefIdeal : Cert.ScoresRefIdeal.Facts] : Prop :=
  ∀ (m : (ℓ : Loc Cert.ScoresRefIdeal.nD Cert.ScoresRefIdeal.τ Cert.ScoresRefIdeal.sig) → Buf (Elt Ideal) ℓ) (g : Dev Cert.ScoresRefIdeal.nD → PrngReg), Pre_ScoresRefIdeal m →
    θ_run (Cert.ScoresRefIdeal.defs (F := Ideal)) (onTc (τ := Cert.ScoresRefIdeal.τ) (Cert.ScoresRefIdeal.main (F := Ideal))) ⟨m, fun _ => 0, g⟩ (fun r => (∀ c : Dev Cert.ScoresRefIdeal.nD,
      r.2.mem ((c.tc : Thread Cert.ScoresRefIdeal.nD Cert.ScoresRefIdeal.τ).loc Cert.ScoresRefIdeal.main_arg0) = m ((c.tc : Thread Cert.ScoresRefIdeal.nD Cert.ScoresRefIdeal.τ).loc Cert.ScoresRefIdeal.main_arg0)
      ∧ r.2.mem ((c.tc : Thread Cert.ScoresRefIdeal.nD Cert.ScoresRefIdeal.τ).loc Cert.ScoresRefIdeal.main_arg1) = m ((c.tc : Thread Cert.ScoresRefIdeal.nD Cert.ScoresRefIdeal.τ).loc Cert.ScoresRefIdeal.main_arg1)
      ∧ r.2.mem ((c.tc : Thread Cert.ScoresRefIdeal.nD Cert.ScoresRefIdeal.τ).loc Cert.ScoresRefIdeal.main_arg2) = m ((c.tc : Thread Cert.ScoresRefIdeal.nD Cert.ScoresRefIdeal.τ).loc Cert.ScoresRefIdeal.main_arg2)
      ∧ r.2.mem ((c.tc : Thread Cert.ScoresRefIdeal.nD Cert.ScoresRefIdeal.τ).loc Cert.ScoresRefIdeal.main_arg3) = m ((c.tc : Thread Cert.ScoresRefIdeal.nD Cert.ScoresRefIdeal.τ).loc Cert.ScoresRefIdeal.main_arg3))
      ∧ r.2.sem = fun _ => 0)

def quiescent_ScoresRefIdeal_pre_finite_inputs [hScoresRefIdeal : Cert.ScoresRefIdeal.Facts] [hPre_finite_inputs : Cert.Pre_finite_inputs.Facts] : Prop :=
  ∀ (m : (ℓ : Loc Cert.ScoresRefIdeal.nD Cert.ScoresRefIdeal.τ Cert.ScoresRefIdeal.sig) → Buf (Elt Ideal) ℓ) (g : Dev Cert.ScoresRefIdeal.nD → PrngReg), Pre_ScoresRefIdeal_finite_inputs m →
    θ_run (Cert.ScoresRefIdeal.defs (F := Ideal)) (onTc (τ := Cert.ScoresRefIdeal.τ) (Cert.ScoresRefIdeal.main (F := Ideal))) ⟨m, fun _ => 0, g⟩ (fun r => (∀ c : Dev Cert.ScoresRefIdeal.nD,
      r.2.mem ((c.tc : Thread Cert.ScoresRefIdeal.nD Cert.ScoresRefIdeal.τ).loc Cert.ScoresRefIdeal.main_arg0) = m ((c.tc : Thread Cert.ScoresRefIdeal.nD Cert.ScoresRefIdeal.τ).loc Cert.ScoresRefIdeal.main_arg0)
      ∧ r.2.mem ((c.tc : Thread Cert.ScoresRefIdeal.nD Cert.ScoresRefIdeal.τ).loc Cert.ScoresRefIdeal.main_arg1) = m ((c.tc : Thread Cert.ScoresRefIdeal.nD Cert.ScoresRefIdeal.τ).loc Cert.ScoresRefIdeal.main_arg1)
      ∧ r.2.mem ((c.tc : Thread Cert.ScoresRefIdeal.nD Cert.ScoresRefIdeal.τ).loc Cert.ScoresRefIdeal.main_arg2) = m ((c.tc : Thread Cert.ScoresRefIdeal.nD Cert.ScoresRefIdeal.τ).loc Cert.ScoresRefIdeal.main_arg2)
      ∧ r.2.mem ((c.tc : Thread Cert.ScoresRefIdeal.nD Cert.ScoresRefIdeal.τ).loc Cert.ScoresRefIdeal.main_arg3) = m ((c.tc : Thread Cert.ScoresRefIdeal.nD Cert.ScoresRefIdeal.τ).loc Cert.ScoresRefIdeal.main_arg3))
      ∧ r.2.sem = fun _ => 0)

def quiescent_MlaIn [hMlaIn : Cert.MlaIn.Facts] : Prop :=
  ∀ (m : (ℓ : Loc Cert.MlaIn.nD Cert.MlaIn.τ Cert.MlaIn.sig) → Buf (Elt Bits) ℓ) (g : Dev Cert.MlaIn.nD → PrngReg), Pre_MlaIn m →
    θ_run (Cert.MlaIn.defs (F := Bits)) (onTc (τ := Cert.MlaIn.τ) (Cert.MlaIn.main (F := Bits))) ⟨m, fun _ => 0, g⟩ (fun r => (∀ c : Dev Cert.MlaIn.nD,
      r.2.mem ((c.tc : Thread Cert.MlaIn.nD Cert.MlaIn.τ).loc Cert.MlaIn.main_arg0) = m ((c.tc : Thread Cert.MlaIn.nD Cert.MlaIn.τ).loc Cert.MlaIn.main_arg0)
      ∧ r.2.mem ((c.tc : Thread Cert.MlaIn.nD Cert.MlaIn.τ).loc Cert.MlaIn.main_arg1) = m ((c.tc : Thread Cert.MlaIn.nD Cert.MlaIn.τ).loc Cert.MlaIn.main_arg1))
      ∧ r.2.sem = fun _ => 0)

def quiescent_MlaInIdeal [hMlaInIdeal : Cert.MlaInIdeal.Facts] : Prop :=
  ∀ (m : (ℓ : Loc Cert.MlaInIdeal.nD Cert.MlaInIdeal.τ Cert.MlaInIdeal.sig) → Buf (Elt Ideal) ℓ) (g : Dev Cert.MlaInIdeal.nD → PrngReg), Pre_MlaInIdeal m →
    θ_run (Cert.MlaInIdeal.defs (F := Ideal)) (onTc (τ := Cert.MlaInIdeal.τ) (Cert.MlaInIdeal.main (F := Ideal))) ⟨m, fun _ => 0, g⟩ (fun r => (∀ c : Dev Cert.MlaInIdeal.nD,
      r.2.mem ((c.tc : Thread Cert.MlaInIdeal.nD Cert.MlaInIdeal.τ).loc Cert.MlaInIdeal.main_arg0) = m ((c.tc : Thread Cert.MlaInIdeal.nD Cert.MlaInIdeal.τ).loc Cert.MlaInIdeal.main_arg0)
      ∧ r.2.mem ((c.tc : Thread Cert.MlaInIdeal.nD Cert.MlaInIdeal.τ).loc Cert.MlaInIdeal.main_arg1) = m ((c.tc : Thread Cert.MlaInIdeal.nD Cert.MlaInIdeal.τ).loc Cert.MlaInIdeal.main_arg1))
      ∧ r.2.sem = fun _ => 0)

def quiescent_MlaInIdeal_pre_finite_factors [hMlaInIdeal : Cert.MlaInIdeal.Facts] [hPre_finite_factors : Cert.Pre_finite_factors.Facts] : Prop :=
  ∀ (m : (ℓ : Loc Cert.MlaInIdeal.nD Cert.MlaInIdeal.τ Cert.MlaInIdeal.sig) → Buf (Elt Ideal) ℓ) (g : Dev Cert.MlaInIdeal.nD → PrngReg), Pre_MlaInIdeal_finite_factors m →
    θ_run (Cert.MlaInIdeal.defs (F := Ideal)) (onTc (τ := Cert.MlaInIdeal.τ) (Cert.MlaInIdeal.main (F := Ideal))) ⟨m, fun _ => 0, g⟩ (fun r => (∀ c : Dev Cert.MlaInIdeal.nD,
      r.2.mem ((c.tc : Thread Cert.MlaInIdeal.nD Cert.MlaInIdeal.τ).loc Cert.MlaInIdeal.main_arg0) = m ((c.tc : Thread Cert.MlaInIdeal.nD Cert.MlaInIdeal.τ).loc Cert.MlaInIdeal.main_arg0)
      ∧ r.2.mem ((c.tc : Thread Cert.MlaInIdeal.nD Cert.MlaInIdeal.τ).loc Cert.MlaInIdeal.main_arg1) = m ((c.tc : Thread Cert.MlaInIdeal.nD Cert.MlaInIdeal.τ).loc Cert.MlaInIdeal.main_arg1))
      ∧ r.2.sem = fun _ => 0)

def quiescent_MlaInRefIdeal [hMlaInRefIdeal : Cert.MlaInRefIdeal.Facts] : Prop :=
  ∀ (m : (ℓ : Loc Cert.MlaInRefIdeal.nD Cert.MlaInRefIdeal.τ Cert.MlaInRefIdeal.sig) → Buf (Elt Ideal) ℓ) (g : Dev Cert.MlaInRefIdeal.nD → PrngReg), Pre_MlaInRefIdeal m →
    θ_run (Cert.MlaInRefIdeal.defs (F := Ideal)) (onTc (τ := Cert.MlaInRefIdeal.τ) (Cert.MlaInRefIdeal.main (F := Ideal))) ⟨m, fun _ => 0, g⟩ (fun r => (∀ c : Dev Cert.MlaInRefIdeal.nD,
      r.2.mem ((c.tc : Thread Cert.MlaInRefIdeal.nD Cert.MlaInRefIdeal.τ).loc Cert.MlaInRefIdeal.main_arg0) = m ((c.tc : Thread Cert.MlaInRefIdeal.nD Cert.MlaInRefIdeal.τ).loc Cert.MlaInRefIdeal.main_arg0)
      ∧ r.2.mem ((c.tc : Thread Cert.MlaInRefIdeal.nD Cert.MlaInRefIdeal.τ).loc Cert.MlaInRefIdeal.main_arg1) = m ((c.tc : Thread Cert.MlaInRefIdeal.nD Cert.MlaInRefIdeal.τ).loc Cert.MlaInRefIdeal.main_arg1))
      ∧ r.2.sem = fun _ => 0)

def quiescent_MlaInRefIdeal_pre_finite_factors [hMlaInRefIdeal : Cert.MlaInRefIdeal.Facts] [hPre_finite_factors : Cert.Pre_finite_factors.Facts] : Prop :=
  ∀ (m : (ℓ : Loc Cert.MlaInRefIdeal.nD Cert.MlaInRefIdeal.τ Cert.MlaInRefIdeal.sig) → Buf (Elt Ideal) ℓ) (g : Dev Cert.MlaInRefIdeal.nD → PrngReg), Pre_MlaInRefIdeal_finite_factors m →
    θ_run (Cert.MlaInRefIdeal.defs (F := Ideal)) (onTc (τ := Cert.MlaInRefIdeal.τ) (Cert.MlaInRefIdeal.main (F := Ideal))) ⟨m, fun _ => 0, g⟩ (fun r => (∀ c : Dev Cert.MlaInRefIdeal.nD,
      r.2.mem ((c.tc : Thread Cert.MlaInRefIdeal.nD Cert.MlaInRefIdeal.τ).loc Cert.MlaInRefIdeal.main_arg0) = m ((c.tc : Thread Cert.MlaInRefIdeal.nD Cert.MlaInRefIdeal.τ).loc Cert.MlaInRefIdeal.main_arg0)
      ∧ r.2.mem ((c.tc : Thread Cert.MlaInRefIdeal.nD Cert.MlaInRefIdeal.τ).loc Cert.MlaInRefIdeal.main_arg1) = m ((c.tc : Thread Cert.MlaInRefIdeal.nD Cert.MlaInRefIdeal.τ).loc Cert.MlaInRefIdeal.main_arg1))
      ∧ r.2.sem = fun _ => 0)

def quiescent_Q [hQ : Cert.Q.Facts] : Prop :=
  ∀ (m : (ℓ : Loc Cert.Q.nD Cert.Q.τ Cert.Q.sig) → Buf (Elt Bits) ℓ) (g : Dev Cert.Q.nD → PrngReg), Pre_Q m →
    θ_run (Cert.Q.defs (F := Bits)) (onTc (τ := Cert.Q.τ) (Cert.Q.main (F := Bits))) ⟨m, fun _ => 0, g⟩ (fun r => (∀ c : Dev Cert.Q.nD,
      r.2.mem ((c.tc : Thread Cert.Q.nD Cert.Q.τ).loc Cert.Q.main_arg0) = m ((c.tc : Thread Cert.Q.nD Cert.Q.τ).loc Cert.Q.main_arg0)
      ∧ r.2.mem ((c.tc : Thread Cert.Q.nD Cert.Q.τ).loc Cert.Q.main_arg1) = m ((c.tc : Thread Cert.Q.nD Cert.Q.τ).loc Cert.Q.main_arg1)
      ∧ r.2.mem ((c.tc : Thread Cert.Q.nD Cert.Q.τ).loc Cert.Q.main_arg2) = m ((c.tc : Thread Cert.Q.nD Cert.Q.τ).loc Cert.Q.main_arg2)
      ∧ r.2.mem ((c.tc : Thread Cert.Q.nD Cert.Q.τ).loc Cert.Q.main_arg3) = m ((c.tc : Thread Cert.Q.nD Cert.Q.τ).loc Cert.Q.main_arg3)
      ∧ r.2.mem ((c.tc : Thread Cert.Q.nD Cert.Q.τ).loc Cert.Q.main_arg4) = m ((c.tc : Thread Cert.Q.nD Cert.Q.τ).loc Cert.Q.main_arg4))
      ∧ r.2.sem = fun _ => 0)

def quiescent_QIdeal [hQIdeal : Cert.QIdeal.Facts] : Prop :=
  ∀ (m : (ℓ : Loc Cert.QIdeal.nD Cert.QIdeal.τ Cert.QIdeal.sig) → Buf (Elt Ideal) ℓ) (g : Dev Cert.QIdeal.nD → PrngReg), Pre_QIdeal m →
    θ_run (Cert.QIdeal.defs (F := Ideal)) (onTc (τ := Cert.QIdeal.τ) (Cert.QIdeal.main (F := Ideal))) ⟨m, fun _ => 0, g⟩ (fun r => (∀ c : Dev Cert.QIdeal.nD,
      r.2.mem ((c.tc : Thread Cert.QIdeal.nD Cert.QIdeal.τ).loc Cert.QIdeal.main_arg0) = m ((c.tc : Thread Cert.QIdeal.nD Cert.QIdeal.τ).loc Cert.QIdeal.main_arg0)
      ∧ r.2.mem ((c.tc : Thread Cert.QIdeal.nD Cert.QIdeal.τ).loc Cert.QIdeal.main_arg1) = m ((c.tc : Thread Cert.QIdeal.nD Cert.QIdeal.τ).loc Cert.QIdeal.main_arg1)
      ∧ r.2.mem ((c.tc : Thread Cert.QIdeal.nD Cert.QIdeal.τ).loc Cert.QIdeal.main_arg2) = m ((c.tc : Thread Cert.QIdeal.nD Cert.QIdeal.τ).loc Cert.QIdeal.main_arg2)
      ∧ r.2.mem ((c.tc : Thread Cert.QIdeal.nD Cert.QIdeal.τ).loc Cert.QIdeal.main_arg3) = m ((c.tc : Thread Cert.QIdeal.nD Cert.QIdeal.τ).loc Cert.QIdeal.main_arg3)
      ∧ r.2.mem ((c.tc : Thread Cert.QIdeal.nD Cert.QIdeal.τ).loc Cert.QIdeal.main_arg4) = m ((c.tc : Thread Cert.QIdeal.nD Cert.QIdeal.τ).loc Cert.QIdeal.main_arg4))
      ∧ r.2.sem = fun _ => 0)

def quiescent_QIdeal_pre_finite_weights [hQIdeal : Cert.QIdeal.Facts] [hPre_finite_weights : Cert.Pre_finite_weights.Facts] : Prop :=
  ∀ (m : (ℓ : Loc Cert.QIdeal.nD Cert.QIdeal.τ Cert.QIdeal.sig) → Buf (Elt Ideal) ℓ) (g : Dev Cert.QIdeal.nD → PrngReg), Pre_QIdeal_finite_weights m →
    θ_run (Cert.QIdeal.defs (F := Ideal)) (onTc (τ := Cert.QIdeal.τ) (Cert.QIdeal.main (F := Ideal))) ⟨m, fun _ => 0, g⟩ (fun r => (∀ c : Dev Cert.QIdeal.nD,
      r.2.mem ((c.tc : Thread Cert.QIdeal.nD Cert.QIdeal.τ).loc Cert.QIdeal.main_arg0) = m ((c.tc : Thread Cert.QIdeal.nD Cert.QIdeal.τ).loc Cert.QIdeal.main_arg0)
      ∧ r.2.mem ((c.tc : Thread Cert.QIdeal.nD Cert.QIdeal.τ).loc Cert.QIdeal.main_arg1) = m ((c.tc : Thread Cert.QIdeal.nD Cert.QIdeal.τ).loc Cert.QIdeal.main_arg1)
      ∧ r.2.mem ((c.tc : Thread Cert.QIdeal.nD Cert.QIdeal.τ).loc Cert.QIdeal.main_arg2) = m ((c.tc : Thread Cert.QIdeal.nD Cert.QIdeal.τ).loc Cert.QIdeal.main_arg2)
      ∧ r.2.mem ((c.tc : Thread Cert.QIdeal.nD Cert.QIdeal.τ).loc Cert.QIdeal.main_arg3) = m ((c.tc : Thread Cert.QIdeal.nD Cert.QIdeal.τ).loc Cert.QIdeal.main_arg3)
      ∧ r.2.mem ((c.tc : Thread Cert.QIdeal.nD Cert.QIdeal.τ).loc Cert.QIdeal.main_arg4) = m ((c.tc : Thread Cert.QIdeal.nD Cert.QIdeal.τ).loc Cert.QIdeal.main_arg4))
      ∧ r.2.sem = fun _ => 0)

def quiescent_QRefIdeal [hQRefIdeal : Cert.QRefIdeal.Facts] : Prop :=
  ∀ (m : (ℓ : Loc Cert.QRefIdeal.nD Cert.QRefIdeal.τ Cert.QRefIdeal.sig) → Buf (Elt Ideal) ℓ) (g : Dev Cert.QRefIdeal.nD → PrngReg), Pre_QRefIdeal m →
    θ_run (Cert.QRefIdeal.defs (F := Ideal)) (onTc (τ := Cert.QRefIdeal.τ) (Cert.QRefIdeal.main (F := Ideal))) ⟨m, fun _ => 0, g⟩ (fun r => (∀ c : Dev Cert.QRefIdeal.nD,
      r.2.mem ((c.tc : Thread Cert.QRefIdeal.nD Cert.QRefIdeal.τ).loc Cert.QRefIdeal.main_arg0) = m ((c.tc : Thread Cert.QRefIdeal.nD Cert.QRefIdeal.τ).loc Cert.QRefIdeal.main_arg0)
      ∧ r.2.mem ((c.tc : Thread Cert.QRefIdeal.nD Cert.QRefIdeal.τ).loc Cert.QRefIdeal.main_arg1) = m ((c.tc : Thread Cert.QRefIdeal.nD Cert.QRefIdeal.τ).loc Cert.QRefIdeal.main_arg1)
      ∧ r.2.mem ((c.tc : Thread Cert.QRefIdeal.nD Cert.QRefIdeal.τ).loc Cert.QRefIdeal.main_arg2) = m ((c.tc : Thread Cert.QRefIdeal.nD Cert.QRefIdeal.τ).loc Cert.QRefIdeal.main_arg2)
      ∧ r.2.mem ((c.tc : Thread Cert.QRefIdeal.nD Cert.QRefIdeal.τ).loc Cert.QRefIdeal.main_arg3) = m ((c.tc : Thread Cert.QRefIdeal.nD Cert.QRefIdeal.τ).loc Cert.QRefIdeal.main_arg3)
      ∧ r.2.mem ((c.tc : Thread Cert.QRefIdeal.nD Cert.QRefIdeal.τ).loc Cert.QRefIdeal.main_arg4) = m ((c.tc : Thread Cert.QRefIdeal.nD Cert.QRefIdeal.τ).loc Cert.QRefIdeal.main_arg4))
      ∧ r.2.sem = fun _ => 0)

def quiescent_QRefIdeal_pre_finite_weights [hQRefIdeal : Cert.QRefIdeal.Facts] [hPre_finite_weights : Cert.Pre_finite_weights.Facts] : Prop :=
  ∀ (m : (ℓ : Loc Cert.QRefIdeal.nD Cert.QRefIdeal.τ Cert.QRefIdeal.sig) → Buf (Elt Ideal) ℓ) (g : Dev Cert.QRefIdeal.nD → PrngReg), Pre_QRefIdeal_finite_weights m →
    θ_run (Cert.QRefIdeal.defs (F := Ideal)) (onTc (τ := Cert.QRefIdeal.τ) (Cert.QRefIdeal.main (F := Ideal))) ⟨m, fun _ => 0, g⟩ (fun r => (∀ c : Dev Cert.QRefIdeal.nD,
      r.2.mem ((c.tc : Thread Cert.QRefIdeal.nD Cert.QRefIdeal.τ).loc Cert.QRefIdeal.main_arg0) = m ((c.tc : Thread Cert.QRefIdeal.nD Cert.QRefIdeal.τ).loc Cert.QRefIdeal.main_arg0)
      ∧ r.2.mem ((c.tc : Thread Cert.QRefIdeal.nD Cert.QRefIdeal.τ).loc Cert.QRefIdeal.main_arg1) = m ((c.tc : Thread Cert.QRefIdeal.nD Cert.QRefIdeal.τ).loc Cert.QRefIdeal.main_arg1)
      ∧ r.2.mem ((c.tc : Thread Cert.QRefIdeal.nD Cert.QRefIdeal.τ).loc Cert.QRefIdeal.main_arg2) = m ((c.tc : Thread Cert.QRefIdeal.nD Cert.QRefIdeal.τ).loc Cert.QRefIdeal.main_arg2)
      ∧ r.2.mem ((c.tc : Thread Cert.QRefIdeal.nD Cert.QRefIdeal.τ).loc Cert.QRefIdeal.main_arg3) = m ((c.tc : Thread Cert.QRefIdeal.nD Cert.QRefIdeal.τ).loc Cert.QRefIdeal.main_arg3)
      ∧ r.2.mem ((c.tc : Thread Cert.QRefIdeal.nD Cert.QRefIdeal.τ).loc Cert.QRefIdeal.main_arg4) = m ((c.tc : Thread Cert.QRefIdeal.nD Cert.QRefIdeal.τ).loc Cert.QRefIdeal.main_arg4))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_FnetOut_FnetOutIdeal : Prop :=
  True

def algebraic_FnetOutIdeal_FnetOutRefIdeal [hFnetOutIdeal : Cert.FnetOutIdeal.Facts] [hFnetOutRefIdeal : Cert.FnetOutRefIdeal.Facts] : Prop :=
  ∀ (m : (ℓ : Loc Cert.FnetOutIdeal.nD Cert.FnetOutIdeal.τ Cert.FnetOutIdeal.sig) → Buf (Elt Ideal) ℓ) (g : Dev Cert.FnetOutIdeal.nD → PrngReg)
    (m' : (ℓ : Loc Cert.FnetOutRefIdeal.nD Cert.FnetOutRefIdeal.τ Cert.FnetOutRefIdeal.sig) → Buf (Elt Ideal) ℓ) (g' : Dev Cert.FnetOutRefIdeal.nD → PrngReg), Pre_FnetOutIdeal m →
    (∀ c : Dev Cert.FnetOutIdeal.nD,
      m' ((c.tc : Thread Cert.FnetOutRefIdeal.nD Cert.FnetOutRefIdeal.τ).loc Cert.FnetOutRefIdeal.main_arg0) = m ((c.tc : Thread Cert.FnetOutIdeal.nD Cert.FnetOutIdeal.τ).loc Cert.FnetOutIdeal.main_arg0)
      ∧ m' ((c.tc : Thread Cert.FnetOutRefIdeal.nD Cert.FnetOutRefIdeal.τ).loc Cert.FnetOutRefIdeal.main_arg1) = m ((c.tc : Thread Cert.FnetOutIdeal.nD Cert.FnetOutIdeal.τ).loc Cert.FnetOutIdeal.main_arg1)
      ∧ m' ((c.tc : Thread Cert.FnetOutRefIdeal.nD Cert.FnetOutRefIdeal.τ).loc Cert.FnetOutRefIdeal.main_arg2) = m ((c.tc : Thread Cert.FnetOutIdeal.nD Cert.FnetOutIdeal.τ).loc Cert.FnetOutIdeal.main_arg2)) →
    ∃ (v0 : (c : Dev Cert.FnetOutIdeal.nD) → Buf (Elt Ideal) ((c.tc : Thread Cert.FnetOutIdeal.nD Cert.FnetOutIdeal.τ).loc Cert.FnetOutIdeal.main_v4_0)) (v1 : (c : Dev Cert.FnetOutIdeal.nD) → Buf (Elt Ideal) ((c.tc : Thread Cert.FnetOutIdeal.nD Cert.FnetOutIdeal.τ).loc Cert.FnetOutIdeal.main_v4_1)),
      θ_run (Cert.FnetOutIdeal.defs (F := Ideal)) (onTc (τ := Cert.FnetOutIdeal.τ) (Cert.FnetOutIdeal.main (F := Ideal))) ⟨m, fun _ => 0, g⟩ (fun r => ∀ c : Dev Cert.FnetOutIdeal.nD,
          r.2.mem ((c.tc : Thread Cert.FnetOutIdeal.nD Cert.FnetOutIdeal.τ).loc Cert.FnetOutIdeal.main_v4_0) = v0 c
          ∧ r.2.mem ((c.tc : Thread Cert.FnetOutIdeal.nD Cert.FnetOutIdeal.τ).loc Cert.FnetOutIdeal.main_v4_1) = v1 c
          ∧ r.2.mem ((c.tc : Thread Cert.FnetOutIdeal.nD Cert.FnetOutIdeal.τ).loc Cert.FnetOutIdeal.main_arg0) = m ((c.tc : Thread Cert.FnetOutIdeal.nD Cert.FnetOutIdeal.τ).loc Cert.FnetOutIdeal.main_arg0)
          ∧ r.2.mem ((c.tc : Thread Cert.FnetOutIdeal.nD Cert.FnetOutIdeal.τ).loc Cert.FnetOutIdeal.main_arg1) = m ((c.tc : Thread Cert.FnetOutIdeal.nD Cert.FnetOutIdeal.τ).loc Cert.FnetOutIdeal.main_arg1)
          ∧ r.2.mem ((c.tc : Thread Cert.FnetOutIdeal.nD Cert.FnetOutIdeal.τ).loc Cert.FnetOutIdeal.main_arg2) = m ((c.tc : Thread Cert.FnetOutIdeal.nD Cert.FnetOutIdeal.τ).loc Cert.FnetOutIdeal.main_arg2))
      ∧ θ_run (Cert.FnetOutRefIdeal.defs (F := Ideal)) (onTc (τ := Cert.FnetOutRefIdeal.τ) (Cert.FnetOutRefIdeal.main (F := Ideal))) ⟨m', fun _ => 0, g'⟩ (fun r => ∀ c : Dev Cert.FnetOutRefIdeal.nD,
          r.2.mem ((c.tc : Thread Cert.FnetOutRefIdeal.nD Cert.FnetOutRefIdeal.τ).loc Cert.FnetOutRefIdeal.main_v3) = v0 c
          ∧ r.2.mem ((c.tc : Thread Cert.FnetOutRefIdeal.nD Cert.FnetOutRefIdeal.τ).loc Cert.FnetOutRefIdeal.main_v6) = v1 c
          ∧ r.2.mem ((c.tc : Thread Cert.FnetOutRefIdeal.nD Cert.FnetOutRefIdeal.τ).loc Cert.FnetOutRefIdeal.main_arg0) = m' ((c.tc : Thread Cert.FnetOutRefIdeal.nD Cert.FnetOutRefIdeal.τ).loc Cert.FnetOutRefIdeal.main_arg0)
          ∧ r.2.mem ((c.tc : Thread Cert.FnetOutRefIdeal.nD Cert.FnetOutRefIdeal.τ).loc Cert.FnetOutRefIdeal.main_arg1) = m' ((c.tc : Thread Cert.FnetOutRefIdeal.nD Cert.FnetOutRefIdeal.τ).loc Cert.FnetOutRefIdeal.main_arg1)
          ∧ r.2.mem ((c.tc : Thread Cert.FnetOutRefIdeal.nD Cert.FnetOutRefIdeal.τ).loc Cert.FnetOutRefIdeal.main_arg2) = m' ((c.tc : Thread Cert.FnetOutRefIdeal.nD Cert.FnetOutRefIdeal.τ).loc Cert.FnetOutRefIdeal.main_arg2))

def preserves_MlaOut_MlaOutIdeal : Prop :=
  True

def algebraic_MlaOutIdeal_MlaOutRefIdeal [hMlaOutIdeal : Cert.MlaOutIdeal.Facts] [hMlaOutRefIdeal : Cert.MlaOutRefIdeal.Facts] : Prop :=
  ∀ (m : (ℓ : Loc Cert.MlaOutIdeal.nD Cert.MlaOutIdeal.τ Cert.MlaOutIdeal.sig) → Buf (Elt Ideal) ℓ) (g : Dev Cert.MlaOutIdeal.nD → PrngReg)
    (m' : (ℓ : Loc Cert.MlaOutRefIdeal.nD Cert.MlaOutRefIdeal.τ Cert.MlaOutRefIdeal.sig) → Buf (Elt Ideal) ℓ) (g' : Dev Cert.MlaOutRefIdeal.nD → PrngReg), Pre_MlaOutIdeal m →
    (∀ c : Dev Cert.MlaOutIdeal.nD,
      m' ((c.tc : Thread Cert.MlaOutRefIdeal.nD Cert.MlaOutRefIdeal.τ).loc Cert.MlaOutRefIdeal.main_arg0) = m ((c.tc : Thread Cert.MlaOutIdeal.nD Cert.MlaOutIdeal.τ).loc Cert.MlaOutIdeal.main_arg0)
      ∧ m' ((c.tc : Thread Cert.MlaOutRefIdeal.nD Cert.MlaOutRefIdeal.τ).loc Cert.MlaOutRefIdeal.main_arg1) = m ((c.tc : Thread Cert.MlaOutIdeal.nD Cert.MlaOutIdeal.τ).loc Cert.MlaOutIdeal.main_arg1)) →
    ∃ (v0 : (c : Dev Cert.MlaOutIdeal.nD) → Buf (Elt Ideal) ((c.tc : Thread Cert.MlaOutIdeal.nD Cert.MlaOutIdeal.τ).loc Cert.MlaOutIdeal.main_v4)),
      θ_run (Cert.MlaOutIdeal.defs (F := Ideal)) (onTc (τ := Cert.MlaOutIdeal.τ) (Cert.MlaOutIdeal.main (F := Ideal))) ⟨m, fun _ => 0, g⟩ (fun r => ∀ c : Dev Cert.MlaOutIdeal.nD,
          r.2.mem ((c.tc : Thread Cert.MlaOutIdeal.nD Cert.MlaOutIdeal.τ).loc Cert.MlaOutIdeal.main_v4) = v0 c
          ∧ r.2.mem ((c.tc : Thread Cert.MlaOutIdeal.nD Cert.MlaOutIdeal.τ).loc Cert.MlaOutIdeal.main_arg0) = m ((c.tc : Thread Cert.MlaOutIdeal.nD Cert.MlaOutIdeal.τ).loc Cert.MlaOutIdeal.main_arg0)
          ∧ r.2.mem ((c.tc : Thread Cert.MlaOutIdeal.nD Cert.MlaOutIdeal.τ).loc Cert.MlaOutIdeal.main_arg1) = m ((c.tc : Thread Cert.MlaOutIdeal.nD Cert.MlaOutIdeal.τ).loc Cert.MlaOutIdeal.main_arg1))
      ∧ θ_run (Cert.MlaOutRefIdeal.defs (F := Ideal)) (onTc (τ := Cert.MlaOutRefIdeal.τ) (Cert.MlaOutRefIdeal.main (F := Ideal))) ⟨m', fun _ => 0, g'⟩ (fun r => ∀ c : Dev Cert.MlaOutRefIdeal.nD,
          r.2.mem ((c.tc : Thread Cert.MlaOutRefIdeal.nD Cert.MlaOutRefIdeal.τ).loc Cert.MlaOutRefIdeal.main_v4) = v0 c
          ∧ r.2.mem ((c.tc : Thread Cert.MlaOutRefIdeal.nD Cert.MlaOutRefIdeal.τ).loc Cert.MlaOutRefIdeal.main_arg0) = m' ((c.tc : Thread Cert.MlaOutRefIdeal.nD Cert.MlaOutRefIdeal.τ).loc Cert.MlaOutRefIdeal.main_arg0)
          ∧ r.2.mem ((c.tc : Thread Cert.MlaOutRefIdeal.nD Cert.MlaOutRefIdeal.τ).loc Cert.MlaOutRefIdeal.main_arg1) = m' ((c.tc : Thread Cert.MlaOutRefIdeal.nD Cert.MlaOutRefIdeal.τ).loc Cert.MlaOutRefIdeal.main_arg1))

def preserves_Scores_ScoresIdeal : Prop :=
  True

def algebraic_ScoresIdeal_ScoresRefIdeal_pre_finite_inputs [hScoresIdeal : Cert.ScoresIdeal.Facts] [hScoresRefIdeal : Cert.ScoresRefIdeal.Facts] [hPre_finite_inputs : Cert.Pre_finite_inputs.Facts] : Prop :=
  ∀ (m : (ℓ : Loc Cert.ScoresIdeal.nD Cert.ScoresIdeal.τ Cert.ScoresIdeal.sig) → Buf (Elt Ideal) ℓ) (g : Dev Cert.ScoresIdeal.nD → PrngReg)
    (m' : (ℓ : Loc Cert.ScoresRefIdeal.nD Cert.ScoresRefIdeal.τ Cert.ScoresRefIdeal.sig) → Buf (Elt Ideal) ℓ) (g' : Dev Cert.ScoresRefIdeal.nD → PrngReg), Pre_ScoresIdeal_finite_inputs m →
    (∀ c : Dev Cert.ScoresIdeal.nD,
      m' ((c.tc : Thread Cert.ScoresRefIdeal.nD Cert.ScoresRefIdeal.τ).loc Cert.ScoresRefIdeal.main_arg0) = m ((c.tc : Thread Cert.ScoresIdeal.nD Cert.ScoresIdeal.τ).loc Cert.ScoresIdeal.main_arg0)
      ∧ m' ((c.tc : Thread Cert.ScoresRefIdeal.nD Cert.ScoresRefIdeal.τ).loc Cert.ScoresRefIdeal.main_arg1) = m ((c.tc : Thread Cert.ScoresIdeal.nD Cert.ScoresIdeal.τ).loc Cert.ScoresIdeal.main_arg1)
      ∧ m' ((c.tc : Thread Cert.ScoresRefIdeal.nD Cert.ScoresRefIdeal.τ).loc Cert.ScoresRefIdeal.main_arg2) = m ((c.tc : Thread Cert.ScoresIdeal.nD Cert.ScoresIdeal.τ).loc Cert.ScoresIdeal.main_arg2)
      ∧ m' ((c.tc : Thread Cert.ScoresRefIdeal.nD Cert.ScoresRefIdeal.τ).loc Cert.ScoresRefIdeal.main_arg3) = m ((c.tc : Thread Cert.ScoresIdeal.nD Cert.ScoresIdeal.τ).loc Cert.ScoresIdeal.main_arg3)) →
    ∃ (v0 : (c : Dev Cert.ScoresIdeal.nD) → Buf (Elt Ideal) ((c.tc : Thread Cert.ScoresIdeal.nD Cert.ScoresIdeal.τ).loc Cert.ScoresIdeal.main_v6)),
      θ_run (Cert.ScoresIdeal.defs (F := Ideal)) (onTc (τ := Cert.ScoresIdeal.τ) (Cert.ScoresIdeal.main (F := Ideal))) ⟨m, fun _ => 0, g⟩ (fun r => ∀ c : Dev Cert.ScoresIdeal.nD,
          r.2.mem ((c.tc : Thread Cert.ScoresIdeal.nD Cert.ScoresIdeal.τ).loc Cert.ScoresIdeal.main_v6) = v0 c
          ∧ r.2.mem ((c.tc : Thread Cert.ScoresIdeal.nD Cert.ScoresIdeal.τ).loc Cert.ScoresIdeal.main_arg0) = m ((c.tc : Thread Cert.ScoresIdeal.nD Cert.ScoresIdeal.τ).loc Cert.ScoresIdeal.main_arg0)
          ∧ r.2.mem ((c.tc : Thread Cert.ScoresIdeal.nD Cert.ScoresIdeal.τ).loc Cert.ScoresIdeal.main_arg1) = m ((c.tc : Thread Cert.ScoresIdeal.nD Cert.ScoresIdeal.τ).loc Cert.ScoresIdeal.main_arg1)
          ∧ r.2.mem ((c.tc : Thread Cert.ScoresIdeal.nD Cert.ScoresIdeal.τ).loc Cert.ScoresIdeal.main_arg2) = m ((c.tc : Thread Cert.ScoresIdeal.nD Cert.ScoresIdeal.τ).loc Cert.ScoresIdeal.main_arg2)
          ∧ r.2.mem ((c.tc : Thread Cert.ScoresIdeal.nD Cert.ScoresIdeal.τ).loc Cert.ScoresIdeal.main_arg3) = m ((c.tc : Thread Cert.ScoresIdeal.nD Cert.ScoresIdeal.τ).loc Cert.ScoresIdeal.main_arg3))
      ∧ θ_run (Cert.ScoresRefIdeal.defs (F := Ideal)) (onTc (τ := Cert.ScoresRefIdeal.τ) (Cert.ScoresRefIdeal.main (F := Ideal))) ⟨m', fun _ => 0, g'⟩ (fun r => ∀ c : Dev Cert.ScoresRefIdeal.nD,
          r.2.mem ((c.tc : Thread Cert.ScoresRefIdeal.nD Cert.ScoresRefIdeal.τ).loc Cert.ScoresRefIdeal.main_v14) = v0 c
          ∧ r.2.mem ((c.tc : Thread Cert.ScoresRefIdeal.nD Cert.ScoresRefIdeal.τ).loc Cert.ScoresRefIdeal.main_arg0) = m' ((c.tc : Thread Cert.ScoresRefIdeal.nD Cert.ScoresRefIdeal.τ).loc Cert.ScoresRefIdeal.main_arg0)
          ∧ r.2.mem ((c.tc : Thread Cert.ScoresRefIdeal.nD Cert.ScoresRefIdeal.τ).loc Cert.ScoresRefIdeal.main_arg1) = m' ((c.tc : Thread Cert.ScoresRefIdeal.nD Cert.ScoresRefIdeal.τ).loc Cert.ScoresRefIdeal.main_arg1)
          ∧ r.2.mem ((c.tc : Thread Cert.ScoresRefIdeal.nD Cert.ScoresRefIdeal.τ).loc Cert.ScoresRefIdeal.main_arg2) = m' ((c.tc : Thread Cert.ScoresRefIdeal.nD Cert.ScoresRefIdeal.τ).loc Cert.ScoresRefIdeal.main_arg2)
          ∧ r.2.mem ((c.tc : Thread Cert.ScoresRefIdeal.nD Cert.ScoresRefIdeal.τ).loc Cert.ScoresRefIdeal.main_arg3) = m' ((c.tc : Thread Cert.ScoresRefIdeal.nD Cert.ScoresRefIdeal.τ).loc Cert.ScoresRefIdeal.main_arg3))

def preserves_MlaIn_MlaInIdeal : Prop :=
  True

def algebraic_MlaInIdeal_MlaInRefIdeal_pre_finite_factors [hMlaInIdeal : Cert.MlaInIdeal.Facts] [hMlaInRefIdeal : Cert.MlaInRefIdeal.Facts] [hPre_finite_factors : Cert.Pre_finite_factors.Facts] : Prop :=
  ∀ (m : (ℓ : Loc Cert.MlaInIdeal.nD Cert.MlaInIdeal.τ Cert.MlaInIdeal.sig) → Buf (Elt Ideal) ℓ) (g : Dev Cert.MlaInIdeal.nD → PrngReg)
    (m' : (ℓ : Loc Cert.MlaInRefIdeal.nD Cert.MlaInRefIdeal.τ Cert.MlaInRefIdeal.sig) → Buf (Elt Ideal) ℓ) (g' : Dev Cert.MlaInRefIdeal.nD → PrngReg), Pre_MlaInIdeal_finite_factors m →
    (∀ c : Dev Cert.MlaInIdeal.nD,
      m' ((c.tc : Thread Cert.MlaInRefIdeal.nD Cert.MlaInRefIdeal.τ).loc Cert.MlaInRefIdeal.main_arg0) = m ((c.tc : Thread Cert.MlaInIdeal.nD Cert.MlaInIdeal.τ).loc Cert.MlaInIdeal.main_arg0)
      ∧ m' ((c.tc : Thread Cert.MlaInRefIdeal.nD Cert.MlaInRefIdeal.τ).loc Cert.MlaInRefIdeal.main_arg1) = m ((c.tc : Thread Cert.MlaInIdeal.nD Cert.MlaInIdeal.τ).loc Cert.MlaInIdeal.main_arg1)) →
    ∃ (v0 : (c : Dev Cert.MlaInIdeal.nD) → Buf (Elt Ideal) ((c.tc : Thread Cert.MlaInIdeal.nD Cert.MlaInIdeal.τ).loc Cert.MlaInIdeal.main_v16)),
      θ_run (Cert.MlaInIdeal.defs (F := Ideal)) (onTc (τ := Cert.MlaInIdeal.τ) (Cert.MlaInIdeal.main (F := Ideal))) ⟨m, fun _ => 0, g⟩ (fun r => ∀ c : Dev Cert.MlaInIdeal.nD,
          r.2.mem ((c.tc : Thread Cert.MlaInIdeal.nD Cert.MlaInIdeal.τ).loc Cert.MlaInIdeal.main_v16) = v0 c
          ∧ r.2.mem ((c.tc : Thread Cert.MlaInIdeal.nD Cert.MlaInIdeal.τ).loc Cert.MlaInIdeal.main_arg0) = m ((c.tc : Thread Cert.MlaInIdeal.nD Cert.MlaInIdeal.τ).loc Cert.MlaInIdeal.main_arg0)
          ∧ r.2.mem ((c.tc : Thread Cert.MlaInIdeal.nD Cert.MlaInIdeal.τ).loc Cert.MlaInIdeal.main_arg1) = m ((c.tc : Thread Cert.MlaInIdeal.nD Cert.MlaInIdeal.τ).loc Cert.MlaInIdeal.main_arg1))
      ∧ θ_run (Cert.MlaInRefIdeal.defs (F := Ideal)) (onTc (τ := Cert.MlaInRefIdeal.τ) (Cert.MlaInRefIdeal.main (F := Ideal))) ⟨m', fun _ => 0, g'⟩ (fun r => ∀ c : Dev Cert.MlaInRefIdeal.nD,
          r.2.mem ((c.tc : Thread Cert.MlaInRefIdeal.nD Cert.MlaInRefIdeal.τ).loc Cert.MlaInRefIdeal.main_v14) = v0 c
          ∧ r.2.mem ((c.tc : Thread Cert.MlaInRefIdeal.nD Cert.MlaInRefIdeal.τ).loc Cert.MlaInRefIdeal.main_arg0) = m' ((c.tc : Thread Cert.MlaInRefIdeal.nD Cert.MlaInRefIdeal.τ).loc Cert.MlaInRefIdeal.main_arg0)
          ∧ r.2.mem ((c.tc : Thread Cert.MlaInRefIdeal.nD Cert.MlaInRefIdeal.τ).loc Cert.MlaInRefIdeal.main_arg1) = m' ((c.tc : Thread Cert.MlaInRefIdeal.nD Cert.MlaInRefIdeal.τ).loc Cert.MlaInRefIdeal.main_arg1))

def preserves_Q_QIdeal : Prop :=
  True

def algebraic_QIdeal_QRefIdeal_pre_finite_weights [hQIdeal : Cert.QIdeal.Facts] [hQRefIdeal : Cert.QRefIdeal.Facts] [hPre_finite_weights : Cert.Pre_finite_weights.Facts] : Prop :=
  ∀ (m : (ℓ : Loc Cert.QIdeal.nD Cert.QIdeal.τ Cert.QIdeal.sig) → Buf (Elt Ideal) ℓ) (g : Dev Cert.QIdeal.nD → PrngReg)
    (m' : (ℓ : Loc Cert.QRefIdeal.nD Cert.QRefIdeal.τ Cert.QRefIdeal.sig) → Buf (Elt Ideal) ℓ) (g' : Dev Cert.QRefIdeal.nD → PrngReg), Pre_QIdeal_finite_weights m →
    (∀ c : Dev Cert.QIdeal.nD,
      m' ((c.tc : Thread Cert.QRefIdeal.nD Cert.QRefIdeal.τ).loc Cert.QRefIdeal.main_arg0) = m ((c.tc : Thread Cert.QIdeal.nD Cert.QIdeal.τ).loc Cert.QIdeal.main_arg0)
      ∧ m' ((c.tc : Thread Cert.QRefIdeal.nD Cert.QRefIdeal.τ).loc Cert.QRefIdeal.main_arg1) = m ((c.tc : Thread Cert.QIdeal.nD Cert.QIdeal.τ).loc Cert.QIdeal.main_arg1)
      ∧ m' ((c.tc : Thread Cert.QRefIdeal.nD Cert.QRefIdeal.τ).loc Cert.QRefIdeal.main_arg2) = m ((c.tc : Thread Cert.QIdeal.nD Cert.QIdeal.τ).loc Cert.QIdeal.main_arg2)
      ∧ m' ((c.tc : Thread Cert.QRefIdeal.nD Cert.QRefIdeal.τ).loc Cert.QRefIdeal.main_arg3) = m ((c.tc : Thread Cert.QIdeal.nD Cert.QIdeal.τ).loc Cert.QIdeal.main_arg3)
      ∧ m' ((c.tc : Thread Cert.QRefIdeal.nD Cert.QRefIdeal.τ).loc Cert.QRefIdeal.main_arg4) = m ((c.tc : Thread Cert.QIdeal.nD Cert.QIdeal.τ).loc Cert.QIdeal.main_arg4)) →
    ∃ (v0 : (c : Dev Cert.QIdeal.nD) → Buf (Elt Ideal) ((c.tc : Thread Cert.QIdeal.nD Cert.QIdeal.τ).loc Cert.QIdeal.main_v39)),
      θ_run (Cert.QIdeal.defs (F := Ideal)) (onTc (τ := Cert.QIdeal.τ) (Cert.QIdeal.main (F := Ideal))) ⟨m, fun _ => 0, g⟩ (fun r => ∀ c : Dev Cert.QIdeal.nD,
          r.2.mem ((c.tc : Thread Cert.QIdeal.nD Cert.QIdeal.τ).loc Cert.QIdeal.main_v39) = v0 c
          ∧ r.2.mem ((c.tc : Thread Cert.QIdeal.nD Cert.QIdeal.τ).loc Cert.QIdeal.main_arg0) = m ((c.tc : Thread Cert.QIdeal.nD Cert.QIdeal.τ).loc Cert.QIdeal.main_arg0)
          ∧ r.2.mem ((c.tc : Thread Cert.QIdeal.nD Cert.QIdeal.τ).loc Cert.QIdeal.main_arg1) = m ((c.tc : Thread Cert.QIdeal.nD Cert.QIdeal.τ).loc Cert.QIdeal.main_arg1)
          ∧ r.2.mem ((c.tc : Thread Cert.QIdeal.nD Cert.QIdeal.τ).loc Cert.QIdeal.main_arg2) = m ((c.tc : Thread Cert.QIdeal.nD Cert.QIdeal.τ).loc Cert.QIdeal.main_arg2)
          ∧ r.2.mem ((c.tc : Thread Cert.QIdeal.nD Cert.QIdeal.τ).loc Cert.QIdeal.main_arg3) = m ((c.tc : Thread Cert.QIdeal.nD Cert.QIdeal.τ).loc Cert.QIdeal.main_arg3)
          ∧ r.2.mem ((c.tc : Thread Cert.QIdeal.nD Cert.QIdeal.τ).loc Cert.QIdeal.main_arg4) = m ((c.tc : Thread Cert.QIdeal.nD Cert.QIdeal.τ).loc Cert.QIdeal.main_arg4))
      ∧ θ_run (Cert.QRefIdeal.defs (F := Ideal)) (onTc (τ := Cert.QRefIdeal.τ) (Cert.QRefIdeal.main (F := Ideal))) ⟨m', fun _ => 0, g'⟩ (fun r => ∀ c : Dev Cert.QRefIdeal.nD,
          r.2.mem ((c.tc : Thread Cert.QRefIdeal.nD Cert.QRefIdeal.τ).loc Cert.QRefIdeal.main_v47) = v0 c
          ∧ r.2.mem ((c.tc : Thread Cert.QRefIdeal.nD Cert.QRefIdeal.τ).loc Cert.QRefIdeal.main_arg0) = m' ((c.tc : Thread Cert.QRefIdeal.nD Cert.QRefIdeal.τ).loc Cert.QRefIdeal.main_arg0)
          ∧ r.2.mem ((c.tc : Thread Cert.QRefIdeal.nD Cert.QRefIdeal.τ).loc Cert.QRefIdeal.main_arg1) = m' ((c.tc : Thread Cert.QRefIdeal.nD Cert.QRefIdeal.τ).loc Cert.QRefIdeal.main_arg1)
          ∧ r.2.mem ((c.tc : Thread Cert.QRefIdeal.nD Cert.QRefIdeal.τ).loc Cert.QRefIdeal.main_arg2) = m' ((c.tc : Thread Cert.QRefIdeal.nD Cert.QRefIdeal.τ).loc Cert.QRefIdeal.main_arg2)
          ∧ r.2.mem ((c.tc : Thread Cert.QRefIdeal.nD Cert.QRefIdeal.τ).loc Cert.QRefIdeal.main_arg3) = m' ((c.tc : Thread Cert.QRefIdeal.nD Cert.QRefIdeal.τ).loc Cert.QRefIdeal.main_arg3)
          ∧ r.2.mem ((c.tc : Thread Cert.QRefIdeal.nD Cert.QRefIdeal.τ).loc Cert.QRefIdeal.main_arg4) = m' ((c.tc : Thread Cert.QRefIdeal.nD Cert.QRefIdeal.τ).loc Cert.QRefIdeal.main_arg4))

def Claim : Prop :=
  ∃ (hKernel : Cert.Kernel.Facts) (hKernelIdeal : Cert.KernelIdeal.Facts) (hReferenceIdeal : Cert.ReferenceIdeal.Facts) (hFnetOut : Cert.FnetOut.Facts) (hFnetOutIdeal : Cert.FnetOutIdeal.Facts) (hFnetOutRefIdeal : Cert.FnetOutRefIdeal.Facts) (hMlaOut : Cert.MlaOut.Facts) (hMlaOutIdeal : Cert.MlaOutIdeal.Facts) (hMlaOutRefIdeal : Cert.MlaOutRefIdeal.Facts) (hScores : Cert.Scores.Facts) (hScoresIdeal : Cert.ScoresIdeal.Facts) (hScoresRefIdeal : Cert.ScoresRefIdeal.Facts) (hMlaIn : Cert.MlaIn.Facts) (hMlaInIdeal : Cert.MlaInIdeal.Facts) (hMlaInRefIdeal : Cert.MlaInRefIdeal.Facts) (hQ : Cert.Q.Facts) (hQIdeal : Cert.QIdeal.Facts) (hQRefIdeal : Cert.QRefIdeal.Facts) (hPre_finite_scores : Cert.Pre_finite_scores.Facts) (hPre_finite_inputs : Cert.Pre_finite_inputs.Facts) (hPre_finite_factors : Cert.Pre_finite_factors.Facts) (hPre_finite_weights : Cert.Pre_finite_weights.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_FnetOut (hFnetOut := hFnetOut)
    ∧ quiescent_FnetOutIdeal (hFnetOutIdeal := hFnetOutIdeal)
    ∧ quiescent_FnetOutRefIdeal (hFnetOutRefIdeal := hFnetOutRefIdeal)
    ∧ quiescent_MlaOut (hMlaOut := hMlaOut)
    ∧ quiescent_MlaOutIdeal (hMlaOutIdeal := hMlaOutIdeal)
    ∧ quiescent_MlaOutRefIdeal (hMlaOutRefIdeal := hMlaOutRefIdeal)
    ∧ quiescent_Scores (hScores := hScores)
    ∧ quiescent_ScoresIdeal (hScoresIdeal := hScoresIdeal)
    ∧ quiescent_ScoresIdeal_pre_finite_inputs (hScoresIdeal := hScoresIdeal) (hPre_finite_inputs := hPre_finite_inputs)
    ∧ quiescent_ScoresRefIdeal (hScoresRefIdeal := hScoresRefIdeal)
    ∧ quiescent_ScoresRefIdeal_pre_finite_inputs (hScoresRefIdeal := hScoresRefIdeal) (hPre_finite_inputs := hPre_finite_inputs)
    ∧ quiescent_MlaIn (hMlaIn := hMlaIn)
    ∧ quiescent_MlaInIdeal (hMlaInIdeal := hMlaInIdeal)
    ∧ quiescent_MlaInIdeal_pre_finite_factors (hMlaInIdeal := hMlaInIdeal) (hPre_finite_factors := hPre_finite_factors)
    ∧ quiescent_MlaInRefIdeal (hMlaInRefIdeal := hMlaInRefIdeal)
    ∧ quiescent_MlaInRefIdeal_pre_finite_factors (hMlaInRefIdeal := hMlaInRefIdeal) (hPre_finite_factors := hPre_finite_factors)
    ∧ quiescent_Q (hQ := hQ)
    ∧ quiescent_QIdeal (hQIdeal := hQIdeal)
    ∧ quiescent_QIdeal_pre_finite_weights (hQIdeal := hQIdeal) (hPre_finite_weights := hPre_finite_weights)
    ∧ quiescent_QRefIdeal (hQRefIdeal := hQRefIdeal)
    ∧ quiescent_QRefIdeal_pre_finite_weights (hQRefIdeal := hQRefIdeal) (hPre_finite_weights := hPre_finite_weights)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_FnetOut_FnetOutIdeal
    ∧ algebraic_FnetOutIdeal_FnetOutRefIdeal (hFnetOutIdeal := hFnetOutIdeal) (hFnetOutRefIdeal := hFnetOutRefIdeal)
    ∧ preserves_MlaOut_MlaOutIdeal
    ∧ algebraic_MlaOutIdeal_MlaOutRefIdeal (hMlaOutIdeal := hMlaOutIdeal) (hMlaOutRefIdeal := hMlaOutRefIdeal)
    ∧ preserves_Scores_ScoresIdeal
    ∧ algebraic_ScoresIdeal_ScoresRefIdeal_pre_finite_inputs (hScoresIdeal := hScoresIdeal) (hScoresRefIdeal := hScoresRefIdeal) (hPre_finite_inputs := hPre_finite_inputs)
    ∧ preserves_MlaIn_MlaInIdeal
    ∧ algebraic_MlaInIdeal_MlaInRefIdeal_pre_finite_factors (hMlaInIdeal := hMlaInIdeal) (hMlaInRefIdeal := hMlaInRefIdeal) (hPre_finite_factors := hPre_finite_factors)
    ∧ preserves_Q_QIdeal
    ∧ algebraic_QIdeal_QRefIdeal_pre_finite_weights (hQIdeal := hQIdeal) (hQRefIdeal := hQRefIdeal) (hPre_finite_weights := hPre_finite_weights)
-- ==== Pre_finite_factors.lean ====
abbrev S2x4096x4096 : Shape := ⟨3, ![2, 4096, 4096]⟩
abbrev S1x4096x1600 : Shape := ⟨3, ![1, 4096, 1600]⟩
abbrev S_ : Shape := ⟨0, ![]⟩

class Facts : Prop where
  bcast_S_S2x4096x4096 : S_.BroadcastsInDim S2x4096x4096 (![] : Fin 0 → Fin S2x4096x4096.rank)
  bcast_S_S1x4096x1600 : S_.BroadcastsInDim S1x4096x1600 (![] : Fin 0 → Fin S1x4096x1600.rank)

variable [Facts]

def fn {F : FTy → Type} [FloatOps F] (main_arg0 : FVec F S2x4096x4096 .f32) (main_arg1 : FVec F S1x4096x1600 .f32) : IVec S2x4096x4096 1 × IVec S1x4096x1600 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_v3 : FVec F S1x4096x1600 .f32 := Host.absf main_arg1
  let main_cst_0 : FVec F S_ .f32 := constant S_ .f32 0x7F800000#32
  let main_v4 : FVec F S1x4096x1600 .f32 := broadcastInDim S1x4096x1600 ![] bcast_S_S1x4096x1600 main_cst_0
  let main_v5 : IVec S1x4096x1600 1 := cmpf .olt main_v3 main_v4
  (main_v2, main_v5)
-- ==== Pre_finite_inputs.lean ====
abbrev S8192x4096 : Shape := ⟨2, ![8192, 4096]⟩
abbrev S4096x2048 : Shape := ⟨2, ![4096, 2048]⟩
abbrev S8x128x128 : Shape := ⟨3, ![8, 128, 128]⟩
abbrev S_ : Shape := ⟨0, ![]⟩

class Facts : Prop where
  bcast_S_S8192x4096 : S_.BroadcastsInDim S8192x4096 (![] : Fin 0 → Fin S8192x4096.rank)
  bcast_S_S4096x2048 : S_.BroadcastsInDim S4096x2048 (![] : Fin 0 → Fin S4096x2048.rank)
  bcast_S_S8x128x128 : S_.BroadcastsInDim S8x128x128 (![] : Fin 0 → Fin S8x128x128.rank)

variable [Facts]

def fn {F : FTy → Type} [FloatOps F] (main_arg0 : FVec F S8192x4096 .f32) (main_arg1 : FVec F S4096x2048 .f32) (main_arg2 : FVec F S8x128x128 .f32) (main_arg3 : FVec F S8x128x128 .f32) : IVec S8192x4096 1 × IVec S4096x2048 1 × IVec S8x128x128 1 × IVec S8x128x128 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_v3 : FVec F S4096x2048 .f32 := Host.absf main_arg1
  let main_cst_0 : FVec F S_ .f32 := constant S_ .f32 0x7F800000#32
  let main_v4 : FVec F S4096x2048 .f32 := broadcastInDim S4096x2048 ![] bcast_S_S4096x2048 main_cst_0
  let main_v5 : IVec S4096x2048 1 := cmpf .olt main_v3 main_v4
  let main_v6 : FVec F S8x128x128 .f32 := Host.absf main_arg2
  let main_cst_1 : FVec F S_ .f32 := constant S_ .f32 0x7F800000#32
  let main_v7 : FVec F S8x128x128 .f32 := broadcastInDim S8x128x128 ![] bcast_S_S8x128x128 main_cst_1
  let main_v8 : IVec S8x128x128 1 := cmpf .olt main_v6 main_v7
  let main_v9 : FVec F S8x128x128 .f32 := Host.absf main_arg3
  let main_cst_2 : FVec F S_ .f32 := constant S_ .f32 0x7F800000#32
  let main_v10 : FVec F S8x128x128 .f32 := broadcastInDim S8x128x128 ![] bcast_S_S8x128x128 main_cst_2
  let main_v11 : IVec S8x128x128 1 := cmpf .olt main_v9 main_v10
  (main_v2, main_v5, main_v8, main_v11)
-- ==== Pre_finite_scores.lean ====
abbrev S2x4096x32x128 : Shape := ⟨4, ![2, 4096, 32, 128]⟩
abbrev S2x4096x32x64 : Shape := ⟨4, ![2, 4096, 32, 64]⟩
abbrev S2x256x32x128 : Shape := ⟨4, ![2, 256, 32, 128]⟩
abbrev S2x256x64 : Shape := ⟨3, ![2, 256, 64]⟩
abbrev S2x4096x64 : Shape := ⟨3, ![2, 4096, 64]⟩
abbrev S_ : Shape := ⟨0, ![]⟩

class Facts : Prop where
  bcast_S_S2x4096x32x128 : S_.BroadcastsInDim S2x4096x32x128 (![] : Fin 0 → Fin S2x4096x32x128.rank)
  bcast_S_S2x4096x32x64 : S_.BroadcastsInDim S2x4096x32x64 (![] : Fin 0 → Fin S2x4096x32x64.rank)
  bcast_S_S2x256x32x128 : S_.BroadcastsInDim S2x256x32x128 (![] : Fin 0 → Fin S2x256x32x128.rank)
  bcast_S_S2x256x64 : S_.BroadcastsInDim S2x256x64 (![] : Fin 0 → Fin S2x256x64.rank)
  bcast_S_S2x4096x64 : S_.BroadcastsInDim S2x4096x64 (![] : Fin 0 → Fin S2x4096x64.rank)

variable [Facts]

def fn {F : FTy → Type} [FloatOps F] (main_arg0 : FVec F S2x4096x32x128 .f32) (main_arg1 : FVec F S2x4096x32x64 .f32) (main_arg2 : FVec F S2x256x32x128 .f32) (main_arg3 : FVec F S2x256x64 .f32) (main_arg4 : FVec F S2x256x32x128 .f32) (main_arg5 : FVec F S2x4096x32x128 .f32) (main_arg6 : FVec F S2x4096x64 .f32) (main_arg7 : FVec F S2x4096x32x128 .f32) : IVec S2x4096x32x128 1 × IVec S2x4096x32x64 1 × IVec S2x256x32x128 1 × IVec S2x256x64 1 × IVec S2x4096x32x128 1 × IVec S2x4096x64 1 :=
  let main_v0 : FVec F S2x4096x32x128 .f32 := Host.absf main_arg0
  let main_cst : FVec F S_ .f32 := constant S_ .f32 0x7F800000#32
  let main_v1 : FVec F S2x4096x32x128 .f32 := broadcastInDim S2x4096x32x128 ![] bcast_S_S2x4096x32x128 main_cst
  let main_v2 : IVec S2x4096x32x128 1 := cmpf .olt main_v0 main_v1
  let main_v3 : FVec F S2x4096x32x64 .f32 := Host.absf main_arg1
  let main_cst_0 : FVec F S_ .f32 := constant S_ .f32 0x7F800000#32
  let main_v4 : FVec F S2x4096x32x64 .f32 := broadcastInDim S2x4096x32x64 ![] bcast_S_S2x4096x32x64 main_cst_0
  let main_v5 : IVec S2x4096x32x64 1 := cmpf .olt main_v3 main_v4
  let main_v6 : FVec F S2x256x32x128 .f32 := Host.absf main_arg2
  let main_cst_1 : FVec F S_ .f32 := constant S_ .f32 0x7F800000#32
  let main_v7 : FVec F S2x256x32x128 .f32 := broadcastInDim S2x256x32x128 ![] bcast_S_S2x256x32x128 main_cst_1
  let main_v8 : IVec S2x256x32x128 1 := cmpf .olt main_v6 main_v7
  let main_v9 : FVec F S2x256x64 .f32 := Host.absf main_arg3
  let main_cst_2 : FVec F S_ .f32 := constant S_ .f32 0x7F800000#32
  let main_v10 : FVec F S2x256x64 .f32 := broadcastInDim S2x256x64 ![] bcast_S_S2x256x64 main_cst_2
  let main_v11 : IVec S2x256x64 1 := cmpf .olt main_v9 main_v10
  let main_v12 : FVec F S2x4096x32x128 .f32 := Host.absf main_arg5
  let main_cst_3 : FVec F S_ .f32 := constant S_ .f32 0x7F800000#32
  let main_v13 : FVec F S2x4096x32x128 .f32 := broadcastInDim S2x4096x32x128 ![] bcast_S_S2x4096x32x128 main_cst_3
  let main_v14 : IVec S2x4096x32x128 1 := cmpf .olt main_v12 main_v13
  let main_v15 : FVec F S2x4096x64 .f32 := Host.absf main_arg6
  let main_cst_4 : FVec F S_ .f32 := constant S_ .f32 0x7F800000#32
  let main_v16 : FVec F S2x4096x64 .f32 := broadcastInDim S2x4096x64 ![] bcast_S_S2x4096x64 main_cst_4
  let main_v17 : IVec S2x4096x64 1 := cmpf .olt main_v15 main_v16
  (main_v2, main_v5, main_v8, main_v11, main_v14, main_v17)
-- ==== Pre_finite_weights.lean ====
abbrev S2x4096x1600 : Shape := ⟨3, ![2, 4096, 1600]⟩
abbrev S1x1024 : Shape := ⟨2, ![1, 1024]⟩
abbrev S1x1024x6144 : Shape := ⟨3, ![1, 1024, 6144]⟩
abbrev S4096x2x16 : Shape := ⟨3, ![4096, 2, 16]⟩
abbrev S_ : Shape := ⟨0, ![]⟩

class Facts : Prop where
  bcast_S_S1x1024 : S_.BroadcastsInDim S1x1024 (![] : Fin 0 → Fin S1x1024.rank)
  bcast_S_S1x1024x6144 : S_.BroadcastsInDim S1x1024x6144 (![] : Fin 0 → Fin S1x1024x6144.rank)

variable [Facts]

def fn {F : FTy → Type} [FloatOps F] (main_arg0 : FVec F S2x4096x1600 .f32) (main_arg1 : FVec F S1x1024 .f32) (main_arg2 : FVec F S1x1024x6144 .f32) (main_arg3 : FVec F S4096x2x16 .f32) (main_arg4 : FVec F S4096x2x16 .f32) : IVec S1x1024 1 × IVec S1x1024x6144 1 :=
  let main_v0 : FVec F S1x1024 .f32 := Host.absf main_arg1
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S1x1024x6144 .f32 := Host.absf main_arg2
  let main_cst_0 : FVec F S_ .f32 := constant S_ .f32 0x7F800000#32
  let main_v4 : FVec F S1x1024x6144 .f32 := broadcastInDim S1x1024x6144 ![] bcast_S_S1x1024x6144 main_cst_0
  let main_v5 : IVec S1x1024x6144 1 := cmpf .olt main_v3 main_v4
  (main_v2, main_v5)
-- ==== Kernel.lean ====
abbrev S2x4096x32x128 : Shape := ⟨4, ![2, 4096, 32, 128]⟩
abbrev S2x4096x32x64 : Shape := ⟨4, ![2, 4096, 32, 64]⟩
abbrev S2x256x32x128 : Shape := ⟨4, ![2, 256, 32, 128]⟩
abbrev S2x256x64 : Shape := ⟨3, ![2, 256, 64]⟩
abbrev S2x4096x64 : Shape := ⟨3, ![2, 4096, 64]⟩
abbrev S2x4096x32x256 : Shape := ⟨4, ![2, 4096, 32, 256]⟩
abbrev S_ : Shape := ⟨0, ![]⟩
abbrev S8192x8192 : Shape := ⟨2, ![8192, 8192]⟩
abbrev S2x256x32x256 : Shape := ⟨4, ![2, 256, 32, 256]⟩
abbrev S512x8192 : Shape := ⟨2, ![512, 8192]⟩
abbrev S2x256x128 : Shape := ⟨3, ![2, 256, 128]⟩
abbrev S512x128 : Shape := ⟨2, ![512, 128]⟩
abbrev S2x4096x128 : Shape := ⟨3, ![2, 4096, 128]⟩
abbrev S8192x128 : Shape := ⟨2, ![8192, 128]⟩
abbrev S8192x4096 : Shape := ⟨2, ![8192, 4096]⟩
abbrev S4096x256 : Shape := ⟨2, ![4096, 256]⟩
abbrev S256x128 : Shape := ⟨2, ![256, 128]⟩
abbrev S4096x128 : Shape := ⟨2, ![4096, 128]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩
abbrev S1024x128 : Shape := ⟨2, ![1024, 128]⟩
abbrev S512x256 : Shape := ⟨2, ![512, 256]⟩
abbrev S1024x512 : Shape := ⟨2, ![1024, 512]⟩
abbrev S1x1024x128 : Shape := ⟨3, ![1, 1024, 128]⟩
abbrev S1 : Shape := ⟨1, ![1]⟩
abbrev S1x1x1 : Shape := ⟨3, ![1, 1, 1]⟩

abbrev nBuf : Space → Nat
  | .hbm => 34
  | .vmem => 16
  | .smem => 0
  | _ => 0

abbrev bufTy : (tb : Table) → Fin (tcTables nBuf tb) → BufTy
  | .hbm, ⟨0, _⟩ => ⟨S2x4096x32x128, .f32⟩
  | .hbm, ⟨1, _⟩ => ⟨S2x4096x32x64, .f32⟩
  | .hbm, ⟨2, _⟩ => ⟨S2x256x32x128, .f32⟩
  | .hbm, ⟨3, _⟩ => ⟨S2x256x64, .f32⟩
  | .hbm, ⟨4, _⟩ => ⟨S2x256x32x128, .f32⟩
  | .hbm, ⟨5, _⟩ => ⟨S2x4096x32x128, .f32⟩
  | .hbm, ⟨6, _⟩ => ⟨S2x4096x64, .f32⟩
  | .hbm, ⟨7, _⟩ => ⟨S2x4096x32x128, .f32⟩
  | .hbm, ⟨8, _⟩ => ⟨S2x4096x32x256, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S2x4096x32x256, .f32⟩
  | .hbm, ⟨14, _⟩ => ⟨S2x4096x32x256, .f32⟩
  | .hbm, ⟨15, _⟩ => ⟨S8192x8192, .f32⟩
  | .hbm, ⟨16, _⟩ => ⟨S8192x8192, .bf16⟩
  | .hbm, ⟨17, _⟩ => ⟨S2x256x32x256, .f32⟩
  | .hbm, ⟨18, _⟩ => ⟨S512x8192, .f32⟩
  | .hbm, ⟨19, _⟩ => ⟨S512x8192, .bf16⟩
  | .hbm, ⟨20, _⟩ => ⟨S2x4096x32x256, .f32⟩
  | .hbm, ⟨21, _⟩ => ⟨S8192x8192, .f32⟩
  | .hbm, ⟨22, _⟩ => ⟨S8192x8192, .bf16⟩
  | .hbm, ⟨23, _⟩ => ⟨S_, .f32⟩
  | .hbm, ⟨24, _⟩ => ⟨S2x256x64, .f32⟩
  | .hbm, ⟨25, _⟩ => ⟨S2x256x128, .f32⟩
  | .hbm, ⟨26, _⟩ => ⟨S512x128, .f32⟩
  | .hbm, ⟨27, _⟩ => ⟨S512x128, .bf16⟩
  | .hbm, ⟨28, _⟩ => ⟨S_, .f32⟩
  | .hbm, ⟨29, _⟩ => ⟨S2x4096x64, .f32⟩
  | .hbm, ⟨30, _⟩ => ⟨S2x4096x128, .f32⟩
  | .hbm, ⟨31, _⟩ => ⟨S8192x128, .f32⟩
  | .hbm, ⟨32, _⟩ => ⟨S8192x128, .bf16⟩
  | .hbm, ⟨33, _⟩ => ⟨S8192x4096, .bf16⟩
  | .local _ .vmem, ⟨0, _⟩ => ⟨S4096x256, .bf16⟩
  | .local _ .vmem, ⟨1, _⟩ => ⟨S4096x256, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S256x128, .bf16⟩
  | .local _ .vmem, ⟨7, _⟩ => ⟨S256x128, .bf16⟩
  | .local _ .vmem, ⟨8, _⟩ => ⟨S4096x128, .bf16⟩
  | .local _ .vmem, ⟨9, _⟩ => ⟨S4096x128, .bf16⟩
  | .local _ .vmem, ⟨10, _⟩ => ⟨S4096x128, .bf16⟩
  | .local _ .vmem, ⟨11, _⟩ => ⟨S4096x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | _, _ => ⟨S2x4096x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32 : BitVec 32 := 0#32
  let c4_i32 : BitVec 32 := 4#32
  let v0 : BitVec 32 := Scalar.addi c0_i32 c4_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c1024_i32 : BitVec 32 := 1024#32
  let v1 : BitVec 32 := Scalar.muli arg10 c1024_i32
  v1
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c1024_i32 : BitVec 32 := 1024#32
  let v1 : BitVec 32 := Scalar.muli arg10 c1024_i32
  let v2 : BitVec 32 := v1
  let v3 : Index := Scalar.indexCast v2
  let c0 : Index := 0#32
  ![v3.toNat, 0]
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c1024_i32 : BitVec 32 := 1024#32
  let v1 : BitVec 32 := Scalar.muli arg10 c1024_i32
  let v2 : BitVec 32 := v1
  let v228 : Index := Scalar.indexCast v2
  let c0_76 : Index := 0#32
  ![v228.toNat, 0]
def k0_off3 (k0_t1 : Fin k0_t1_loop.trips) : Fin 2 → Nat :=
  let c0_i32 : BitVec 32 := 0#32
  let c1_i32 : BitVec 32 := 1#32
  let arg10 : BitVec 32 := Scf.iv c0_i32 c1_i32 k0_t1
  let c1024_i32 : BitVec 32 := 1024#32
  let v1 : BitVec 32 := Scalar.muli arg10 c1024_i32
  let v2 : BitVec 32 := v1
  let v465 : Index := Scalar.indexCast v2
  let c0_172 : Index := 0#32
  ![v465.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  ![arg0.toNat, v1.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  ![arg0.toNat, v1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S2x4096x32x128 : Shape := ⟨4, ![2, 4096, 32, 128]⟩
abbrev S2x4096x32x64 : Shape := ⟨4, ![2, 4096, 32, 64]⟩
abbrev S2x256x32x128 : Shape := ⟨4, ![2, 256, 32, 128]⟩
abbrev S2x256x64 : Shape := ⟨3, ![2, 256, 64]⟩
abbrev S2x4096x64 : Shape := ⟨3, ![2, 4096, 64]⟩
abbrev S2x4352x32x128 : Shape := ⟨4, ![2, 4352, 32, 128]⟩
abbrev S2x4352x64 : Shape := ⟨3, ![2, 4352, 64]⟩
abbrev S2x32x4096x4352 : Shape := ⟨4, ![2, 32, 4096, 4352]⟩
abbrev S2x4352x4096x32 : Shape := ⟨4, ![2, 4352, 4096, 32]⟩
abbrev S_ : Shape := ⟨0, ![]⟩
abbrev S2x32x4096 : Shape := ⟨3, ![2, 32, 4096]⟩
abbrev S2x32x4096x1 : Shape := ⟨4, ![2, 32, 4096, 1]⟩
abbrev S2x32x128x4096 : Shape := ⟨4, ![2, 32, 128, 4096]⟩
abbrev S8192x4096 : Shape := ⟨2, ![8192, 4096]⟩

abbrev nBuf : Space → Nat
  | .hbm => 36
  | .vmem => 0
  | .smem => 0
  | _ => 0

abbrev bufTy : (tb : Table) → Fin (tcTables nBuf tb) → BufTy
  | .hbm, ⟨0, _⟩ => ⟨S2x4096x32x128, .f32⟩
  | .hbm, ⟨1, _⟩ => ⟨S2x4096x32x64, .f32⟩
  | .hbm, ⟨2, _⟩ => ⟨S2x256x32x128, .f32⟩
  | .hbm, ⟨3, _⟩ => ⟨S2x256x64, .f32⟩
  | .hbm, ⟨4, _⟩ => ⟨S2x256x32x128, .f32⟩
  | .hbm, ⟨5, _⟩ => ⟨S2x4096x32x128, .f32⟩
  | .hbm, ⟨6, _⟩ => ⟨S2x4096x64, .f32⟩
  | .hbm, ⟨7, _⟩ => ⟨S2x4096x32x128, .f32⟩
  | .hbm, ⟨8, _⟩ => ⟨S2x4352x32x128, .f32⟩
  | .hbm, ⟨9, _⟩ => ⟨S2x4352x64, .f32⟩
  | .hbm, ⟨10, _⟩ => ⟨S2x4352x32x128, .f32⟩
  | .hbm, ⟨11, _⟩ => ⟨S2x32x4096x4352, .f32⟩
  | .hbm, ⟨12, _⟩ => ⟨S2x4352x4096x32, .f32⟩
  | .hbm, ⟨13, _⟩ => ⟨S2x32x4096x4352, .f32⟩
  | .hbm, ⟨14, _⟩ => ⟨S2x32x4096x4352, .f32⟩
  | .hbm, ⟨15, _⟩ => ⟨S_, .f32⟩
  | .hbm, ⟨16, _⟩ => ⟨S2x32x4096x4352, .f32⟩
  | .hbm, ⟨17, _⟩ => ⟨S2x32x4096x4352, .f32⟩
  | .hbm, ⟨18, _⟩ => ⟨S_, .f32⟩
  | .hbm, ⟨19, _⟩ => ⟨S2x32x4096, .f32⟩
  | .hbm, ⟨20, _⟩ => ⟨S_, .f32⟩
  | .hbm, ⟨21, _⟩ => ⟨S2x32x4096, .f32⟩
  | .hbm, ⟨22, _⟩ => ⟨S2x32x4096, .f32⟩
  | .hbm, ⟨23, _⟩ => ⟨S2x32x4096x1, .f32⟩
  | .hbm, ⟨24, _⟩ => ⟨S2x32x4096x4352, .f32⟩
  | .hbm, ⟨25, _⟩ => ⟨S2x32x4096x4352, .f32⟩
  | .hbm, ⟨26, _⟩ => ⟨S2x32x4096x4352, .f32⟩
  | .hbm, ⟨27, _⟩ => ⟨S_, .f32⟩
  | .hbm, ⟨28, _⟩ => ⟨S2x32x4096, .f32⟩
  | .hbm, ⟨29, _⟩ => ⟨S2x32x4096x1, .f32⟩
  | .hbm, ⟨30, _⟩ => ⟨S2x32x4096x4352, .f32⟩
  | .hbm, ⟨31, _⟩ => ⟨S2x32x4096x4352, .f32⟩
  | .hbm, ⟨32, _⟩ => ⟨S2x32x128x4096, .f32⟩
  | .hbm, ⟨33, _⟩ => ⟨S2x4096x32x128, .f32⟩
  | .hbm, ⟨34, _⟩ => ⟨S8192x4096, .f32⟩
  | .hbm, ⟨35, _⟩ => ⟨S8192x4096, .bf16⟩
  | _, _ => ⟨S2x4096x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]
-- ==== FnetOut.lean ====
abbrev S2x4096x4096 : Shape := ⟨3, ![2, 4096, 4096]⟩
abbrev S1x4096x4096 : Shape := ⟨3, ![1, 4096, 4096]⟩
abbrev S2x16384x4096 : Shape := ⟨3, ![2, 16384, 4096]⟩
abbrev S8192x4096 : Shape := ⟨2, ![8192, 4096]⟩
abbrev S4096x4096 : Shape := ⟨2, ![4096, 4096]⟩
abbrev S16384x4096 : Shape := ⟨2, ![16384, 4096]⟩
abbrev S512x4096 : Shape := ⟨2, ![512, 4096]⟩
abbrev S4096x1024 : Shape := ⟨2, ![4096, 1024]⟩
abbrev S1x256x4096 : Shape := ⟨3, ![1, 256, 4096]⟩
abbrev S512x1024 : Shape := ⟨2, ![512, 1024]⟩
abbrev S256x4096 : Shape := ⟨2, ![256, 4096]⟩

abbrev nBuf : Space → Nat
  | .hbm => 9
  | .vmem => 10
  | .smem => 0
  | _ => 0

abbrev bufTy : (tb : Table) → Fin (tcTables nBuf tb) → BufTy
  | .hbm, ⟨0, _⟩ => ⟨S2x4096x4096, .f32⟩
  | .hbm, ⟨1, _⟩ => ⟨S1x4096x4096, .f32⟩
  | .hbm, ⟨2, _⟩ => ⟨S2x16384x4096, .f32⟩
  | .hbm, ⟨3, _⟩ => ⟨S8192x4096, .f32⟩
  | .hbm, ⟨4, _⟩ => ⟨S8192x4096, .bf16⟩
  | .hbm, ⟨5, _⟩ => ⟨S4096x4096, .f32⟩
  | .hbm, ⟨6, _⟩ => ⟨S4096x4096, .bf16⟩
  | .hbm, ⟨7, _⟩ => ⟨S8192x4096, .bf16⟩
  | .hbm, ⟨8, _⟩ => ⟨S16384x4096, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x256x4096, .f32⟩
  | .local _ .vmem, ⟨5, _⟩ => ⟨S1x256x4096, .f32⟩
  | .local _ .vmem, ⟨6, _⟩ => ⟨S512x1024, .bf16⟩
  | .local _ .vmem, ⟨7, _⟩ => ⟨S512x1024, .bf16⟩
  | .local _ .vmem, ⟨8, _⟩ => ⟨S256x4096, .bf16⟩
  | .local _ .vmem, ⟨9, _⟩ => ⟨S256x4096, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FnetOutRefIdeal.lean ====
abbrev S2x4096x4096 : Shape := ⟨3, ![2, 4096, 4096]⟩
abbrev S1x4096x4096 : Shape := ⟨3, ![1, 4096, 4096]⟩
abbrev S2x16384x4096 : Shape := ⟨3, ![2, 16384, 4096]⟩
abbrev S4096x4096 : Shape := ⟨2, ![4096, 4096]⟩
abbrev S8192x4096 : Shape := ⟨2, ![8192, 4096]⟩
abbrev S1x16384x4096 : Shape := ⟨3, ![1, 16384, 4096]⟩
abbrev S16384x4096 : Shape := ⟨2, ![16384, 4096]⟩

abbrev nBuf : Space → Nat
  | .hbm => 10
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S1x4096x4096, .f32⟩
  | .hbm, ⟨2, _⟩ => ⟨S2x16384x4096, .f32⟩
  | .hbm, ⟨3, _⟩ => ⟨S4096x4096, .f32⟩
  | .hbm, ⟨4, _⟩ => ⟨S2x4096x4096, .f32⟩
  | .hbm, ⟨5, _⟩ => ⟨S8192x4096, .f32⟩
  | .hbm, ⟨6, _⟩ => ⟨S8192x4096, .bf16⟩
  | .hbm, ⟨7, _⟩ => ⟨S1x16384x4096, .f32⟩
  | .hbm, ⟨8, _⟩ => ⟨S16384x4096, .f32⟩
  | .hbm, ⟨9, _⟩ => ⟨S16384x4096, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MlaOut.lean ====
abbrev S2x4096x32x128 : Shape := ⟨4, ![2, 4096, 32, 128]⟩
abbrev S1x4096x4096 : Shape := ⟨3, ![1, 4096, 4096]⟩
abbrev S8192x4096 : Shape := ⟨2, ![8192, 4096]⟩
abbrev S4096x4096 : Shape := ⟨2, ![4096, 4096]⟩
abbrev S512x4096 : Shape := ⟨2, ![512, 4096]⟩
abbrev S4096x1024 : Shape := ⟨2, ![4096, 1024]⟩
abbrev S512x1024 : Shape := ⟨2, ![512, 1024]⟩

abbrev nBuf : Space → Nat
  | .hbm => 7
  | .vmem => 6
  | .smem => 0
  | _ => 0

abbrev bufTy : (tb : Table) → Fin (tcTables nBuf tb) → BufTy
  | .hbm, ⟨0, _⟩ => ⟨S2x4096x32x128, .f32⟩
  | .hbm, ⟨1, _⟩ => ⟨S1x4096x4096, .f32⟩
  | .hbm, ⟨2, _⟩ => ⟨S8192x4096, .f32⟩
  | .hbm, ⟨3, _⟩ => ⟨S8192x4096, .bf16⟩
  | .hbm, ⟨4, _⟩ => ⟨S4096x4096, .f32⟩
  | .hbm, ⟨5, _⟩ => ⟨S4096x4096, .bf16⟩
  | .hbm, ⟨6, _⟩ => ⟨S8192x4096, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S2x4096x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MlaOutRefIdeal.lean ====
abbrev S2x4096x32x128 : Shape := ⟨4, ![2, 4096, 32, 128]⟩
abbrev S1x4096x4096 : Shape := ⟨3, ![1, 4096, 4096]⟩
abbrev S2x4096x4096 : Shape := ⟨3, ![2, 4096, 4096]⟩
abbrev S4096x4096 : Shape := ⟨2, ![4096, 4096]⟩
abbrev S8192x4096 : Shape := ⟨2, ![8192, 4096]⟩

abbrev nBuf : Space → Nat
  | .hbm => 7
  | .vmem => 0
  | .smem => 0
  | _ => 0

abbrev bufTy : (tb : Table) → Fin (tcTables nBuf tb) → BufTy
  | .hbm, ⟨0, _⟩ => ⟨S2x4096x32x128, .f32⟩
  | .hbm, ⟨1, _⟩ => ⟨S1x4096x4096, .f32⟩
  | .hbm, ⟨2, _⟩ => ⟨S2x4096x4096, .f32⟩
  | .hbm, ⟨3, _⟩ => ⟨S4096x4096, .f32⟩
  | .hbm, ⟨4, _⟩ => ⟨S2x4096x4096, .f32⟩
  | .hbm, ⟨5, _⟩ => ⟨S8192x4096, .f32⟩
  | .hbm, ⟨6, _⟩ => ⟨S8192x4096, .bf16⟩
  | _, _ => ⟨S2x4096x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Scores.lean ====
abbrev S8192x4096 : Shape := ⟨2, ![8192, 4096]⟩
abbrev S4096x2048 : Shape := ⟨2, ![4096, 2048]⟩
abbrev S8x128x128 : Shape := ⟨3, ![8, 128, 128]⟩
abbrev S8x1x128x128 : Shape := ⟨4, ![8, 1, 128, 128]⟩
abbrev S8x2x128x128 : Shape := ⟨4, ![8, 2, 128, 128]⟩
abbrev S16x128x128 : Shape := ⟨3, ![16, 128, 128]⟩
abbrev S16x128x8192 : Shape := ⟨3, ![16, 128, 8192]⟩
abbrev S512x4096 : Shape := ⟨2, ![512, 4096]⟩
abbrev S4096x1024 : Shape := ⟨2, ![4096, 1024]⟩
abbrev S8x128x512 : Shape := ⟨3, ![8, 128, 512]⟩
abbrev S512x1024 : Shape := ⟨2, ![512, 1024]⟩
abbrev S1x128x128 : Shape := ⟨3, ![1, 128, 128]⟩
abbrev S128x128 : Shape := ⟨2, ![128, 128]⟩
abbrev S512x128 : Shape := ⟨2, ![512, 128]⟩
abbrev S128x512 : Shape := ⟨2, ![128, 512]⟩
abbrev S1x128x512 : Shape := ⟨3, ![1, 128, 512]⟩

abbrev nBuf : Space → Nat
  | .hbm => 11
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096x2048, .f32⟩
  | .hbm, ⟨2, _⟩ => ⟨S8x128x128, .f32⟩
  | .hbm, ⟨3, _⟩ => ⟨S8x128x128, .f32⟩
  | .hbm, ⟨4, _⟩ => ⟨S8x1x128x128, .f32⟩
  | .hbm, ⟨5, _⟩ => ⟨S8x1x128x128, .f32⟩
  | .hbm, ⟨6, _⟩ => ⟨S8x2x128x128, .f32⟩
  | .hbm, ⟨7, _⟩ => ⟨S16x128x128, .f32⟩
  | .hbm, ⟨8, _⟩ => ⟨S8192x4096, .bf16⟩
  | .hbm, ⟨9, _⟩ => ⟨S4096x2048, .bf16⟩
  | .hbm, ⟨10, _⟩ => ⟨S16x128x8192, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S8x128x128, .f32⟩
  | .local _ .vmem, ⟨5, _⟩ => ⟨S8x128x128, .f32⟩
  | .local _ .vmem, ⟨6, _⟩ => ⟨S8x128x512, .f32⟩
  | .local _ .vmem, ⟨7, _⟩ => ⟨S8x128x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ScoresRefIdeal.lean ====
abbrev S8192x4096 : Shape := ⟨2, ![8192, 4096]⟩
abbrev S4096x2048 : Shape := ⟨2, ![4096, 2048]⟩
abbrev S8x128x128 : Shape := ⟨3, ![8, 128, 128]⟩
abbrev S8192x2048 : Shape := ⟨2, ![8192, 2048]⟩
abbrev S8192x8x2x128 : Shape := ⟨4, ![8192, 8, 2, 128]⟩
abbrev S8192x8x1x128 : Shape := ⟨4, ![8192, 8, 1, 128]⟩
abbrev S8192x8x128 : Shape := ⟨3, ![8192, 8, 128]⟩
abbrev S8x128x8192 : Shape := ⟨3, ![8, 128, 8192]⟩
abbrev S8192x16x128 : Shape := ⟨3, ![8192, 16, 128]⟩
abbrev S16x128x8192 : Shape := ⟨3, ![16, 128, 8192]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x2048, .f32⟩
  | .hbm, ⟨2, _⟩ => ⟨S8x128x128, .f32⟩
  | .hbm, ⟨3, _⟩ => ⟨S8x128x128, .f32⟩
  | .hbm, ⟨4, _⟩ => ⟨S8192x2048, .f32⟩
  | .hbm, ⟨5, _⟩ => ⟨S8192x8x2x128, .f32⟩
  | .hbm, ⟨6, _⟩ => ⟨S8192x8x1x128, .f32⟩
  | .hbm, ⟨7, _⟩ => ⟨S8192x8x128, .f32⟩
  | .hbm, ⟨8, _⟩ => ⟨S8x128x8192, .f32⟩
  | .hbm, ⟨9, _⟩ => ⟨S8192x8x128, .f32⟩
  | .hbm, ⟨10, _⟩ => ⟨S8192x8x1x128, .f32⟩
  | .hbm, ⟨11, _⟩ => ⟨S8192x8x128, .f32⟩
  | .hbm, ⟨12, _⟩ => ⟨S8x128x8192, .f32⟩
  | .hbm, ⟨13, _⟩ => ⟨S8192x8x128, .f32⟩
  | .hbm, ⟨14, _⟩ => ⟨S8192x8x1x128, .f32⟩
  | .hbm, ⟨15, _⟩ => ⟨S8192x8x1x128, .f32⟩
  | .hbm, ⟨16, _⟩ => ⟨S8192x8x2x128, .f32⟩
  | .hbm, ⟨17, _⟩ => ⟨S8192x16x128, .f32⟩
  | .hbm, ⟨18, _⟩ => ⟨S16x128x8192, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== MlaIn.lean ====
abbrev S2x4096x4096 : Shape := ⟨3, ![2, 4096, 4096]⟩
abbrev S1x4096x1600 : Shape := ⟨3, ![1, 4096, 1600]⟩
abbrev S4096x1600 : Shape := ⟨2, ![4096, 1600]⟩
abbrev S4096x64 : Shape := ⟨2, ![4096, 64]⟩
abbrev S4096x2x2x16 : Shape := ⟨4, ![4096, 2, 2, 16]⟩
abbrev S4096x2x1x16 : Shape := ⟨4, ![4096, 2, 1, 16]⟩
abbrev S4096x2x16 : Shape := ⟨3, ![4096, 2, 16]⟩
abbrev S4096x1664 : Shape := ⟨2, ![4096, 1664]⟩
abbrev S8192x4096 : Shape := ⟨2, ![8192, 4096]⟩
abbrev S8192x1664 : Shape := ⟨2, ![8192, 1664]⟩
abbrev S512x4096 : Shape := ⟨2, ![512, 4096]⟩
abbrev S512x1664 : Shape := ⟨2, ![512, 1664]⟩

abbrev nBuf : Space → Nat
  | .hbm => 19
  | .vmem => 5
  | .smem => 0
  | _ => 0

abbrev bufTy : (tb : Table) → Fin (tcTables nBuf tb) → BufTy
  | .hbm, ⟨0, _⟩ => ⟨S2x4096x4096, .f32⟩
  | .hbm, ⟨1, _⟩ => ⟨S1x4096x1600, .f32⟩
  | .hbm, ⟨2, _⟩ => ⟨S4096x1600, .f32⟩
  | .hbm, ⟨3, _⟩ => ⟨S4096x64, .f32⟩
  | .hbm, ⟨4, _⟩ => ⟨S4096x2x2x16, .f32⟩
  | .hbm, ⟨5, _⟩ => ⟨S4096x2x1x16, .f32⟩
  | .hbm, ⟨6, _⟩ => ⟨S4096x2x16, .f32⟩
  | .hbm, ⟨7, _⟩ => ⟨S4096x2x16, .f32⟩
  | .hbm, ⟨8, _⟩ => ⟨S4096x2x1x16, .f32⟩
  | .hbm, ⟨9, _⟩ => ⟨S4096x2x16, .f32⟩
  | .hbm, ⟨10, _⟩ => ⟨S4096x2x1x16, .f32⟩
  | .hbm, ⟨11, _⟩ => ⟨S4096x2x1x16, .f32⟩
  | .hbm, ⟨12, _⟩ => ⟨S4096x2x2x16, .f32⟩
  | .hbm, ⟨13, _⟩ => ⟨S4096x64, .f32⟩
  | .hbm, ⟨14, _⟩ => ⟨S4096x1664, .f32⟩
  | .hbm, ⟨15, _⟩ => ⟨S4096x1664, .bf16⟩
  | .hbm, ⟨16, _⟩ => ⟨S8192x4096, .f32⟩
  | .hbm, ⟨17, _⟩ => ⟨S8192x4096, .bf16⟩
  | .hbm, ⟨18, _⟩ => ⟨S8192x1664, .f32⟩
  | .local _ .vmem, ⟨0, _⟩ => ⟨S512x4096, .bf16⟩
  | .local _ .vmem, ⟨1, _⟩ => ⟨S512x4096, .bf16⟩
  | .local _ .vmem, ⟨2, _⟩ => ⟨S4096x1664, .bf16⟩
  | .local _ .vmem, ⟨3, _⟩ => ⟨S512x1664, .f32⟩
  | .local _ .vmem, ⟨4, _⟩ => ⟨S512x1664, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1664 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MlaInRefIdeal.lean ====
abbrev S2x4096x4096 : Shape := ⟨3, ![2, 4096, 4096]⟩
abbrev S1x4096x1600 : Shape := ⟨3, ![1, 4096, 1600]⟩
abbrev S4096x1600 : Shape := ⟨2, ![4096, 1600]⟩
abbrev S2x4096x1600 : Shape := ⟨3, ![2, 4096, 1600]⟩
abbrev S2x4096x64 : Shape := ⟨3, ![2, 4096, 64]⟩
abbrev S2x4096x2x2x16 : Shape := ⟨5, ![2, 4096, 2, 2, 16]⟩
abbrev S2x4096x2x1x16 : Shape := ⟨5, ![2, 4096, 2, 1, 16]⟩
abbrev S2x4096x2x16 : Shape := ⟨4, ![2, 4096, 2, 16]⟩
abbrev S2x4096x1664 : Shape := ⟨3, ![2, 4096, 1664]⟩
abbrev S8192x1664 : Shape := ⟨2, ![8192, 1664]⟩

abbrev nBuf : Space → Nat
  | .hbm => 17
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S1x4096x1600, .f32⟩
  | .hbm, ⟨2, _⟩ => ⟨S4096x1600, .f32⟩
  | .hbm, ⟨3, _⟩ => ⟨S2x4096x1600, .f32⟩
  | .hbm, ⟨4, _⟩ => ⟨S2x4096x64, .f32⟩
  | .hbm, ⟨5, _⟩ => ⟨S2x4096x2x2x16, .f32⟩
  | .hbm, ⟨6, _⟩ => ⟨S2x4096x2x1x16, .f32⟩
  | .hbm, ⟨7, _⟩ => ⟨S2x4096x2x16, .f32⟩
  | .hbm, ⟨8, _⟩ => ⟨S2x4096x2x1x16, .f32⟩
  | .hbm, ⟨9, _⟩ => ⟨S2x4096x2x16, .f32⟩
  | .hbm, ⟨10, _⟩ => ⟨S2x4096x2x16, .f32⟩
  | .hbm, ⟨11, _⟩ => ⟨S2x4096x2x1x16, .f32⟩
  | .hbm, ⟨12, _⟩ => ⟨S2x4096x2x1x16, .f32⟩
  | .hbm, ⟨13, _⟩ => ⟨S2x4096x2x2x16, .f32⟩
  | .hbm, ⟨14, _⟩ => ⟨S2x4096x64, .f32⟩
  | .hbm, ⟨15, _⟩ => ⟨S2x4096x1664, .f32⟩
  | .hbm, ⟨16, _⟩ => ⟨S8192x1664, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩

abbrev nD : Nat := 1
abbrev τ : Topo := Topo.v7x

variable {F : FTy → Type} [FloatOps F]
-- ==== Q.lean ====
abbrev S2x4096x1600 : Shape := ⟨3, ![2, 4096, 1600]⟩
abbrev S1x1024 : Shape := ⟨2, ![1, 1024]⟩
abbrev S1x1024x6144 : Shape := ⟨3, ![1, 1024, 6144]⟩
abbrev S4096x2x16 : Shape := ⟨3, ![4096, 2, 16]⟩
abbrev S1024x6144 : Shape := ⟨2, ![1024, 6144]⟩
abbrev S1024x32x192 : Shape := ⟨3, ![1024, 32, 192]⟩
abbrev S1024x32x64 : Shape := ⟨3, ![1024, 32, 64]⟩
abbrev S1024x32x2x2x16 : Shape := ⟨5, ![1024, 32, 2, 2, 16]⟩
abbrev S1024x32x2x1x16 : Shape := ⟨5, ![1024, 32, 2, 1, 16]⟩
abbrev S1024x32x2x16 : Shape := ⟨4, ![1024, 32, 2, 16]⟩
abbrev S1024x32x256 : Shape := ⟨3, ![1024, 32, 256]⟩
abbrev S1024x8192 : Shape := ⟨2, ![1024, 8192]⟩
abbrev S2x4096x64 : Shape := ⟨3, ![2, 4096, 64]⟩
abbrev S2x4096x2x2x16 : Shape := ⟨5, ![2, 4096, 2, 2, 16]⟩
abbrev S2x4096x2x1x16 : Shape := ⟨5, ![2, 4096, 2, 1, 16]⟩
abbrev S2x4096x2x16 : Shape := ⟨4, ![2, 4096, 2, 16]⟩
abbrev S2x4096x1664 : Shape := ⟨3, ![2, 4096, 1664]⟩
abbrev S8192x1664 : Shape := ⟨2, ![8192, 1664]⟩
abbrev S1024 : Shape := ⟨1, ![1024]⟩
abbrev S4096x2x32 : Shape := ⟨3, ![4096, 2, 32]⟩
abbrev S4096x64 : Shape := ⟨2, ![4096, 64]⟩
abbrev S4096x128 : Shape := ⟨2, ![4096, 128]⟩
abbrev S1x4096x1x128 : Shape := ⟨4, ![1, 4096, 1, 128]⟩
abbrev S2x4096x1x128 : Shape := ⟨4, ![2, 4096, 1, 128]⟩
abbrev S8192x128 : Shape := ⟨2, ![8192, 128]⟩
abbrev S8192x8192 : Shape := ⟨2, ![8192, 8192]⟩
abbrev S1024x1664 : Shape := ⟨2, ![1024, 1664]⟩
abbrev S1024x2048 : Shape := ⟨2, ![1024, 2048]⟩
abbrev S1024x128 : Shape := ⟨2, ![1024, 128]⟩
abbrev S1024x1024 : Shape := ⟨2, ![1024, 1024]⟩
abbrev S1024x1 : Shape := ⟨2, ![1024, 1]⟩

abbrev nBuf : Space → Nat
  | .hbm => 45
  | .vmem => 10
  | .smem => 0
  | _ => 0

abbrev bufTy : (tb : Table) → Fin (tcTables nBuf tb) → BufTy
  | .hbm, ⟨0, _⟩ => ⟨S2x4096x1600, .f32⟩
  | .hbm, ⟨1, _⟩ => ⟨S1x1024, .f32⟩
  | .hbm, ⟨2, _⟩ => ⟨S1x1024x6144, .f32⟩
  | .hbm, ⟨3, _⟩ => ⟨S4096x2x16, .f32⟩
  | .hbm, ⟨4, _⟩ => ⟨S4096x2x16, .f32⟩
  | .hbm, ⟨5, _⟩ => ⟨S1024x6144, .f32⟩
  | .hbm, ⟨6, _⟩ => ⟨S1024x32x192, .f32⟩
  | .hbm, ⟨7, _⟩ => ⟨S1024x32x64, .f32⟩
  | .hbm, ⟨8, _⟩ => ⟨S1024x32x2x2x16, .f32⟩
  | .hbm, ⟨9, _⟩ => ⟨S1024x32x2x1x16, .f32⟩
  | .hbm, ⟨10, _⟩ => ⟨S1024x32x2x16, .f32⟩
  | .hbm, ⟨11, _⟩ => ⟨S1024x32x2x16, .f32⟩
  | .hbm, ⟨12, _⟩ => ⟨S1024x32x2x1x16, .f32⟩
  | .hbm, ⟨13, _⟩ => ⟨S1024x32x2x16, .f32⟩
  | .hbm, ⟨14, _⟩ => ⟨S1024x32x2x1x16, .f32⟩
  | .hbm, ⟨15, _⟩ => ⟨S1024x32x2x1x16, .f32⟩
  | .hbm, ⟨16, _⟩ => ⟨S1024x32x2x2x16, .f32⟩
  | .hbm, ⟨17, _⟩ => ⟨S1024x32x64, .f32⟩
  | .hbm, ⟨18, _⟩ => ⟨S1024x32x256, .f32⟩
  | .hbm, ⟨19, _⟩ => ⟨S1024x8192, .f32⟩
  | .hbm, ⟨20, _⟩ => ⟨S1024x8192, .bf16⟩
  | .hbm, ⟨21, _⟩ => ⟨S2x4096x64, .f32⟩
  | .hbm, ⟨22, _⟩ => ⟨S2x4096x2x2x16, .f32⟩
  | .hbm, ⟨23, _⟩ => ⟨S2x4096x2x1x16, .f32⟩
  | .hbm, ⟨24, _⟩ => ⟨S2x4096x2x16, .f32⟩
  | .hbm, ⟨25, _⟩ => ⟨S2x4096x2x16, .f32⟩
  | .hbm, ⟨26, _⟩ => ⟨S2x4096x2x1x16, .f32⟩
  | .hbm, ⟨27, _⟩ => ⟨S2x4096x2x16, .f32⟩
  | .hbm, ⟨28, _⟩ => ⟨S2x4096x2x1x16, .f32⟩
  | .hbm, ⟨29, _⟩ => ⟨S2x4096x2x1x16, .f32⟩
  | .hbm, ⟨30, _⟩ => ⟨S2x4096x2x2x16, .f32⟩
  | .hbm, ⟨31, _⟩ => ⟨S2x4096x64, .f32⟩
  | .hbm, ⟨32, _⟩ => ⟨S2x4096x1664, .f32⟩
  | .hbm, ⟨33, _⟩ => ⟨S8192x1664, .f32⟩
  | .hbm, ⟨34, _⟩ => ⟨S1024, .f32⟩
  | .hbm, ⟨35, _⟩ => ⟨S4096x2x32, .f32⟩
  | .hbm, ⟨36, _⟩ => ⟨S4096x64, .f32⟩
  | .hbm, ⟨37, _⟩ => ⟨S4096x2x32, .f32⟩
  | .hbm, ⟨38, _⟩ => ⟨S4096x64, .f32⟩
  | .hbm, ⟨39, _⟩ => ⟨S4096x128, .f32⟩
  | .hbm, ⟨40, _⟩ => ⟨S1x4096x1x128, .f32⟩
  | .hbm, ⟨41, _⟩ => ⟨S2x4096x1x128, .f32⟩
  | .hbm, ⟨42, _⟩ => ⟨S8192x128, .f32⟩
  | .hbm, ⟨43, _⟩ => ⟨S1x1024, .f32⟩
  | .hbm, ⟨44, _⟩ => ⟨S8192x8192, .bf16⟩
  | .local _ .vmem, ⟨0, _⟩ => ⟨S1024x1664, .f32⟩
  | .local _ .vmem, ⟨1, _⟩ => ⟨S1024x1664, .f32⟩
  | .local _ .vmem, ⟨2, _⟩ => ⟨S1x1024, .f32⟩
  | .local _ .vmem, ⟨3, _⟩ => ⟨S1024x2048, .bf16⟩
  | .local _ .vmem, ⟨4, _⟩ => ⟨S1024x2048, .bf16⟩
  | .local _ .vmem, ⟨5, _⟩ => ⟨S1024x128, .f32⟩
  | .local _ .vmem, ⟨6, _⟩ => ⟨S1024x128, .f32⟩
  | .local _ .vmem, ⟨7, _⟩ => ⟨S1024x2048, .bf16⟩
  | .local _ .vmem, ⟨8, _⟩ => ⟨S1024x2048, .bf16⟩
  | .local _ .vmem, ⟨9, _⟩ => ⟨S1024x1024, .bf16⟩
  | _, _ => ⟨S2x4096x1600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1664 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== QRefIdeal.lean ====
abbrev S2x4096x1600 : Shape := ⟨3, ![2, 4096, 1600]⟩
abbrev S1x1024 : Shape := ⟨2, ![1, 1024]⟩
abbrev S1x1024x6144 : Shape := ⟨3, ![1, 1024, 6144]⟩
abbrev S4096x2x16 : Shape := ⟨3, ![4096, 2, 16]⟩
abbrev S2x4096x1024 : Shape := ⟨3, ![2, 4096, 1024]⟩
abbrev S1024 : Shape := ⟨1, ![1024]⟩
abbrev S_ : Shape := ⟨0, ![]⟩
abbrev S2x4096 : Shape := ⟨2, ![2, 4096]⟩
abbrev S2x4096x1 : Shape := ⟨3, ![2, 4096, 1]⟩
abbrev S1x1x1024 : Shape := ⟨3, ![1, 1, 1024]⟩
abbrev S1024x6144 : Shape := ⟨2, ![1024, 6144]⟩
abbrev S2x4096x6144 : Shape := ⟨3, ![2, 4096, 6144]⟩
abbrev S2x4096x32x192 : Shape := ⟨4, ![2, 4096, 32, 192]⟩
abbrev S2x4096x32x64 : Shape := ⟨4, ![2, 4096, 32, 64]⟩
abbrev S4096x1x2x16 : Shape := ⟨4, ![4096, 1, 2, 16]⟩
abbrev S2x4096x32x2x2x16 : Shape := ⟨6, ![2, 4096, 32, 2, 2, 16]⟩
abbrev S2x4096x32x2x1x16 : Shape := ⟨6, ![2, 4096, 32, 2, 1, 16]⟩
abbrev S2x4096x32x2x16 : Shape := ⟨5, ![2, 4096, 32, 2, 16]⟩
abbrev S1x4096x1x2x16 : Shape := ⟨5, ![1, 4096, 1, 2, 16]⟩
abbrev S2x4096x32x128 : Shape := ⟨4, ![2, 4096, 32, 128]⟩
abbrev S2x4096x32x256 : Shape := ⟨4, ![2, 4096, 32, 256]⟩
abbrev S8192x8192 : Shape := ⟨2, ![8192, 8192]⟩

abbrev nBuf : Space → Nat
  | .hbm => 56
  | .vmem => 0
  | .smem => 0
  | _ => 0

abbrev bufTy : (tb : Table) → Fin (tcTables nBuf tb) → BufTy
  | .hbm, ⟨0, _⟩ => ⟨S2x4096x1600, .f32⟩
  | .hbm, ⟨1, _⟩ => ⟨S1x1024, .f32⟩
  | .hbm, ⟨2, _⟩ => ⟨S1x1024x6144, .f32⟩
  | .hbm, ⟨3, _⟩ => ⟨S4096x2x16, .f32⟩
  | .hbm, ⟨4, _⟩ => ⟨S4096x2x16, .f32⟩
  | .hbm, ⟨5, _⟩ => ⟨S2x4096x1024, .f32⟩
  | .hbm, ⟨6, _⟩ => ⟨S1024, .f32⟩
  | .hbm, ⟨7, _⟩ => ⟨S2x4096x1024, .f32⟩
  | .hbm, ⟨8, _⟩ => ⟨S_, .f32⟩
  | .hbm, ⟨9, _⟩ => ⟨S2x4096, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S2x4096x1, .f32⟩
  | .hbm, ⟨18, _⟩ => ⟨S2x4096x1024, .f32⟩
  | .hbm, ⟨19, _⟩ => ⟨S2x4096x1024, .f32⟩
  | .hbm, ⟨20, _⟩ => ⟨S1x1x1024, .f32⟩
  | .hbm, ⟨21, _⟩ => ⟨S2x4096x1024, .f32⟩
  | .hbm, ⟨22, _⟩ => ⟨S2x4096x1024, .f32⟩
  | .hbm, ⟨23, _⟩ => ⟨S1024x6144, .f32⟩
  | .hbm, ⟨24, _⟩ => ⟨S2x4096x6144, .f32⟩
  | .hbm, ⟨25, _⟩ => ⟨S2x4096x32x192, .f32⟩
  | .hbm, ⟨26, _⟩ => ⟨S2x4096x32x64, .f32⟩
  | .hbm, ⟨27, _⟩ => ⟨S4096x1x2x16, .f32⟩
  | .hbm, ⟨28, _⟩ => ⟨S4096x1x2x16, .f32⟩
  | .hbm, ⟨29, _⟩ => ⟨S2x4096x32x2x2x16, .f32⟩
  | .hbm, ⟨30, _⟩ => ⟨S2x4096x32x2x1x16, .f32⟩
  | .hbm, ⟨31, _⟩ => ⟨S2x4096x32x2x16, .f32⟩
  | .hbm, ⟨32, _⟩ => ⟨S2x4096x32x2x1x16, .f32⟩
  | .hbm, ⟨33, _⟩ => ⟨S2x4096x32x2x16, .f32⟩
  | .hbm, ⟨34, _⟩ => ⟨S1x4096x1x2x16, .f32⟩
  | .hbm, ⟨35, _⟩ => ⟨S2x4096x32x2x16, .f32⟩
  | .hbm, ⟨36, _⟩ => ⟨S2x4096x32x2x16, .f32⟩
  | .hbm, ⟨37, _⟩ => ⟨S1x4096x1x2x16, .f32⟩
  | .hbm, ⟨38, _⟩ => ⟨S2x4096x32x2x16, .f32⟩
  | .hbm, ⟨39, _⟩ => ⟨S2x4096x32x2x16, .f32⟩
  | .hbm, ⟨40, _⟩ => ⟨S2x4096x32x2x16, .f32⟩
  | .hbm, ⟨41, _⟩ => ⟨S1x4096x1x2x16, .f32⟩
  | .hbm, ⟨42, _⟩ => ⟨S2x4096x32x2x16, .f32⟩
  | .hbm, ⟨43, _⟩ => ⟨S2x4096x32x2x16, .f32⟩
  | .hbm, ⟨44, _⟩ => ⟨S1x4096x1x2x16, .f32⟩
  | .hbm, ⟨45, _⟩ => ⟨S2x4096x32x2x16, .f32⟩
  | .hbm, ⟨46, _⟩ => ⟨S2x4096x32x2x16, .f32⟩
  | .hbm, ⟨47, _⟩ => ⟨S2x4096x32x2x16, .f32⟩
  | .hbm, ⟨48, _⟩ => ⟨S2x4096x32x2x1x16, .f32⟩
  | .hbm, ⟨49, _⟩ => ⟨S2x4096x32x2x1x16, .f32⟩
  | .hbm, ⟨50, _⟩ => ⟨S2x4096x32x2x2x16, .f32⟩
  | .hbm, ⟨51, _⟩ => ⟨S2x4096x32x64, .f32⟩
  | .hbm, ⟨52, _⟩ => ⟨S2x4096x32x128, .f32⟩
  | .hbm, ⟨53, _⟩ => ⟨S2x4096x32x256, .f32⟩
  | .hbm, ⟨54, _⟩ => ⟨S8192x8192, .f32⟩
  | .hbm, ⟨55, _⟩ => ⟨S8192x8192, .bf16⟩
  | _, _ => ⟨S2x4096x1600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩

abbrev nD : Nat := 1
abbrev τ : Topo := Topo.v7x

variable {F : FTy → Type} [FloatOps F]
-- ==== Proof.Trip.lean ====
/- One query tile of the attention kernel, run once at a symbolic trip of its loop. -/
module

public import proofs.«01_k».proof.Proof.Gen.KernelIdeal.Frame
public import proofs.«01_k».proof.Proof.Gen.KernelIdeal.Loops

@[expose] public section

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- The kernel needs no variant. -/
abbrev 𝒱₀ : Variants := Variants.none

section Trip

variable (c : Dev nD) (i : grid0.Coords)
  (arg2 : Memref sig .tc .vmem S4096x256 .bf16) (harg2 : arg2.IsWhole) (arg3 : Memref sig .tc .vmem S256x128 .bf16) (harg3 : arg3.IsWhole)
  (arg4 : Memref sig .tc .vmem S256x128 .bf16) (harg4 : arg4.IsWhole) (arg5 : Memref sig .tc .vmem S256x128 .bf16) (harg5 : arg5.IsWhole)
  (arg6 : Memref sig .tc .vmem S4096x128 .bf16) (harg6 : arg6.IsWhole) (arg7 : Memref sig .tc .vmem S4096x128 .bf16) (harg7 : arg7.IsWhole)
  (arg8 : Memref sig .tc .vmem S4096x128 .bf16) (harg8 : arg8.IsWhole) (arg9 : Memref sig .tc .vmem S4096x128 .bf16) (harg9 : arg9.IsWhole)
  (f2 : Buf (Elt F) (arg2.view.loc (c : Thread nD τ))) (f3 : Buf (Elt F) (arg3.view.loc (c : Thread nD τ)))
  (f4 : Buf (Elt F) (arg4.view.loc (c : Thread nD τ))) (f5 : Buf (Elt F) (arg5.view.loc (c : Thread nD τ)))
  (f6 : Buf (Elt F) (arg6.view.loc (c : Thread nD τ))) (f7 : Buf (Elt F) (arg7.view.loc (c : Thread nD τ)))
  (f8 : Buf (Elt F) (arg8.view.loc (c : Thread nD τ)))

/-- A staging buffer held at its elements. -/
abbrev pt {S : Shape} (a : Memref sig .tc .vmem S .bf16) (f : Buf (Elt F) (a.view.loc (c : Thread nD τ))) : sProp 𝕄 :=
  a.view.loc (c : Thread nD τ) ↦[a.view.set]{fullShare} f

/-- What a trip holds: the seven input blocks and the output block's contents so far. -/
abbrev Res (f9 : Buf (Elt F) (arg9.view.loc (c : Thread nD τ))) : sProp 𝕄 :=
  iprop(pt c arg2 f2 ∗ pt c arg3 f3 ∗ pt c arg4 f4 ∗ pt c arg5 f5 ∗ pt c arg6 f6 ∗ pt c arg7 f7 ∗ pt c arg8 f8 ∗ pt c arg9 f9)

set_option backward.proofsInPublic true in
/-- One trip at a symbolic `k`: the inputs stay, the output block becomes what the tile's stores make of it. -/
def tripRun (k : Fin k0_t1_loop.trips) :
    { g : Buf (Elt F) (arg9.view.loc (c : Thread nD τ)) → Buf (Elt F) (arg9.view.loc (c : Thread nD τ)) //
      ∀ f9, Res c arg2 arg3 arg4 arg5 arg6 arg7 arg8 arg9 f2 f3 f4 f5 f6 f7 f8 f9 ⊢
      wp frame (wpE (defs₀ (F := F)) 𝒱₀ (c : Thread nD τ) none) Set.univ
        (k0_t1_body (F := F) i arg2 harg2 arg3 harg3 arg4 harg4 arg5 harg5 arg6 harg6 arg7 harg7 arg8 harg8 arg9 harg9 k ())
        (fun _ => Res c arg2 arg3 arg4 arg5 arg6 arg7 arg8 arg9 f2 f3 f4 f5 f6 f7 f8 (g f9)) } := by
  refine ⟨?_, fun f9 => ?run⟩
  case run =>
    unfold Res pt
    iintro ⟨H2, H3, H4, H5, H6, H7, H8, H9⟩
    sl_unfold [k0_t1_body]
    sl_exec_parts
    sl_step
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

end Trip

end Cert.KernelIdeal.Att
end
-- ==== Proof.Tile.lean ====
/- What one query tile of the attention kernel stores, as functions of the blocks it reads: the one-pass result, the test
   on it, and the running-maximum result that replaces it where the test fails. -/
module

public import proofs.«01_k».proof.Proof.Trip

@[expose] public section

noncomputable section

namespace Cert.KernelIdeal.Att

open Idealize.ShloMosaic Idealize.ShloMosaic.TcCoe Idealize.ShloMosaic.Tactic
open Idealize.SL Idealize.SL.RA Idealize.SL.BI
open Cert.KernelIdeal Cert.KernelIdeal.Gen

variable {F : FTy → Type} [FloatOps F]

/-- The scores of a query tile against the context keys. -/
def scC (q : FVec F S1024x256 .bf16) (kn kp : Vec F S256x128 .bf16) : FVec F S1024x256 .f32 :=
  matmul dot_S1024x256_S256x256_S1024x256_1_1_0_0_n_n none q
    (concatenate S256x256 1 [⟨S256x128, shapeCast S256x128 kn shapeCasts_S256x128_S256x128⟩, ⟨S256x128, shapeCast S256x128 kp shapeCasts_S256x128_S256x128⟩] concatenates_S256x128_S256x128_S256x256_d1)
    (constant S1024x256 .f32 0x00000000#32)

/-- The scores of a query tile against a chunk of latent keys. -/
def scL (q : FVec F S1024x256 .bf16) (kn kp : Vec F S512x128 .bf16) : FVec F S1024x512 .f32 :=
  matmul dot_S1024x256_S512x256_S1024x512_1_1_0_0_n_n none q
    (concatenate S512x256 1 [⟨S512x128, shapeCast S512x128 kn shapeCasts_S512x128_S512x128⟩, ⟨S512x128, shapeCast S512x128 kp shapeCasts_S512x128_S512x128⟩] concatenates_S512x128_S512x128_S512x256_d1)
    (constant S1024x512 .f32 0x00000000#32)

/-- Each row's greatest score, context keys. -/
def rmC (s : FVec F S1024x256 .f32) : FVec F S1024x1 .f32 :=
  shapeCast S1024x1 (multiReduction .maximumf [1] S1024 s 0xFF800000#32 reduces_S1024x256_S1024 (.inl rfl) rfl) shapeCasts_S1024_S1024x1

/-- Each row's greatest score, a chunk of latent keys. -/
def rmL (s : FVec F S1024x512 .f32) : FVec F S1024x1 .f32 :=
  shapeCast S1024x1 (multiReduction .maximumf [1] S1024 s 0xFF800000#32 reduces_S1024x512_S1024 (.inl rfl) rfl) shapeCasts_S1024_S1024x1

/-- The weights `2^(s − m)`, context keys. -/
def wC (s : FVec F S1024x256 .f32) (m : FVec F S1024x1 .f32) : FVec F S1024x256 .f32 :=
  exp2 (subf s (broadcastTo S1024x256 m broadcasts_S1024x1_S1024x256))

/-- The weights `2^(s − m)`, a chunk of latent keys. -/
def wL (s : FVec F S1024x512 .f32) (m : FVec F S1024x1 .f32) : FVec F S1024x512 .f32 :=
  exp2 (subf s (broadcastTo S1024x512 m broadcasts_S1024x1_S1024x512))

/-- Weights times (values beside ones), context keys. -/
def oneC (w : FVec F S1024x256 .f32) (v : Vec F S256x128 .bf16) : FVec F S1024x256 .f32 :=
  matmul dot_S1024x256_S256x256_S1024x256_1_0_0_1_n_n none (truncf .bf16 w bitsLt_bf16_f32)
    (concatenate S256x256 1 [⟨S256x128, shapeCast S256x128 v shapeCasts_S256x128_S256x128⟩, ⟨S256x128, broadcast S256x128 (Scalar.ofBits .bf16 0x3F80#16 : F .bf16)⟩] concatenates_S256x128_S256x128_S256x256_d1)
    (constant S1024x256 .f32 0x00000000#32)

/-- Weights times (values beside ones), a chunk of latent keys. -/
def oneL (w : FVec F S1024x512 .f32) (v : Vec F S512x128 .bf16) : FVec F S1024x256 .f32 :=
  matmul dot_S1024x512_S512x256_S1024x256_1_0_0_1_n_n none (truncf .bf16 w bitsLt_bf16_f32)
    (concatenate S512x256 1 [⟨S512x128, shapeCast S512x128 v shapeCasts_S512x128_S512x128⟩, ⟨S512x128, broadcast S512x128 (Scalar.ofBits .bf16 0x3F80#16 : F .bf16)⟩] concatenates_S512x128_S512x128_S512x256_d1)
    (constant S1024x256 .f32 0x00000000#32)

/-- The greatest score of each lane over the context's two lane groups. -/
def topC (s : FVec F S1024x256 .f32) : FVec F S1024x128 .f32 :=
  maximumf (extractStridedSlice S1024x128 ![0, 0] s slices_S1024x256_o0_0_S1024x128) (extractStridedSlice S1024x128 ![0, 128] s slices_S1024x256_o0_128_S1024x128)

/-- The greatest score of each lane over a chunk's four lane groups. -/
def topL (s : FVec F S1024x512 .f32) : FVec F S1024x128 .f32 :=
  maximumf (maximumf (maximumf (extractStridedSlice S1024x128 ![0, 0] s slices_S1024x512_o0_0_S1024x128) (extractStridedSlice S1024x128 ![0, 128] s slices_S1024x512_o0_128_S1024x128))
    (extractStridedSlice S1024x128 ![0, 256] s slices_S1024x512_o0_256_S1024x128)) (extractStridedSlice S1024x128 ![0, 384] s slices_S1024x512_o0_384_S1024x128)

section Chain

variable (q : FVec F S1024x256 .bf16) (kc pc vc : Vec F S256x128 .bf16) (kl pl vl : Fin 8 → Vec F S512x128 .bf16)

/-- The one-pass reference score of each row: its greatest over the context keys. -/
def refr : FVec F S1024x1 .f32 := rmC (scC q kc pc)

/-- The one-pass accumulator after the context keys and `n` chunks. -/
def acc : (n : ℕ) → n ≤ 8 → FVec F S1024x256 .f32
  | 0, _ => oneC (wC (scC q kc pc) (refr q kc pc)) vc
  | n + 1, h => addf (acc n (by omega)) (oneL (wL (scL q (kl ⟨n, h⟩) (pl ⟨n, h⟩)) (refr q kc pc)) (vl ⟨n, h⟩))

/-- The greatest score of each lane after the context keys and `n` chunks. -/
def top : (n : ℕ) → n ≤ 8 → FVec F S1024x128 .f32
  | 0, _ => topC (scC q kc pc)
  | n + 1, h => maximumf (top n (by omega)) (topL (scL q (kl ⟨n, h⟩) (pl ⟨n, h⟩)))

/-- The running maximum after the context keys and `n` chunks. -/
def mx : (n : ℕ) → n ≤ 8 → FVec F S1024x1 .f32
  | 0, _ => maximumf (broadcast S1024x1 (Scalar.ofBits .f32 0xFF800000#32 : F .f32)) (rmC (scC q kc pc))
  | n + 1, h => maximumf (mx n (by omega)) (rmL (scL q (kl ⟨n, h⟩) (pl ⟨n, h⟩)))

/-- The running sum of the weights. -/
def den : (n : ℕ) → n ≤ 8 → FVec F S1024x1 .f32
  | 0, _ => addf (mulf (exp2 (subf (broadcast S1024x1 (Scalar.ofBits .f32 0xFF800000#32 : F .f32)) (mx q kc pc kl pl 0 (by omega)))) (broadcast S1024x1 (Scalar.ofBits .f32 0x00000000#32 : F .f32)))
      (shapeCast S1024x1 (multiReduction .add [1] S1024 (wC (scC q kc pc) (mx q kc pc kl pl 0 (by omega))) 0x00000000#32 reduces_S1024x256_S1024 (.inl rfl) rfl) shapeCasts_S1024_S1024x1)
  | n + 1, h => addf (mulf (exp2 (subf (mx q kc pc kl pl n (by omega)) (mx q kc pc kl pl (n + 1) h))) (den n (by omega)))
      (shapeCast S1024x1 (multiReduction .add [1] S1024 (wL (scL q (kl ⟨n, h⟩) (pl ⟨n, h⟩)) (mx q kc pc kl pl (n + 1) h)) 0x00000000#32 reduces_S1024x512_S1024 (.inl rfl) rfl) shapeCasts_S1024_S1024x1)

/-- The running weighted sum of the values. -/
def num : (n : ℕ) → n ≤ 8 → FVec F S1024x128 .f32
  | 0, _ => addf (mulf (broadcastTo S1024x128 (exp2 (subf (broadcast S1024x1 (Scalar.ofBits .f32 0xFF800000#32 : F .f32)) (mx q kc pc kl pl 0 (by omega)))) broadcasts_S1024x1_S1024x128) (broadcast S1024x128 (Scalar.ofBits .f32 0x00000000#32 : F .f32)))
      (matmul dot_S1024x256_S256x128_S1024x128_1_0_0_1_n_n none (truncf .bf16 (wC (scC q kc pc) (mx q kc pc kl pl 0 (by omega))) bitsLt_bf16_f32) (shapeCast S256x128 vc shapeCasts_S256x128_S256x128) (constant S1024x128 .f32 0x00000000#32))
  | n + 1, h => addf (mulf (broadcastTo S1024x128 (exp2 (subf (mx q kc pc kl pl n (by omega)) (mx q kc pc kl pl (n + 1) h))) broadcasts_S1024x1_S1024x128) (num n (by omega)))
      (matmul dot_S1024x512_S512x128_S1024x128_1_0_0_1_n_n none (truncf .bf16 (wL (scL q (kl ⟨n, h⟩) (pl ⟨n, h⟩)) (mx q kc pc kl pl (n + 1) h)) bitsLt_bf16_f32) (shapeCast S512x128 (vl ⟨n, h⟩) shapeCasts_S512x128_S512x128) (constant S1024x128 .f32 0x00000000#32))

/-- The one-pass result. -/
def out1 : FVec F S1024x128 .bf16 := k0_pay2 (acc q kc pc vc kl pl vl 8 le_rfl)

/-- The running-maximum result. -/
def out2 : FVec F S1024x128 .bf16 :=
  truncf .bf16 (divf (num q kc pc vc kl pl vl 8 le_rfl) (broadcastTo S1024x128 (den q kc pc kl pl 8 le_rfl) broadcasts_S1024x1_S1024x128)) bitsLt_bf16_f32

/-- The greatest excess of a score over its row's reference, in the tile. -/
def excess : F .f32 :=
  extractAt ![0, 0, 0] (shapeCast S1x1x1 (multiReduction .maximumf [1, 2] S1 (shapeCast S1x1024x128 (subf (top q kc pc kl pl 8 le_rfl) (broadcastTo S1024x128 (refr q kc pc) broadcasts_S1024x1_S1024x128)) shapeCasts_S1024x128_S1x1024x128) 0xFF800000#32 reduces_S1x1024x128_S1 (.inl rfl) rfl) shapeCasts_S1_S1x1x1) inpos_S1x1x1_p0_0_0

/-- The kernel's test: 1 where the one-pass result has to be replaced. -/
def redo : BitVec 1 := Scalar.cmpi .ne (Scalar.extui (Scalar.xori (Scalar.cmpf .ole (excess q kc pc kl pl) (Scalar.ofBits .f32 0x42800000#32 : F .f32)) 1#1)) 0#32

end Chain

end Cert.KernelIdeal.Att

end
-- ==== Proof.Bridge.lean ====
/- The values that the run of one trip names are the functions of Tile.lean, stage by stage. -/
module

public import proofs.«01_k».proof.Proof.Tile

@[expose] public section

noncomputable section

namespace Cert.KernelIdeal.Att

open Idealize.ShloMosaic Idealize.ShloMosaic.TcCoe Idealize.ShloMosaic.Tactic
open Idealize.SL Idealize.SL.RA Idealize.SL.BI
open Cert.KernelIdeal Cert.KernelIdeal.Gen

variable {F : FTy → Type} [FloatOps F]

/-- The query tile a trip loads. -/
def qT (a : Memref sig .tc .vmem S4096x256 .bf16) {c : Dev nD} (f : Buf (Elt F) (a.view.loc (c : Thread nD τ))) (k : Fin k0_t1_loop.trips) : FVec F S1024x256 .bf16 :=
  k0_pay53 (View.readAt (Elt F) a.view (Rect.unit (s := S4096x256) (k0_off1 k) S1024x256.size (k0_off1_inb k)).toLoadRect f)

/-- A context block, loaded whole. -/
def cC (a : Memref sig .tc .vmem S256x128 .bf16) {c : Dev nD} (f : Buf (Elt F) (a.view.loc (c : Thread nD τ))) : Vec F S256x128 .bf16 :=
  View.readAt (Elt F) a.view (Rect.unit (s := S256x128) ![0, 0] S256x128.size (by decide)).toLoadRect f

/-- Chunk `j` of a latent block. -/
def cL (a : Memref sig .tc .vmem S4096x128 .bf16) {c : Dev nD} (f : Buf (Elt F) (a.view.loc (c : Thread nD τ))) (j : Fin 8) : Vec F S512x128 .bf16 :=
  View.readAt (Elt F) a.view (Rect.unit (s := S4096x128) ![512 * j.val, 0] S512x128.size (by revert j; decide)).toLoadRect f

section Stages

variable (c : Dev nD) (i : grid0.Coords)
  (arg2 : Memref sig .tc .vmem S4096x256 .bf16) (harg2 : arg2.IsWhole) (arg3 : Memref sig .tc .vmem S256x128 .bf16) (harg3 : arg3.IsWhole)
  (arg4 : Memref sig .tc .vmem S256x128 .bf16) (harg4 : arg4.IsWhole) (arg5 : Memref sig .tc .vmem S256x128 .bf16) (harg5 : arg5.IsWhole)
  (arg6 : Memref sig .tc .vmem S4096x128 .bf16) (harg6 : arg6.IsWhole) (arg7 : Memref sig .tc .vmem S4096x128 .bf16) (harg7 : arg7.IsWhole)
  (arg8 : Memref sig .tc .vmem S4096x128 .bf16) (harg8 : arg8.IsWhole) (arg9 : Memref sig .tc .vmem S4096x128 .bf16) (harg9 : arg9.IsWhole)
  (f2 : Buf (Elt F) (arg2.view.loc (c : Thread nD τ))) (f3 : Buf (Elt F) (arg3.view.loc (c : Thread nD τ)))
  (f4 : Buf (Elt F) (arg4.view.loc (c : Thread nD τ))) (f5 : Buf (Elt F) (arg5.view.loc (c : Thread nD τ)))
  (f6 : Buf (Elt F) (arg6.view.loc (c : Thread nD τ))) (f7 : Buf (Elt F) (arg7.view.loc (c : Thread nD τ)))
  (f8 : Buf (Elt F) (arg8.view.loc (c : Thread nD τ)))
  (k : Fin k0_t1_loop.trips)

/-- A value the run names is the clean one. -/
theorem e_r : tripRun.sl.r (F := F) c arg2 f2 k = qT arg2 f2 k := by
  unfold tripRun.sl.r
  rfl

/-- A value the run names is the clean one. -/
theorem e_r_1 : tripRun.sl.r_1 (F := F) c arg2 arg3 arg4 f2 f3 f4 k = refr (qT arg2 f2 k) (cC arg3 f3) (cC arg4 f4) := by
  unfold tripRun.sl.r_1
  rfl

/-- A value the run names is the clean one. -/
theorem e_r_2 : tripRun.sl.r_2 (F := F) c arg2 arg3 arg4 arg5 f2 f3 f4 f5 k = acc (qT arg2 f2 k) (cC arg3 f3) (cC arg4 f4) (cC arg5 f5) (cL arg6 f6) (cL arg7 f7) (cL arg8 f8) 0 (by omega) := by
  unfold tripRun.sl.r_2
  rfl

/-- A value the run names is the clean one. -/
theorem e_r_3 : tripRun.sl.r_3 (F := F) c arg2 arg3 arg4 f2 f3 f4 k = top (qT arg2 f2 k) (cC arg3 f3) (cC arg4 f4) (cL arg6 f6) (cL arg7 f7) 0 (by omega) := by
  unfold tripRun.sl.r_3
  rfl

/-- A value the run names is the clean one. -/
theorem e_r_4 : tripRun.sl.r_4 (F := F) c arg2 arg6 arg7 f2 f6 f7 k = scL (qT arg2 f2 k) (cL arg6 f6 0) (cL arg7 f7 0) := by
  unfold tripRun.sl.r_4
  rfl

/-- A value the run names is the clean one. -/
theorem e_r_7 : tripRun.sl.r_7 (F := F) c arg2 arg3 arg4 arg5 arg6 arg7 arg8 f2 f3 f4 f5 f6 f7 f8 k = acc (qT arg2 f2 k) (cC arg3 f3) (cC arg4 f4) (cC arg5 f5) (cL arg6 f6) (cL arg7 f7) (cL arg8 f8) 2 (by omega) := by
  unfold tripRun.sl.r_7
  rw [e_r, e_r_1, e_r_2]
  rfl

/-- A value the run names is the clean one. -/
theorem e_r_8 : tripRun.sl.r_8 (F := F) c arg2 arg3 arg4 arg6 arg7 f2 f3 f4 f6 f7 k = top (qT arg2 f2 k) (cC arg3 f3) (cC arg4 f4) (cL arg6 f6) (cL arg7 f7) 2 (by omega) := by
  unfold tripRun.sl.r_8
  rw [e_r, e_r_3, e_r_4]
  rfl

/-- A value the run names is the clean one. -/
theorem e_r_12 : tripRun.sl.r_12 (F := F) c arg2 arg3 arg4 arg5 arg6 arg7 arg8 f2 f3 f4 f5 f6 f7 f8 k = acc (qT arg2 f2 k) (cC arg3 f3) (cC arg4 f4) (cC arg5 f5) (cL arg6 f6) (cL arg7 f7) (cL arg8 f8) 4 (by omega) := by
  unfold tripRun.sl.r_12
  rw [e_r, e_r_1, e_r_7]
  rfl

/-- A value the run names is the clean one. -/
theorem e_r_13 : tripRun.sl.r_13 (F := F) c arg2 arg3 arg4 arg6 arg7 f2 f3 f4 f6 f7 k = top (qT arg2 f2 k) (cC arg3 f3) (cC arg4 f4) (cL arg6 f6) (cL arg7 f7) 4 (by omega) := by
  unfold tripRun.sl.r_13
  rw [e_r, e_r_8]
  rfl

/-- A value the run names is the clean one. -/
theorem e_r_15 : tripRun.sl.r_15 (F := F) c arg2 arg3 arg4 arg5 arg6 arg7 arg8 f2 f3 f4 f5 f6 f7 f8 k = acc (qT arg2 f2 k) (cC arg3 f3) (cC arg4 f4) (cC arg5 f5) (cL arg6 f6) (cL arg7 f7) (cL arg8 f8) 6 (by omega) := by
  unfold tripRun.sl.r_15
  rw [e_r, e_r_1, e_r_12]
  rfl

/-- A value the run names is the clean one. -/
theorem e_r_16 : tripRun.sl.r_16 (F := F) c arg2 arg3 arg4 arg6 arg7 f2 f3 f4 f6 f7 k = top (qT arg2 f2 k) (cC arg3 f3) (cC arg4 f4) (cL arg6 f6) (cL arg7 f7) 6 (by omega) := by
  unfold tripRun.sl.r_16
  rw [e_r, e_r_13]
  rfl

/-- A value the run names is the clean one. -/
theorem e_r_18 : tripRun.sl.r_18 (F := F) c arg2 arg3 arg4 arg6 arg7 f2 f3 f4 f6 f7 k = top (qT arg2 f2 k) (cC arg3 f3) (cC arg4 f4) (cL arg6 f6) (cL arg7 f7) 7 (by omega) := by
  unfold tripRun.sl.r_18
  rw [e_r, e_r_16]
  rfl

/-- A value the run names is the clean one. -/
theorem e_r_19 : tripRun.sl.r_19 (F := F) c arg2 arg3 arg4 arg5 arg6 arg7 arg8 f2 f3 f4 f5 f6 f7 f8 k = acc (qT arg2 f2 k) (cC arg3 f3) (cC arg4 f4) (cC arg5 f5) (cL arg6 f6) (cL arg7 f7) (cL arg8 f8) 8 (by omega) := by
  unfold tripRun.sl.r_19
  rw [e_r, e_r_1, e_r_15]
  rfl

/-- A value the run names is the clean one. -/
theorem e_r_22 : tripRun.sl.r_22 (F := F) c arg2 arg3 arg4 f2 f3 f4 k = mx (qT arg2 f2 k) (cC arg3 f3) (cC arg4 f4) (cL arg6 f6) (cL arg7 f7) 0 (by omega) := by
  unfold tripRun.sl.r_22
  rw [e_r]
  rfl

/-- A value the run names is the clean one. -/
theorem e_r_23 : tripRun.sl.r_23 (F := F) c arg2 arg3 arg4 f2 f3 f4 k = den (qT arg2 f2 k) (cC arg3 f3) (cC arg4 f4) (cL arg6 f6) (cL arg7 f7) 0 (by omega) := by
  unfold tripRun.sl.r_23
  rw [e_r]
  rfl

/-- A value the run names is the clean one. -/
theorem e_r_24 : tripRun.sl.r_24 (F := F) c arg2 arg3 arg4 arg5 f2 f3 f4 f5 k = num (qT arg2 f2 k) (cC arg3 f3) (cC arg4 f4) (cC arg5 f5) (cL arg6 f6) (cL arg7 f7) (cL arg8 f8) 0 (by omega) := by
  unfold tripRun.sl.r_24
  rw [e_r]
  rfl

/-- A value the run names is the clean one. -/
theorem e_r_26 : tripRun.sl.r_26 (F := F) c arg2 arg6 arg7 f2 f6 f7 k = scL (qT arg2 f2 k) (cL arg6 f6 0) (cL arg7 f7 0) := by
  unfold tripRun.sl.r_26
  rw [e_r]
  rfl

/-- A value the run names is the clean one. -/
theorem e_r_27 : tripRun.sl.r_27 (F := F) c arg2 arg3 arg4 arg6 arg7 f2 f3 f4 f6 f7 k = mx (qT arg2 f2 k) (cC arg3 f3) (cC arg4 f4) (cL arg6 f6) (cL arg7 f7) 1 (by omega) := by
  unfold tripRun.sl.r_27
  rw [e_r]
  rfl

/-- A value the run names is the clean one. -/
theorem e_r_28 : tripRun.sl.r_28 (F := F) c arg2 arg3 arg4 arg6 arg7 f2 f3 f4 f6 f7 k = mx (qT arg2 f2 k) (cC arg3 f3) (cC arg4 f4) (cL arg6 f6) (cL arg7 f7) 2 (by omega) := by
  unfold tripRun.sl.r_28
  rw [e_r, e_r_27]
  rfl

/-- A value the run names is the clean one. -/
theorem e_r_29 : tripRun.sl.r_29 (F := F) c arg2 arg3 arg4 arg6 arg7 f2 f3 f4 f6 f7 k = den (qT arg2 f2 k) (cC arg3 f3) (cC arg4 f4) (cL arg6 f6) (cL arg7 f7) 2 (by omega) := by
  unfold tripRun.sl.r_29
  rw [e_r, e_r_22, e_r_23, e_r_26, e_r_27]
  rfl

/-- A value the run names is the clean one. -/
theorem e_r_30 : tripRun.sl.r_30 (F := F) c arg2 arg3 arg4 arg5 arg6 arg7 arg8 f2 f3 f4 f5 f6 f7 f8 k = num (qT arg2 f2 k) (cC arg3 f3) (cC arg4 f4) (cC arg5 f5) (cL arg6 f6) (cL arg7 f7) (cL arg8 f8) 2 (by omega) := by
  unfold tripRun.sl.r_30
  rw [e_r, e_r_22, e_r_24, e_r_26, e_r_27]
  rfl

/-- A value the run names is the clean one. -/
theorem e_r_32 : tripRun.sl.r_32 (F := F) c arg2 arg3 arg4 arg6 arg7 f2 f3 f4 f6 f7 k = mx (qT arg2 f2 k) (cC arg3 f3) (cC arg4 f4) (cL arg6 f6) (cL arg7 f7) 4 (by omega) := by
  unfold tripRun.sl.r_32
  rw [e_r, e_r_28]
  rfl

/-- A value the run names is the clean one. -/
theorem e_r_33 : tripRun.sl.r_33 (F := F) c arg2 arg3 arg4 arg6 arg7 f2 f3 f4 f6 f7 k = den (qT arg2 f2 k) (cC arg3 f3) (cC arg4 f4) (cL arg6 f6) (cL arg7 f7) 4 (by omega) := by
  unfold tripRun.sl.r_33
  rw [e_r, e_r_28, e_r_29]
  rfl

/-- A value the run names is the clean one. -/
theorem e_r_34 : tripRun.sl.r_34 (F := F) c arg2 arg3 arg4 arg5 arg6 arg7 arg8 f2 f3 f4 f5 f6 f7 f8 k = mulf (broadcastTo S1024x128 (exp2 (subf (mx (qT arg2 f2 k) (cC arg3 f3) (cC arg4 f4) (cL arg6 f6) (cL arg7 f7) 3 (by omega)) (mx (qT arg2 f2 k) (cC arg3 f3) (cC arg4 f4) (cL arg6 f6) (cL arg7 f7) 4 (by omega)))) broadcasts_S1024x1_S1024x128) (num (qT arg2 f2 k) (cC arg3 f3) (cC arg4 f4) (cC arg5 f5) (cL arg6 f6) (cL arg7 f7) (cL arg8 f8) 3 (by omega)) := by
  unfold tripRun.sl.r_34
  rw [e_r, e_r_28, e_r_30]
  rfl

/-- A value the run names is the clean one. -/
theorem e_r_36 : tripRun.sl.r_36 (F := F) c arg2 arg3 arg4 arg6 arg7 f2 f3 f4 f6 f7 k = den (qT arg2 f2 k) (cC arg3 f3) (cC arg4 f4) (cL arg6 f6) (cL arg7 f7) 5 (by omega) := by
  unfold tripRun.sl.r_36
  rw [e_r, e_r_32, e_r_33]
  rfl

/-- A value the run names is the clean one. -/
theorem e_r_37 : tripRun.sl.r_37 (F := F) c arg2 arg3 arg4 arg5 arg6 arg7 arg8 f2 f3 f4 f5 f6 f7 f8 k = num (qT arg2 f2 k) (cC arg3 f3) (cC arg4 f4) (cC arg5 f5) (cL arg6 f6) (cL arg7 f7) (cL arg8 f8) 5 (by omega) := by
  unfold tripRun.sl.r_37
  rw [e_r, e_r_32, e_r_34]
  rfl

/-- A value the run names is the clean one. -/
theorem e_r_39 : tripRun.sl.r_39 (F := F) c arg2 arg3 arg4 arg6 arg7 f2 f3 f4 f6 f7 k = mx (qT arg2 f2 k) (cC arg3 f3) (cC arg4 f4) (cL arg6 f6) (cL arg7 f7) 6 (by omega) := by
  unfold tripRun.sl.r_39
  rw [e_r, e_r_32]
  rfl

/-- A value the run names is the clean one. -/
theorem e_r_40 : tripRun.sl.r_40 (F := F) c arg2 arg3 arg4 arg6 arg7 f2 f3 f4 f6 f7 k = exp2 (subf (mx (qT arg2 f2 k) (cC arg3 f3) (cC arg4 f4) (cL arg6 f6) (cL arg7 f7) 5 (by omega)) (mx (qT arg2 f2 k) (cC arg3 f3) (cC arg4 f4) (cL arg6 f6) (cL arg7 f7) 6 (by omega))) := by
  unfold tripRun.sl.r_40
  rw [e_r, e_r_32]
  rfl

/-- A value the run names is the clean one. -/
theorem e_r_41 : tripRun.sl.r_41 (F := F) c arg2 arg3 arg4 arg6 arg7 f2 f3 f4 f6 f7 k = wL (scL (qT arg2 f2 k) (cL arg6 f6 5) (cL arg7 f7 5)) (mx (qT arg2 f2 k) (cC arg3 f3) (cC arg4 f4) (cL arg6 f6) (cL arg7 f7) 6 (by omega)) := by
  unfold tripRun.sl.r_41
  rw [e_r, e_r_32]
  rfl

/-- A value the run names is the clean one. -/
theorem e_r_42 : tripRun.sl.r_42 (F := F) c arg2 arg3 arg4 arg6 arg7 f2 f3 f4 f6 f7 k = mx (qT arg2 f2 k) (cC arg3 f3) (cC arg4 f4) (cL arg6 f6) (cL arg7 f7) 7 (by omega) := by
  unfold tripRun.sl.r_42
  rw [e_r, e_r_39]
  rfl

/-- A value the run names is the clean one. -/
theorem e_r_43 : tripRun.sl.r_43 (F := F) c arg2 arg3 arg4 arg6 arg7 f2 f3 f4 f6 f7 k = den (qT arg2 f2 k) (cC arg3 f3) (cC arg4 f4) (cL arg6 f6) (cL arg7 f7) 7 (by omega) := by
  unfold tripRun.sl.r_43
  rw [e_r, e_r_36, e_r_39, e_r_40, e_r_41]
  rfl

/-- A value the run names is the clean one. -/
theorem e_r_44 : tripRun.sl.r_44 (F := F) c arg2 arg3 arg4 arg5 arg6 arg7 arg8 f2 f3 f4 f5 f6 f7 f8 k = num (qT arg2 f2 k) (cC arg3 f3) (cC arg4 f4) (cC arg5 f5) (cL arg6 f6) (cL arg7 f7) (cL arg8 f8) 7 (by omega) := by
  unfold tripRun.sl.r_44
  rw [e_r, e_r_37, e_r_39, e_r_40, e_r_41]
  rfl

end Stages

end Cert.KernelIdeal.Att

end
-- ==== Proof.Out.lean ====
/- The output block of the attention kernel, as a function of the input blocks, and what one trip leaves in it. -/
module

public import Idealize.ShloMosaic.Lib.Pointwise
public import Idealize.ShloMosaic.Lib.WritesUnit
public import proofs.«01_k».proof.Proof.Bridge

@[expose] public section

set_option maxRecDepth 4096

noncomputable section

namespace Cert.KernelIdeal.Att

open Idealize.ShloMosaic Idealize.ShloMosaic.TcCoe Idealize.ShloMosaic.Tactic
open Idealize.SL Idealize.SL.RA Idealize.SL.BI
open Cert.KernelIdeal Cert.KernelIdeal.Gen

variable {F : FTy → Type} [FloatOps F]

/-- The query tile of trip `k`. -/
def qX (X : Vec F S4096x256 .bf16) (k : Fin k0_t1_loop.trips) : FVec F S1024x256 .bf16 :=
  k0_pay53 (View.ld X (Rect.unit (s := S4096x256) (k0_off1 k) S1024x256.size (k0_off1_inb k)))

/-- A context block, read whole. -/
def cX (X : Vec F S256x128 .bf16) : Vec F S256x128 .bf16 :=
  View.ld X (Rect.unit (s := S256x128) ![0, 0] S256x128.size (by decide))

/-- Chunk `j` of a latent block. -/
def lX (X : Vec F S4096x128 .bf16) (j : Fin 8) : Vec F S512x128 .bf16 :=
  View.ld X (Rect.unit (s := S4096x128) ![512 * j.val, 0] S512x128.size (by revert j; decide))

section Blocks

variable (X2 : Vec F S4096x256 .bf16) (X3 X4 X5 : Vec F S256x128 .bf16) (X6 X7 X8 : Vec F S4096x128 .bf16)

/-- What trip `k` leaves in its rows. -/
def tile (k : Fin k0_t1_loop.trips) : FVec F S1024x128 .bf16 :=
  if redo (qX X2 k) (cX X3) (cX X4) (lX X6) (lX X7) = 1#1 then out2 (qX X2 k) (cX X3) (cX X4) (cX X5) (lX X6) (lX X7) (lX X8)
  else out1 (qX X2 k) (cX X3) (cX X4) (cX X5) (lX X6) (lX X7) (lX X8)

/-- The loop over query tiles has four trips. -/
theorem trips_eq : k0_t1_loop.trips = 4 := by decide

/-- The whole output block. -/
def OUT : Vec F S4096x128 .bf16 := fun y =>
  tile X2 X3 X4 X5 X6 X7 X8 ⟨(y 0).val / 1024, by have h : (y 0).val < 4096 := (y 0).isLt; rw [trips_eq]; omega⟩
    (ix2 ⟨(y 0).val % 1024, Nat.mod_lt _ (by decide)⟩ ⟨(y 1).val, (y 1).isLt⟩)

end Blocks

/-- Where a trip's query tile starts. -/
theorem off1_eq (k : Fin k0_t1_loop.trips) : k0_off1 k = ![1024 * k.val, 0] := by revert k; decide +kernel
/-- Where a trip's first store starts. -/
theorem off2_eq (k : Fin k0_t1_loop.trips) : k0_off2 k = ![1024 * k.val, 0] := by revert k; decide +kernel
/-- Where a trip's second store starts. -/
theorem off3_eq (k : Fin k0_t1_loop.trips) : k0_off3 k = ![1024 * k.val, 0] := by revert k; decide +kernel

section Reads

variable (c : Dev nD) (i : grid0.Coords)
  (arg2 : Memref sig .tc .vmem S4096x256 .bf16) (harg2 : arg2.IsWhole) (arg3 : Memref sig .tc .vmem S256x128 .bf16) (harg3 : arg3.IsWhole)
  (arg4 : Memref sig .tc .vmem S256x128 .bf16) (harg4 : arg4.IsWhole) (arg5 : Memref sig .tc .vmem S256x128 .bf16) (harg5 : arg5.IsWhole)
  (arg6 : Memref sig .tc .vmem S4096x128 .bf16) (harg6 : arg6.IsWhole) (arg7 : Memref sig .tc .vmem S4096x128 .bf16) (harg7 : arg7.IsWhole)
  (arg8 : Memref sig .tc .vmem S4096x128 .bf16) (harg8 : arg8.IsWhole) (arg9 : Memref sig .tc .vmem S4096x128 .bf16) (harg9 : arg9.IsWhole)
  (f2 : Buf (Elt F) (arg2.view.loc (c : Thread nD τ))) (f3 : Buf (Elt F) (arg3.view.loc (c : Thread nD τ)))
  (f4 : Buf (Elt F) (arg4.view.loc (c : Thread nD τ))) (f5 : Buf (Elt F) (arg5.view.loc (c : Thread nD τ)))
  (f6 : Buf (Elt F) (arg6.view.loc (c : Thread nD τ))) (f7 : Buf (Elt F) (arg7.view.loc (c : Thread nD τ)))
  (f8 : Buf (Elt F) (arg8.view.loc (c : Thread nD τ)))
  (k : Fin k0_t1_loop.trips)

/-- The test that the run names is the kernel's test on the blocks. -/
theorem e_test : tripRun.sl.v233 (F := F) c arg2 arg3 arg4 arg6 arg7 f2 f3 f4 f6 f7 k
    = redo (qT arg2 f2 k) (cC arg3 f3) (cC arg4 f4) (cL arg6 f6) (cL arg7 f7) := by
  unfold tripRun.sl.v233 tripRun.sl.v232 tripRun.sl.v231 tripRun.sl.v230 redo
  rw [e_r_1, e_r_18]
  rfl

/-- A row of the trip's tile reads the tile. -/
theorem trip_read_mem (f9 : Buf (Elt F) (arg9.view.loc (c : Thread nD τ))) (y : S4096x128.Idx) (x : S1024x128.Idx)
    (h0 : (y (0 : Fin 2)).val = 1024 * k.val + (x (0 : Fin 2)).val) (h1 : (y (1 : Fin 2)).val = (x (1 : Fin 2)).val) :
    arg9.view.read (Elt F) ((tripRun c i arg2 harg2 arg3 harg3 arg4 harg4 arg5 harg5 arg6 harg6 arg7 harg7 arg8 harg8 arg9 harg9 f2 f3 f4 f5 f6 f7 f8 k).1 f9) y
      = tile (arg2.view.read (Elt F) f2) (arg3.view.read (Elt F) f3) (arg4.view.read (Elt F) f4) (arg5.view.read (Elt F) f5)
          (arg6.view.read (Elt F) f6) (arg7.view.read (Elt F) f7) (arg8.view.read (Elt F) f8) k x := by
  have e : tile (arg2.view.read (Elt F) f2) (arg3.view.read (Elt F) f3) (arg4.view.read (Elt F) f4) (arg5.view.read (Elt F) f5)
          (arg6.view.read (Elt F) f6) (arg7.view.read (Elt F) f7) (arg8.view.read (Elt F) f8) k
      = if redo (qT arg2 f2 k) (cC arg3 f3) (cC arg4 f4) (cL arg6 f6) (cL arg7 f7) = 1#1
        then out2 (qT arg2 f2 k) (cC arg3 f3) (cC arg4 f4) (cC arg5 f5) (cL arg6 f6) (cL arg7 f7) (cL arg8 f8)
        else out1 (qT arg2 f2 k) (cC arg3 f3) (cC arg4 f4) (cC arg5 f5) (cL arg6 f6) (cL arg7 f7) (cL arg8 f8) := rfl
  rw [e]
  unfold tripRun
  dsimp only
  rw [e_test]
  by_cases hc : redo (qT arg2 f2 k) (cC arg3 f3) (cC arg4 f4) (cL arg6 f6) (cL arg7 f7) = 1#1
  · rw [dif_pos hc, if_pos hc]
    refine (View.read_writes_cons_rows_of_mem (d := ![4096, 128]) _ _ _ _ _ y x (off3_eq k) h0 h1).trans ?_
    rw [e_r, e_r_42, e_r_43, e_r_44]
    rfl
  · rw [dif_neg hc, if_neg hc]
    unfold tripRun.sl.H9_1
    refine (View.read_writes_cons_rows_of_mem (d := ![4096, 128]) _ _ _ _ _ y x (off2_eq k) h0 h1).trans ?_
    rw [e_r_19]
    rfl

/-- A row outside the trip's tile keeps what it held. -/
theorem trip_read_not_mem (f9 : Buf (Elt F) (arg9.view.loc (c : Thread nD τ))) (y : S4096x128.Idx)
    (h : (y (0 : Fin 2)).val < 1024 * k.val ∨ 1024 * k.val + 1024 ≤ (y (0 : Fin 2)).val) :
    arg9.view.read (Elt F) ((tripRun c i arg2 harg2 arg3 harg3 arg4 harg4 arg5 harg5 arg6 harg6 arg7 harg7 arg8 harg8 arg9 harg9 f2 f3 f4 f5 f6 f7 f8 k).1 f9) y
      = arg9.view.read (Elt F) f9 y := by
  unfold tripRun
  dsimp only
  split
  · refine (View.read_writes_cons_rows_of_not_mem (d := ![4096, 128]) _ _ _ _ _ y (off3_eq k) rfl h).trans ?_
    unfold tripRun.sl.H9_1
    refine (View.read_writes_cons_rows_of_not_mem (d := ![4096, 128]) _ _ _ _ _ y (off2_eq k) rfl h).trans ?_
    rfl
  · unfold tripRun.sl.H9_1
    refine (View.read_writes_cons_rows_of_not_mem (d := ![4096, 128]) _ _ _ _ _ y (off2_eq k) rfl h).trans ?_
    rfl

end Reads

end Cert.KernelIdeal.Att

end
-- ==== Proof.Body.lean ====
/- The attention kernel's body and its launch, at any float values. -/
module

public import proofs.«01_k».proof.Proof.Out
public import Idealize.ShloMosaic.Lib.Pipeline.Frame

@[expose] public section

set_option maxRecDepth 4096

noncomputable section

namespace Cert.KernelIdeal.Att

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation BodyObligationLoose)
open Cert.KernelIdeal Cert.KernelIdeal.Gen

variable {F : FTy → Type} [FloatOps F]

local notation "𝕄" => MT nD τ sig Unit (Elt F) ℕ (UR sig nD τ) ℕ

section Body

variable (c : Dev nD) (i : grid0.Coords)
  (arg2 : Memref sig .tc .vmem S4096x256 .bf16) (harg2 : arg2.IsWhole) (arg3 : Memref sig .tc .vmem S256x128 .bf16) (harg3 : arg3.IsWhole)
  (arg4 : Memref sig .tc .vmem S256x128 .bf16) (harg4 : arg4.IsWhole) (arg5 : Memref sig .tc .vmem S256x128 .bf16) (harg5 : arg5.IsWhole)
  (arg6 : Memref sig .tc .vmem S4096x128 .bf16) (harg6 : arg6.IsWhole) (arg7 : Memref sig .tc .vmem S4096x128 .bf16) (harg7 : arg7.IsWhole)
  (arg8 : Memref sig .tc .vmem S4096x128 .bf16) (harg8 : arg8.IsWhole) (arg9 : Memref sig .tc .vmem S4096x128 .bf16) (harg9 : arg9.IsWhole)
  (f2 : Buf (Elt F) (arg2.view.loc (c : Thread nD τ))) (f3 : Buf (Elt F) (arg3.view.loc (c : Thread nD τ)))
  (f4 : Buf (Elt F) (arg4.view.loc (c : Thread nD τ))) (f5 : Buf (Elt F) (arg5.view.loc (c : Thread nD τ)))
  (f6 : Buf (Elt F) (arg6.view.loc (c : Thread nD τ))) (f7 : Buf (Elt F) (arg7.view.loc (c : Thread nD τ)))
  (f8 : Buf (Elt F) (arg8.view.loc (c : Thread nD τ))) (f9 : Buf (Elt F) (arg9.view.loc (c : Thread nD τ)))

/-- The output block's contents before trip `k`, from `f9`. -/
def oAcc : ℕ → Buf (Elt F) (arg9.view.loc (c : Thread nD τ))
  | 0 => f9
  | k + 1 => if h : k < k0_t1_loop.trips then
      (tripRun c i arg2 harg2 arg3 harg3 arg4 harg4 arg5 harg5 arg6 harg6 arg7 harg7 arg8 harg8 arg9 harg9 f2 f3 f4 f5 f6 f7 f8 ⟨k, h⟩).1 (oAcc k)
    else oAcc k

/-- One more trip. -/
theorem oAcc_succ (k : Fin k0_t1_loop.trips) :
    oAcc c i arg2 harg2 arg3 harg3 arg4 harg4 arg5 harg5 arg6 harg6 arg7 harg7 arg8 harg8 arg9 harg9 f2 f3 f4 f5 f6 f7 f8 f9 (k.val + 1)
      = (tripRun c i arg2 harg2 arg3 harg3 arg4 harg4 arg5 harg5 arg6 harg6 arg7 harg7 arg8 harg8 arg9 harg9 f2 f3 f4 f5 f6 f7 f8 k).1
          (oAcc c i arg2 harg2 arg3 harg3 arg4 harg4 arg5 harg5 arg6 harg6 arg7 harg7 arg8 harg8 arg9 harg9 f2 f3 f4 f5 f6 f7 f8 f9 k.val) := by
  rw [oAcc, dif_pos k.isLt]

/-- Before trip `n` the rows of the trips gone by hold the output. -/
theorem oAcc_read (n : ℕ) (hn : n ≤ k0_t1_loop.trips) (y : S4096x128.Idx) (hy : (y (0 : Fin 2)).val < 1024 * n) :
    arg9.view.read (Elt F) (oAcc c i arg2 harg2 arg3 harg3 arg4 harg4 arg5 harg5 arg6 harg6 arg7 harg7 arg8 harg8 arg9 harg9 f2 f3 f4 f5 f6 f7 f8 f9 n) y
      = OUT (arg2.view.read (Elt F) f2) (arg3.view.read (Elt F) f3) (arg4.view.read (Elt F) f4) (arg5.view.read (Elt F) f5)
          (arg6.view.read (Elt F) f6) (arg7.view.read (Elt F) f7) (arg8.view.read (Elt F) f8) y := by
  induction n with
  | zero => exact absurd hy (by omega)
  | succ k ih =>
    have e := oAcc_succ c i arg2 harg2 arg3 harg3 arg4 harg4 arg5 harg5 arg6 harg6 arg7 harg7 arg8 harg8 arg9 harg9 f2 f3 f4 f5 f6 f7 f8 f9 ⟨k, hn⟩
    dsimp only at e
    rw [e]
    by_cases hk : (y (0 : Fin 2)).val < 1024 * k
    · rw [trip_read_not_mem _ _ _ _ _ _ _ _ _ _ _ _ _ _ _ _ _ _ _ _ _ _ _ _ _ _ _ y (Or.inl hk)]
      exact ih (by omega) hk
    · have h0 : (y (0 : Fin 2)).val / 1024 = k := by omega
      rw [trip_read_mem _ _ _ _ _ _ _ _ _ _ _ _ _ _ _ _ _ _ _ _ _ _ _ _ _ _ _ y
        (ix2 ⟨(y 0).val % 1024, Nat.mod_lt _ (by decide)⟩ ⟨(y 1).val, (y 1).isLt⟩)
        (show (y (0 : Fin 2)).val = 1024 * k + (y (0 : Fin 2)).val % 1024 by omega) rfl]
      unfold OUT
      have hf : (⟨k, hn⟩ : Fin k0_t1_loop.trips) = ⟨(y (0 : Fin 2)).val / 1024, by omega⟩ := Fin.ext h0.symm
      rw [hf]

set_option warn.classDefReducibility false in
/-- The loop's invariant: the inputs as found, the output block as the trips so far left it. -/
@[sl_loop] def loopInv : LoopInvTy_k0_t1 (F := F) Unit ℕ (UR sig nD τ) ℕ 𝒱₀ c none Set.univ i arg2 harg2 arg3 harg3 arg4 harg4 arg5 harg5 arg6 harg6 arg7 harg7 arg8 harg8 arg9 harg9 where
  inv k _ := Res c arg2 arg3 arg4 arg5 arg6 arg7 arg8 arg9 f2 f3 f4 f5 f6 f7 f8
    (oAcc c i arg2 harg2 arg3 harg3 arg4 harg4 arg5 harg5 arg6 harg6 arg7 harg7 arg8 harg8 arg9 harg9 f2 f3 f4 f5 f6 f7 f8 f9 k)
  step k _ := by
    rw [oAcc_succ]
    exact (tripRun c i arg2 harg2 arg3 harg3 arg4 harg4 arg5 harg5 arg6 harg6 arg7 harg7 arg8 harg8 arg9 harg9 f2 f3 f4 f5 f6 f7 f8 k).2 _

/-- The body: the inputs stay, the output block becomes what four trips leave. -/
theorem bodyRun :
    Res c arg2 arg3 arg4 arg5 arg6 arg7 arg8 arg9 f2 f3 f4 f5 f6 f7 f8 f9
      ⊢ wp frame (wpE (defs₀ (F := F)) 𝒱₀ (c : Thread nD τ) none) Set.univ
          (cc0_mla_attention (F := F) i arg2 harg2 arg3 harg3 arg4 harg4 arg5 harg5 arg6 harg6 arg7 harg7 arg8 harg8 arg9 harg9)
          (fun _ => Res c arg2 arg3 arg4 arg5 arg6 arg7 arg8 arg9 f2 f3 f4 f5 f6 f7 f8
            (oAcc c i arg2 harg2 arg3 harg3 arg4 harg4 arg5 harg5 arg6 harg6 arg7 harg7 arg8 harg8 arg9 harg9 f2 f3 f4 f5 f6 f7 f8 f9 k0_t1_loop.trips)) := by
  iintro ⟨H2, H3, H4, H5, H6, H7, H8, H9⟩
  sl_exec
  sl_step
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end Body

/-! ## The launch -/

section Launch

variable (m : (ℓ : Loc nD τ sig) → Buf (Elt F) ℓ) (ρ : Dev nD → PrngReg)

/-- The proof data: the arrays as the region finds them, the inputs' blocks left in place, the output's block. -/
def dats (_ : Fin 1) (c : Dev nD) : Dat τ (Elt F) Unit ℕ (UR sig nD τ) ℕ cfg0 c where
  A w := Gen.V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => OUT (iblk m c 0 t) (iblk m c 1 t) (iblk m c 2 t) (iblk m c 3 t) (iblk m c 4 t) (iblk m c 5 t) (iblk m c 6 t)
  Φ _ := Pipeline.ΦA spec0 c
  q w := Pipeline.shareOf spec0 w
  owed _ := 0

/-- A point finds its block of the queries in the buffer. -/
theorem before_w0 (c : Dev nD) (t : Fin cfg0.N) (d) : (dats m 0 c).before 0 t d = iblk m c 0 t := before0_0_of m _ rfl (fun _ => rfl) t d
/-- A point finds its block of the context keys in the buffer. -/
theorem before_w1 (c : Dev nD) (t : Fin cfg0.N) (d) : (dats m 0 c).before 1 t d = iblk m c 1 t := before0_1_of m _ rfl (fun _ => rfl) t d
/-- A point finds its block of the context keys with position in the buffer. -/
theorem before_w2 (c : Dev nD) (t : Fin cfg0.N) (d) : (dats m 0 c).before 2 t d = iblk m c 2 t := before0_2_of m _ rfl (fun _ => rfl) t d
/-- A point finds its block of the context values in the buffer. -/
theorem before_w3 (c : Dev nD) (t : Fin cfg0.N) (d) : (dats m 0 c).before 3 t d = iblk m c 3 t := before0_3_of m _ rfl (fun _ => rfl) t d
/-- A point finds its block of the latent keys in the buffer. -/
theorem before_w4 (c : Dev nD) (t : Fin cfg0.N) (d) : (dats m 0 c).before 4 t d = iblk m c 4 t := before0_4_of m _ rfl (fun _ => rfl) t d
/-- A point finds its block of the latent keys with position in the buffer. -/
theorem before_w5 (c : Dev nD) (t : Fin cfg0.N) (d) : (dats m 0 c).before 5 t d = iblk m c 5 t := before0_5_of m _ rfl (fun _ => rfl) t d
/-- A point finds its block of the latent values in the buffer. -/
theorem before_w6 (c : Dev nD) (t : Fin cfg0.N) (d) : (dats m 0 c).before 6 t d = iblk m c 6 t := before0_6_of m _ rfl (fun _ => rfl) t d

/-- What the body leaves in the output's staging buffer reads the output block. -/
theorem oAcc_read_all (c : Dev nD) (i : grid0.Coords)
    (arg2 : Memref sig .tc .vmem S4096x256 .bf16) (harg2 : arg2.IsWhole) (arg3 : Memref sig .tc .vmem S256x128 .bf16) (harg3 : arg3.IsWhole)
    (arg4 : Memref sig .tc .vmem S256x128 .bf16) (harg4 : arg4.IsWhole) (arg5 : Memref sig .tc .vmem S256x128 .bf16) (harg5 : arg5.IsWhole)
    (arg6 : Memref sig .tc .vmem S4096x128 .bf16) (harg6 : arg6.IsWhole) (arg7 : Memref sig .tc .vmem S4096x128 .bf16) (harg7 : arg7.IsWhole)
    (arg8 : Memref sig .tc .vmem S4096x128 .bf16) (harg8 : arg8.IsWhole) (arg9 : Memref sig .tc .vmem S4096x128 .bf16) (harg9 : arg9.IsWhole)
    (f2 : Buf (Elt F) (arg2.view.loc (c : Thread nD τ))) (f3 : Buf (Elt F) (arg3.view.loc (c : Thread nD τ)))
    (f4 : Buf (Elt F) (arg4.view.loc (c : Thread nD τ))) (f5 : Buf (Elt F) (arg5.view.loc (c : Thread nD τ)))
    (f6 : Buf (Elt F) (arg6.view.loc (c : Thread nD τ))) (f7 : Buf (Elt F) (arg7.view.loc (c : Thread nD τ)))
    (f8 : Buf (Elt F) (arg8.view.loc (c : Thread nD τ))) (f9 : Buf (Elt F) (arg9.view.loc (c : Thread nD τ))) :
    arg9.view.read (Elt F) (oAcc c i arg2 harg2 arg3 harg3 arg4 harg4 arg5 harg5 arg6 harg6 arg7 harg7 arg8 harg8 arg9 harg9 f2 f3 f4 f5 f6 f7 f8 f9 k0_t1_loop.trips)
      = OUT (arg2.view.read (Elt F) f2) (arg3.view.read (Elt F) f3) (arg4.view.read (Elt F) f4) (arg5.view.read (Elt F) f5)
          (arg6.view.read (Elt F) f6) (arg7.view.read (Elt F) f7) (arg8.view.read (Elt F) f8) :=
  funext fun y => oAcc_read c i arg2 harg2 arg3 harg3 arg4 harg4 arg5 harg5 arg6 harg6 arg7 harg7 arg8 harg8 arg9 harg9 f2 f3 f4 f5 f6 f7 f8 f9
    k0_t1_loop.trips le_rfl y (by have h : (y 0).val < 4096 := (y 0).isLt; rw [trips_eq]; omega)

/-- The body table's entry is the kernel on the point's staging buffers, first the function, then its application. -/
theorem defs_tc : (defs₀ (F := F)) .tc cfg0.body
    = fun a => cc0_mla_attention (F := F) (grid0.coords a.1) (win0_0.stage (a.2 0)) (hstage0_0 ((a.2 0).cast nbuf0_0)) (win0_1.stage (a.2 1)) (hstage0_1 ((a.2 1).cast nbuf0_1))
        (win0_2.stage (a.2 2)) (hstage0_2 ((a.2 2).cast nbuf0_2)) (win0_3.stage (a.2 3)) (hstage0_3 ((a.2 3).cast nbuf0_3))
        (win0_4.stage (a.2 4)) (hstage0_4 ((a.2 4).cast nbuf0_4)) (win0_5.stage (a.2 5)) (hstage0_5 ((a.2 5).cast nbuf0_5))
        (win0_6.stage (a.2 6)) (hstage0_6 ((a.2 6).cast nbuf0_6)) (win0_7.stage (a.2 7)) (hstage0_7 ((a.2 7).cast nbuf0_7)) := rfl

/-- The kernel at a point. -/
theorem prog_eq (t : Fin cfg0.N) : (defs₀ (F := F)) .tc cfg0.body (cfg0.bodyArgs t (cfg0.slots t)) = bodyAt0 t :=
  (congrFun defs_tc _).trans rfl

set_option backward.isDefEq.respectTransparency.types false in
/-- Every point's body meets the pipeline's proof data. -/
theorem body_obligation (c : Dev nD) : BodyObligation (dats (F := F) m 0 c) (defs₀ (F := F)) 𝒱₀ () Set.univ := fun t => by
  rw [bigSep_W0, bigSep_W0]
  dsimp only
  simp only [before_w0, before_w1, before_w2, before_w3, before_w4, before_w5, before_w6]
  rw [show (dats m 0 c).Φ t.castSucc = Pipeline.ΦA spec0 c from rfl, show (dats m 0 c).Φ t.succ = Pipeline.ΦA spec0 c from rfl]
  unfold Dat.owesAt Pipeline.owesWithin
  rw [show (dats m 0 c).owed t.castSucc = 0 from rfl, show (dats m 0 c).owed t.succ = 0 from rfl]
  unfold owns
  iintro ⟨HΦ, Howe, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩, ⟨%d6, %g6, %h6, H6⟩, ⟨%d7, %g7, -, H7⟩⟩
  sl_rw [prog_eq t]
  iapply (wp_wand_r Idealize.ShloMosaic.frame (wpE (defs₀ (F := F)) 𝒱₀ (c : Thread nD τ) none) Set.univ)
  isplitl [H0 H1 H2 H3 H4 H5 H6 H7]
  · iapply (bodyRun c (grid0.coords t) _ _ _ _ _ _ _ _ _ _ _ _ _ _ _ _ g0 g1 g2 g3 g4 g5 g6 g7)
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iintro %_ ⟨H0, H1, H2, H3, H4, H5, H6, H7⟩
    isplitl [HΦ]; · iexact HΦ
    isplitl [Howe]; · iexact Howe
    isplitl [H0]
    · iexists g0; isplitr; · ipureintro; exact h0
      iexact H0
    isplitl [H1]
    · iexists g1; isplitr; · ipureintro; exact h1
      iexact H1
    isplitl [H2]
    · iexists g2; isplitr; · ipureintro; exact h2
      iexact H2
    isplitl [H3]
    · iexists g3; isplitr; · ipureintro; exact h3
      iexact H3
    isplitl [H4]
    · iexists g4; isplitr; · ipureintro; exact h4
      iexact H4
    isplitl [H5]
    · iexists g5; isplitr; · ipureintro; exact h5
      iexact H5
    isplitl [H6]
    · iexists g6; isplitr; · ipureintro; exact h6
      iexact H6
    iexists _
    isplitr
    swap; · iexact H7
    ipureintro
    refine (oAcc_read_all c (grid0.coords t) _ _ _ _ _ _ _ _ _ _ _ _ _ _ _ _ g0 g1 g2 g3 g4 g5 g6 g7).trans ?_
    rw [h0, h1, h2, h3, h4, h5, h6]
    rfl

/-- The run: from any memory with zero counters the program ends, the arrays at the pipeline's contents, everything
    else as launched, every counter at zero. -/
theorem run_main : θ_run defs (onTc (τ := τ) (main (F := F))) (s₀ m ρ)
    (fun r => Pipeline.FramePost cfgs (dats m) 0 (Gen.V m) r ∧ r.2.sem = fun _ => 0) :=
  Pipeline.θ_run_frame_shared cfgs (dats m) 0 Gen.launch₀0 defs₀ 𝒱₀ m ρ main
    (fun c => (body_obligation m c).loose) (fun _ _ _ => rfl) (fun _ _ => rfl)
    (V := Gen.V m) (hmain := Gen.hmain m 𝒱₀) (hA := fun _ _ => rfl) (hΦ := fun _ _ => rfl) (Q' := _)

/-- The arguments end as launched, every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  θ_run_with_sems (Gen.frame_of m ρ (dats m) (fun _ _ => rfl)) (run_main m ρ)

end Launch

end Cert.KernelIdeal.Att

end
-- ==== Proof.Frames.lean ====
/- The frames of the attention kernel, of its ideal reading and of the reference. -/
module
public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Body
public import Idealize.ShloMosaic.Lib.Quiescent

@[expose] public section

noncomputable section
namespace Cert.Proof
open Idealize.ShloMosaic Idealize.SL.Sem Idealize.ShloMosaic.Tactic

/-- The kernel's frame, spelled with the ideal program's text at the bit-level values. -/
def FrameAtBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

/-- The two spellings of the kernel's frame are one statement. -/
theorem frame_at_bits : FrameAtBits = Cert.quiescent_Kernel := by sl_kernel_rfl

/-- The kernel runs, leaves its arguments and ends with every counter at zero. -/
theorem frame_kernel : Cert.quiescent_Kernel := frame_at_bits ▸ fun m ρ _ => Cert.KernelIdeal.Att.run_frame (F := Bits) m ρ

/-- The ideal kernel runs, leaves its arguments and ends with every counter at zero. -/
theorem frame_ideal : Cert.quiescent_KernelIdeal := fun m ρ _ => Cert.KernelIdeal.Att.run_frame (F := Ideal) m ρ

/-- The reference runs, leaves its arguments and ends with every counter at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Soft.lean ====
/- The softmax over the extended reals: a weighted mean of the values does not depend on the reference that is taken off
   the scores before the powers are formed, and the running form with its corrections computes the same mean. -/
module

public import Idealize.ShloMosaic.Lib.Pointwise

@[expose] public section

noncomputable section

namespace Cert.Soft

open Idealize.ShloMosaic

/-- A nonnegative real goes through a sum of extended reals. -/
theorem mul_sum_coe {ι : Type} (S : Finset ι) (c : ℝ) (hc : 0 ≤ c) (f : ι → EReal) :
    (c : EReal) * ∑ i ∈ S, f i = ∑ i ∈ S, (c : EReal) * f i := by
  classical
  induction S using Finset.induction_on with
  | empty => simp
  | insert a S ha ih =>
    rw [Finset.sum_insert ha, Finset.sum_insert ha, ← ih]
    exact EReal.left_distrib_of_nonneg_of_ne_top (by exact_mod_cast hc) (EReal.coe_ne_top c) _ _

/-- A sum of reals, read as extended reals, is the sum of their readings. -/
theorem coe_sum' {ι : Type} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, ← ih, EReal.coe_add]

/-- A fold of the maximum over reals that starts from the least element is a real, if there is a term at all. -/
theorem fold_max_real {ι : Type} (S : Finset ι) (hS : S.Nonempty) (f : ι → ℝ) (b : EReal) (hb : b ≠ ⊤) :
    ∃ r : ℝ, S.fold max b (fun i => (f i : EReal)) = (r : EReal) := by
  have h1 : S.fold max b (fun i => (f i : EReal)) ≠ ⊤ := by
    have : S.fold max b (fun i => (f i : EReal)) < ⊤ :=
      (Finset.fold_max_lt _).mpr ⟨lt_top_iff_ne_top.mpr hb, fun i _ => EReal.coe_lt_top _⟩
    exact this.ne
  have h2 : S.fold max b (fun i => (f i : EReal)) ≠ ⊥ := by
    obtain ⟨i, hi⟩ := hS
    have : ((f i : ℝ) : EReal) ≤ S.fold max b (fun i => (f i : EReal)) :=
      (Finset.le_fold_max _).mpr (Or.inr ⟨i, hi, le_rfl⟩)
    intro h
    rw [h] at this
    exact EReal.coe_ne_bot _ (le_bot_iff.mp this)
  exact ⟨_, (EReal.coe_toReal h1 h2).symm⟩

variable (s0 : Fin 256 → ℝ) (s : ℕ → Fin 512 → ℝ) (v0 : Fin 256 → EReal) (v : ℕ → Fin 512 → EReal)

/-- The sum of the weights `2^(score − r)` over the context keys and the first `n` chunks. -/
def wt (r : ℝ) : ℕ → ℝ
  | 0 => ∑ j, Real.rpow 2 (s0 j - r)
  | n + 1 => wt r n + ∑ j, Real.rpow 2 (s n j - r)

/-- The sum of the weighted values over the context keys and the first `n` chunks. -/
def vt (r : ℝ) : ℕ → EReal
  | 0 => ∑ j, (Real.rpow 2 (s0 j - r) : EReal) * v0 j
  | n + 1 => vt r n + ∑ j, (Real.rpow 2 (s n j - r) : EReal) * v n j

/-- The weighted mean of the values, the reference being zero. -/
def mean (n : ℕ) : EReal := vt s0 s v0 v 0 n * ((wt s0 s 0 n)⁻¹ : ℝ)

/-- A power of two is positive. -/
theorem rpow2_pos (x : ℝ) : 0 < Real.rpow 2 x := Real.rpow_pos_of_pos (by norm_num) x

/-- Powers of two multiply by adding exponents. -/
theorem rpow2_mul (x y : ℝ) : Real.rpow 2 x * Real.rpow 2 y = Real.rpow 2 (x + y) :=
  (Real.rpow_add (by norm_num) x y).symm

/-- The sum of the weights is positive. -/
theorem wt_pos (r : ℝ) (n : ℕ) : 0 < wt s0 s r n := by
  induction n with
  | zero => exact Finset.sum_pos (fun j _ => rpow2_pos _) ⟨0, Finset.mem_univ _⟩
  | succ n ih => exact add_pos ih (Finset.sum_pos (fun j _ => rpow2_pos _) ⟨0, Finset.mem_univ _⟩)

/-- Another reference scales the sum of the weights. -/
theorem wt_scale (r r' : ℝ) (n : ℕ) : Real.rpow 2 (r - r') * wt s0 s r n = wt s0 s r' n := by
  induction n with
  | zero =>
    rw [wt, wt, Finset.mul_sum]
    refine Finset.sum_congr rfl fun j _ => ?_
    rw [rpow2_mul]; congr 1; ring
  | succ n ih =>
    rw [wt, wt, mul_add, ih, Finset.mul_sum]
    congr 1
    refine Finset.sum_congr rfl fun j _ => ?_
    rw [rpow2_mul]; congr 1; ring

/-- Another reference scales the sum of the weighted values by the same factor. -/
theorem vt_scale (r r' : ℝ) (n : ℕ) : (Real.rpow 2 (r - r') : EReal) * vt s0 s v0 v r n = vt s0 s v0 v r' n := by
  have key : ∀ (x : ℝ) (y : EReal), (Real.rpow 2 (r - r') : EReal) * ((Real.rpow 2 (x - r) : EReal) * y)
      = (Real.rpow 2 (x - r') : EReal) * y := fun x y => by
    rw [← mul_assoc, ← EReal.coe_mul, rpow2_mul]
    congr 3; ring
  have h0 : 0 ≤ Real.rpow 2 (r - r') := (rpow2_pos _).le
  induction n with
  | zero =>
    rw [vt, vt, mul_sum_coe _ _ h0]
    exact Finset.sum_congr rfl fun j _ => key _ _
  | succ n ih =>
    rw [vt, vt, EReal.left_distrib_of_nonneg_of_ne_top (by exact_mod_cast h0) (EReal.coe_ne_top _), ih,
      mul_sum_coe _ _ h0]
    congr 1
    exact Finset.sum_congr rfl fun j _ => key _ _

/-- The quotient of extended reals by a positive real. -/
theorem div_coe (x : EReal) (y : ℝ) (hy : 0 < y) : Ideal.div x (y : EReal) = x * ((y⁻¹ : ℝ) : EReal) := by
  have : (y : EReal) ≠ 0 := by exact_mod_cast hy.ne'
  rw [Ideal.div, if_neg this, EReal.coe_inv]

/-- **The mean at any reference.** -/
theorem div_eq_mean (r : ℝ) (n : ℕ) : Ideal.div (vt s0 s v0 v r n) (wt s0 s r n : EReal) = mean s0 s v0 v n := by
  rw [div_coe _ _ (wt_pos s0 s r n), mean, ← vt_scale s0 s v0 v 0 r n, ← wt_scale s0 s 0 r n, mul_inv,
    EReal.coe_mul, mul_comm (Real.rpow 2 (0 - r) : EReal), mul_assoc, ← mul_assoc (Real.rpow 2 (0 - r) : EReal),
    ← EReal.coe_mul, mul_inv_cancel₀ (rpow2_pos _).ne', EReal.coe_one, one_mul]

/-- A step of the running form corrects the sum so far to the new reference. -/
theorem vt_step (r r' : ℝ) (n : ℕ) :
    Ideal.exp2 ((r : EReal) - (r' : EReal)) * vt s0 s v0 v r n + ∑ j, (Real.rpow 2 (s n j - r') : EReal) * v n j
      = vt s0 s v0 v r' (n + 1) := by
  rw [← EReal.coe_sub, Ideal.exp2_coe, vt_scale, vt]

/-- A step of the running form corrects the total weight so far to the new reference score. -/
theorem wt_step (r r' : ℝ) (n : ℕ) :
    Ideal.exp2 ((r : EReal) - (r' : EReal)) * (wt s0 s r n : EReal) + ∑ j, (Real.rpow 2 (s n j - r') : EReal)
      = (wt s0 s r' (n + 1) : EReal) := by
  rw [← EReal.coe_sub, Ideal.exp2_coe, ← EReal.coe_mul, wt_scale, wt, EReal.coe_add, coe_sum']

/-- The mean written with the normalized weights, as a softmax followed by a product. -/
theorem mean_eq_sum (r : ℝ) (n : ℕ) :
    mean s0 s v0 v n = (∑ j, ((Real.rpow 2 (s0 j - r) * (wt s0 s r n)⁻¹ : ℝ) : EReal) * v0 j)
      + ∑ c : Fin n, ∑ j, ((Real.rpow 2 (s c j - r) * (wt s0 s r n)⁻¹ : ℝ) : EReal) * v c j := by
  rw [← div_eq_mean s0 s v0 v r n, div_coe _ _ (wt_pos s0 s r n), mul_comm]
  generalize hw : (wt s0 s r n)⁻¹ = w
  have hw0 : 0 ≤ w := by rw [← hw]; exact (inv_pos.mpr (wt_pos s0 s r n)).le
  clear hw
  have key : ∀ (x : ℝ) (y : EReal), (w : EReal) * ((x : EReal) * y) = ((x * w : ℝ) : EReal) * y := fun x y => by
    rw [← mul_assoc, ← EReal.coe_mul, mul_comm w]
  induction n with
  | zero =>
    rw [vt, mul_sum_coe _ _ hw0, Finset.sum_congr rfl fun j _ => key _ _]
    simp
  | succ n ih =>
    rw [vt, EReal.left_distrib_of_nonneg_of_ne_top (by exact_mod_cast hw0) (EReal.coe_ne_top _), ih,
      mul_sum_coe _ _ hw0, Finset.sum_congr rfl fun j _ => key _ _, Fin.sum_univ_castSucc (n := n), add_assoc]
    rfl

end Cert.Soft

end
-- ==== Proof.Spec.lean ====
/- One element of the attention, from one query row, the keys and one column of the values; the kernel's spelling of its
   scores and the reference's spelling of the whole both reduce to it where queries and keys are finite. -/
module

public import proofs.«01_k».proof.Proof.Soft

@[expose] public section

noncomputable section

namespace Cert.Soft

open Idealize.ShloMosaic

/-- The value of the scale's literal, `192^(-1/2)` as the arguments' format holds it. -/
def scl : ℝ := 4843165 / 67108864

/-- The scale in powers of two. -/
def kap : ℝ := scl / Real.log 2

/-- The scale's literal. -/
theorem ofBits_scl : Ideal.ofBits FTy.f32 0x3D93CD3A#32 = (scl : EReal) := by
  simp [Ideal.ofBits, Ideal.ieee, scl]
  rw [← EReal.coe_mul]
  norm_num

/-- The literal two. -/
theorem ofBits_two : Ideal.ofBits FTy.f32 0x40000000#32 = ((2 : ℝ) : EReal) := by
  simp [Ideal.ofBits, Ideal.ieee]
  rw [← EReal.coe_mul]
  norm_num

/-- The logarithm of two is positive. -/
theorem log2_pos : 0 < Real.log 2 := Real.log_pos (by norm_num)

/-- The scale that the host forms: the literal over the logarithm of two. -/
theorem host_scale : Ideal.div (Ideal.ofBits FTy.f32 0x3D93CD3A#32) (Ideal.log (Ideal.ofBits FTy.f32 0x40000000#32)) = (kap : EReal) := by
  rw [ofBits_scl, ofBits_two, Ideal.log_coe, if_neg (by norm_num), div_coe _ _ log2_pos, ← EReal.coe_mul, kap, div_eq_mul_inv]

/-- All elements are real numbers. -/
def Finite {ι : Type} (x : ι → EReal) : Prop := ∀ i, x i = ((x i).toReal : EReal)

section Row

variable (q : Fin 128 → EReal) (p : Fin 64 → EReal)

/-- The dot of a query row with a key row, the two parts of each. -/
def dot (k : Fin 128 → EReal) (k' : Fin 64 → EReal) : ℝ :=
  (∑ x, (q x).toReal * (k x).toReal) + ∑ x, (p x).toReal * (k' x).toReal

variable (hq : ∀ x, q x = ((q x).toReal : EReal)) (hp : ∀ x, p x = ((p x).toReal : EReal))

include hq hp in
/-- The kernel's score: scaled queries, the rotary half beside a second copy that meets zeros. -/
theorem score_kernel (k : Fin 128 → EReal) (k' : Fin 64 → EReal) (hk : ∀ x, k x = ((k x).toReal : EReal)) (hk' : ∀ x, k' x = ((k' x).toReal : EReal))
    (Q P K K' : Fin 128 → EReal) (eQ : ∀ x, Q x = q x * (kap : EReal)) (eK : ∀ x, K x = k x)
    (eP : ∀ x : Fin 64, P ⟨x, by omega⟩ = p x * (kap : EReal)) (eK' : ∀ x : Fin 64, K' ⟨x, by omega⟩ = k' x)
    (eZ : ∀ x : Fin 64, K' ⟨64 + x, by omega⟩ = 0) :
    (∑ x, Q x * K x) + ∑ x, P x * K' x = ((dot q p k k' * kap : ℝ) : EReal) := by
  have e2 : ∑ x, P x * K' x = ∑ x : Fin 64, P ⟨x, by omega⟩ * K' ⟨x, by omega⟩ + ∑ x : Fin 64, P ⟨64 + x, by omega⟩ * K' ⟨64 + x, by omega⟩ :=
    Fin.sum_univ_add (a := 64) (b := 64) fun x : Fin 128 => P x * K' x
  rw [e2]
  simp only [eQ, eK, eP, eK', eZ, mul_zero, Finset.sum_const_zero, add_zero]
  have f1 : ∀ x, q x * (kap : EReal) * k x = (((q x).toReal * (k x).toReal * kap : ℝ) : EReal) := fun x => by
    conv_lhs => rw [hq x, hk x]
    rw [← EReal.coe_mul, ← EReal.coe_mul, mul_right_comm]
  have f2 : ∀ x, p x * (kap : EReal) * k' x = (((p x).toReal * (k' x).toReal * kap : ℝ) : EReal) := fun x => by
    conv_lhs => rw [hp x, hk' x]
    rw [← EReal.coe_mul, ← EReal.coe_mul, mul_right_comm]
  rw [Finset.sum_congr rfl fun x _ => f1 x, Finset.sum_congr rfl fun x _ => f2 x, ← coe_sum', ← coe_sum', ← EReal.coe_add,
    dot, add_mul, Finset.sum_mul, Finset.sum_mul]

include hq hp in
/-- The reference's score. -/
theorem score_ref (k : Fin 128 → EReal) (k' : Fin 64 → EReal) (hk : ∀ x, k x = ((k x).toReal : EReal)) (hk' : ∀ x, k' x = ((k' x).toReal : EReal)) :
    ((∑ x, q x * k x) + ∑ x, k' x * p x) * (scl : EReal) = ((dot q p k k' * scl : ℝ) : EReal) := by
  have f1 : ∀ x, q x * k x = (((q x).toReal * (k x).toReal : ℝ) : EReal) := fun x => by
    conv_lhs => rw [hq x, hk x]
    rw [← EReal.coe_mul]
  have f2 : ∀ x, k' x * p x = (((p x).toReal * (k' x).toReal : ℝ) : EReal) := fun x => by
    conv_lhs => rw [hp x, hk' x]
    rw [← EReal.coe_mul, mul_comm]
  rw [Finset.sum_congr rfl fun x _ => f1 x, Finset.sum_congr rfl fun x _ => f2 x, ← coe_sum', ← coe_sum', ← EReal.coe_add,
    ← EReal.coe_mul, dot]

variable (kc : Fin 256 → Fin 128 → EReal) (pc : Fin 256 → Fin 64 → EReal) (kl : Fin 4096 → Fin 128 → EReal) (pl : Fin 4096 → Fin 64 → EReal)
variable (vc : Fin 256 → EReal) (vl : Fin 4096 → EReal)

/-- The scores of the context keys. -/
def sc0 (j : Fin 256) : ℝ := dot q p (kc j) (pc j) * kap

/-- The scores of the latent keys, chunk by chunk. -/
def sc1 (n : ℕ) (j : Fin 512) : ℝ := if h : n < 8 then dot q p (kl ⟨512 * n + j, by omega⟩) (pl ⟨512 * n + j, by omega⟩) * kap else 0

/-- The latent values, chunk by chunk. -/
def val1 (n : ℕ) (j : Fin 512) : EReal := if h : n < 8 then vl ⟨512 * n + j, by omega⟩ else 0

/-- **One element of the attention.** -/
def att : EReal := mean (sc0 q p kc pc) (sc1 q p kl pl) vc (val1 vl) 8

/-- A sum over the latent keys, chunk by chunk. -/
theorem sum_chunks {M : Type} [AddCommMonoid M] (f : Fin 4096 → M) : ∑ x, f x = ∑ n : Fin 8, ∑ j : Fin 512, f ⟨512 * n + j, by omega⟩ := by
  rw [← Fintype.sum_prod_type' (fun (n : Fin 8) (j : Fin 512) => f ⟨512 * n + j, by omega⟩)]
  refine (Equiv.sum_comp (finProdFinEquiv (m := 8) (n := 512)) f).symm.trans (Finset.sum_congr rfl fun x _ => ?_)
  congr 1
  apply Fin.ext
  show x.2.val + 512 * x.1.val = 512 * x.1.val + x.2.val
  omega

/-- The sum of the weights over all chunks, as one sum. -/
theorem wt_eq (s0 : Fin 256 → ℝ) (s : ℕ → Fin 512 → ℝ) (r : ℝ) (n : ℕ) :
    wt s0 s r n = (∑ j, Real.rpow 2 (s0 j - r)) + ∑ c : Fin n, ∑ j, Real.rpow 2 (s c j - r) := by
  induction n with
  | zero => rw [wt]; simp
  | succ n ih => rw [wt, ih, Fin.sum_univ_castSucc (n := n), add_assoc]; rfl

/-- A power of `e` of a scaled score, as a power of two. -/
theorem exp_eq (a M : ℝ) : Real.exp (a * scl - M) = Real.rpow 2 (a * kap - M / Real.log 2) := by
  have h := log2_pos.ne'
  have e : Real.rpow 2 (a * kap - M / Real.log 2) = Real.exp (Real.log 2 * (a * kap - M / Real.log 2)) :=
    Real.rpow_def_of_pos (by norm_num) _
  rw [e, kap]
  congr 1
  field_simp

include hq hp in
/-- **The reference's spelling**: normalized weights, then their sum with the values. -/
theorem ref_eq_att (hkc : ∀ j x, kc j x = ((kc j x).toReal : EReal)) (hpc : ∀ j x, pc j x = ((pc j x).toReal : EReal))
    (hkl : ∀ j x, kl j x = ((kl j x).toReal : EReal)) (hpl : ∀ j x, pl j x = ((pl j x).toReal : EReal)) (M : ℝ)
    (W0 : Fin 256 → EReal) (W1 : Fin 4096 → EReal)
    (e0 : ∀ j, W0 j = Ideal.exp (((∑ x, q x * kc j x) + ∑ x, pc j x * p x) * (scl : EReal) - (M : EReal)))
    (e1 : ∀ j, W1 j = Ideal.exp (((∑ x, q x * kl j x) + ∑ x, pl j x * p x) * (scl : EReal) - (M : EReal))) :
    (∑ j, vc j * Ideal.div (W0 j) ((∑ j, W0 j) + ∑ j, W1 j)) + ∑ j, vl j * Ideal.div (W1 j) ((∑ j, W0 j) + ∑ j, W1 j)
      = att q p kc pc kl pl vc vl := by
  have a0 : ∀ j, W0 j = (Real.rpow 2 (sc0 q p kc pc j - M / Real.log 2) : EReal) := fun j => by
    rw [e0, score_ref q p hq hp _ _ (hkc j) (hpc j), ← EReal.coe_sub, Ideal.exp_coe, exp_eq, sc0]
  have a1 : ∀ (n : Fin 8) (j : Fin 512), W1 ⟨512 * n + j, by omega⟩ = (Real.rpow 2 (sc1 q p kl pl n j - M / Real.log 2) : EReal) := fun n j => by
    rw [e1, score_ref q p hq hp _ _ (hkl _) (hpl _), ← EReal.coe_sub, Ideal.exp_coe, exp_eq, sc1, dif_pos n.isLt]
  have hL : (∑ j, W0 j) + ∑ j, W1 j = (wt (sc0 q p kc pc) (sc1 q p kl pl) (M / Real.log 2) 8 : EReal) := by
    rw [sum_chunks W1, Finset.sum_congr rfl fun j _ => a0 j, Finset.sum_congr rfl fun n _ => Finset.sum_congr rfl fun j _ => a1 n j,
      wt_eq, EReal.coe_add, coe_sum', coe_sum']
    simp only [coe_sum']
  rw [hL, att, mean_eq_sum _ _ _ _ (M / Real.log 2)]
  have hw := wt_pos (sc0 q p kc pc) (sc1 q p kl pl) (M / Real.log 2) 8
  generalize wt (sc0 q p kc pc) (sc1 q p kl pl) (M / Real.log 2) 8 = w at hw ⊢
  rw [sum_chunks fun j => vl j * Ideal.div (W1 j) (w : EReal)]
  congr 1
  · refine Finset.sum_congr rfl fun j _ => ?_
    rw [a0, div_coe _ _ hw, ← EReal.coe_mul, mul_comm]
  · refine Finset.sum_congr rfl fun n _ => Finset.sum_congr rfl fun j _ => ?_
    rw [a1, div_coe _ _ hw, ← EReal.coe_mul, mul_comm, val1, dif_pos n.isLt]

end Row

end Cert.Soft

end
-- ==== Proof.Refer.lean ====
/- The reference's result at an index. -/
module

public import proofs.«01_k».proof.Proof.Gen.ReferenceIdeal.Read
public import proofs.«01_k».proof.Proof.Spec
public import Idealize.ShloMosaic.Lib.Pointwise

@[expose] public section

set_option maxRecDepth 16384

noncomputable section

namespace Cert.ReferenceIdeal.Att

open Idealize.ShloMosaic Idealize.ShloMosaic.TcCoe Idealize.ShloMosaic.Tactic
open Cert.ReferenceIdeal Cert.ReferenceIdeal.Gen Cert.ReferenceIdeal.Read Cert.Soft

variable (a0 : FVec Ideal S2x4096x32x128 .f32) (a1 : FVec Ideal S2x4096x32x64 .f32) (a2 : FVec Ideal S2x256x32x128 .f32)
  (a3 : FVec Ideal S2x256x64 .f32) (a4 : FVec Ideal S2x256x32x128 .f32) (a5 : FVec Ideal S2x4096x32x128 .f32)
  (a6 : FVec Ideal S2x4096x64 .f32) (a7 : FVec Ideal S2x4096x32x128 .f32)

/-- The host's greatest element along one axis is a real number where all elements are. -/
theorem reduce_max_real {s t u : Shape} {a : Fin s.rank} (x : s.Idx → Ideal .f32) (init : u.Idx → Ideal .f32) (h' : s.ReducesTo [a] t)
    (h : s.Reduces [a] t) (hu : 0 < u.numel) (hn : 0 < s.size a) (hi : ∀ i, (init i : EReal) ≠ ⊤)
    (hx : ∀ i, (x i : EReal) = ((x i : EReal).toReal : EReal)) (j : t.Idx) :
    ∃ M : ℝ, ((Host.reduce (FloatOps.maximumf (F := Ideal) (φ := .f32)) x init h' hu : FVec Ideal t .f32) j : EReal) = (M : EReal) := by
  rw [Host.reduce_eq_fold_single (FloatOps.maximumf (F := Ideal) (φ := .f32)) x init h' h hu j]
  obtain ⟨M, hM⟩ := fold_max_real (Finset.univ : Finset (Fin (s.size a))) ⟨⟨0, hn⟩, Finset.mem_univ _⟩
    (fun k => ((x (h.lift j k) : EReal)).toReal) (init (Shape.Idx.first hu)) (hi _)
  refine ⟨M, Eq.trans ?_ hM⟩
  exact congrArg (fun f => Finset.fold max (init (Shape.Idx.first hu) : EReal) f (Finset.univ : Finset (Fin (s.size a)))) (funext fun k => hx _)

/-- The reference's score at an index: the key is a context key or a latent one. -/
theorem v8_apply (b : Fin 2) (h : Fin 32) (r : Fin 4096) (k : Fin 4352) : (val_main_v8 (F := Ideal) a0 a1 a2 a3 a5 a6 (ix4 b h r k) : EReal)
    = ((∑ x : Fin 128, (a0 (ix4 b r h x) : EReal) * if h' : k.val < 256 then a2 (ix4 b ⟨k, h'⟩ h x) else a5 (ix4 b ⟨k - 256, by omega⟩ h x))
      + ∑ x : Fin 64, (if h' : k.val < 256 then a3 (ix3 b ⟨k, h'⟩ x) else a6 (ix3 b ⟨k - 256, by omega⟩ x)) * (a1 (ix4 b r h x) : EReal)) * (scl : EReal) := by
  pointwise [val_main_v8, val_main_v7, val_main_cst, val_main_v6, val_main_v5, val_main_v4, val_main_v3, val_main_v1, val_main_v0]
  rw [ofBits_scl]

/-- The reference's result at an index, over its scores and their greatest. -/
theorem v23_apply (b : Fin 2) (r : Fin 4096) (h : Fin 32) (d : Fin 128) (S : Fin 4352 → EReal) (M : EReal)
    (hS : ∀ k, (val_main_v8 (F := Ideal) a0 a1 a2 a3 a5 a6 (ix4 b h r k) : EReal) = S k)
    (hM : (val_main_v11 (F := Ideal) a0 a1 a2 a3 a5 a6 (ix3 b h r) : EReal) = M) :
    (val_main_v23 (F := Ideal) a0 a1 a2 a3 a4 a5 a6 a7 (ix2 ⟨4096 * b + r, by omega⟩ ⟨128 * h + d, by omega⟩) : EReal)
      = (∑ x : Fin 256, (a4 (ix4 b x h d) : EReal) * Ideal.div (Ideal.exp (S ⟨x, by omega⟩ - M)) (∑ k, Ideal.exp (S k - M)))
        + ∑ x : Fin 4096, (a7 (ix4 b x h d) : EReal) * Ideal.div (Ideal.exp (S ⟨256 + x, by omega⟩ - M)) (∑ k, Ideal.exp (S k - M)) := by
  pointwise [val_main_v23, val_main_v22, val_main_v21, val_main_v20, val_main_v19, val_main_v18, val_main_v17, val_main_v16, val_main_v15, val_main_v14, val_main_v13, val_main_v12, val_main_v2, val_main_cst_2]
  simp only [hS, hM]

/-- **The reference's result** is the attention, element by element, where queries and keys are finite. -/
theorem ref_apply (h0 : Finite a0) (h1 : Finite a1) (h2 : Finite a2) (h3 : Finite a3) (h5 : Finite a5) (h6 : Finite a6)
    (b : Fin 2) (r : Fin 4096) (h : Fin 32) (d : Fin 128) :
    (val_main_v23 (F := Ideal) a0 a1 a2 a3 a4 a5 a6 a7 (ix2 ⟨4096 * b + r, by omega⟩ ⟨128 * h + d, by omega⟩) : EReal)
      = att (fun x => a0 (ix4 b r h x)) (fun x => a1 (ix4 b r h x)) (fun j x => a2 (ix4 b j h x)) (fun j x => a3 (ix3 b j x))
          (fun j x => a5 (ix4 b j h x)) (fun j x => a6 (ix3 b j x)) (fun j => a4 (ix4 b j h d)) (fun j => a7 (ix4 b j h d)) := by
  have hreal : ∀ (b : Fin 2) (h : Fin 32) (r : Fin 4096) (k : Fin 4352), ∃ x : ℝ, (val_main_v8 (F := Ideal) a0 a1 a2 a3 a5 a6 (ix4 b h r k) : EReal) = (x : EReal) := fun b h r k => by
    rw [v8_apply]
    by_cases hk : k.val < 256
    · simp only [dif_pos hk]
      exact ⟨_, score_ref (fun x => a0 (ix4 b r h x)) (fun x => a1 (ix4 b r h x)) (fun _ => h0 _) (fun _ => h1 _)
        (fun x => a2 (ix4 b ⟨k, hk⟩ h x)) (fun x => a3 (ix3 b ⟨k, hk⟩ x)) (fun _ => h2 _) (fun _ => h3 _)⟩
    · simp only [dif_neg hk]
      exact ⟨_, score_ref (fun x => a0 (ix4 b r h x)) (fun x => a1 (ix4 b r h x)) (fun _ => h0 _) (fun _ => h1 _)
        (fun x => a5 (ix4 b ⟨k - 256, by omega⟩ h x)) (fun x => a6 (ix3 b ⟨k - 256, by omega⟩ x)) (fun _ => h5 _) (fun _ => h6 _)⟩
  obtain ⟨M, hM⟩ : ∃ M : ℝ, (val_main_v11 (F := Ideal) a0 a1 a2 a3 a5 a6 (ix3 b h r) : EReal) = (M : EReal) := by
    have hall : ∀ i, (val_main_v8 (F := Ideal) a0 a1 a2 a3 a5 a6 i : EReal) = ((val_main_v8 (F := Ideal) a0 a1 a2 a3 a5 a6 i : EReal).toReal : EReal) := fun i => by
      obtain ⟨x, hx⟩ := hreal (i 0) (i 1) (i 2) (i 3)
      rw [eq_ix4 i, hx, EReal.toReal_coe]
    obtain ⟨M, hM⟩ := reduce_max_real _ (val_main_cst_0 (F := Ideal)) reducesTo_S2x32x4096x4352_S2x32x4096_d3 (by decide) h_S_ (by decide)
      (fun i => by rw [val_main_cst_0_apply]; simp [Ideal.ofBits, Ideal.ieee]) hall (ix3 b h r)
    refine ⟨M, ?_⟩
    rw [val_main_v11_apply, val_main_v10_apply, val_main_cst_1_apply]
    unfold val_main_v9
    rw [hM]
    simp [Ideal.ofBits, Ideal.ieee]
  rw [v23_apply a0 a1 a2 a3 a4 a5 a6 a7 b r h d _ _ (fun k => v8_apply a0 a1 a2 a3 a5 a6 b h r k) hM]
  refine Eq.trans ?_ (ref_eq_att _ _ (fun _ => h0 _) (fun _ => h1 _) _ _ _ _ _ _ (fun _ _ => h2 _) (fun _ _ => h3 _) (fun _ _ => h5 _) (fun _ _ => h6 _) M
    _ _ (fun j => rfl) (fun j => rfl))
  have hL : ∀ f : Fin 4352 → EReal, ∑ k, f k = (∑ k : Fin 256, f ⟨k, by omega⟩) + ∑ k : Fin 4096, f ⟨256 + k, by omega⟩ :=
    fun f => Fin.sum_univ_add (a := 256) (b := 4096) f
  rw [hL]
  have p : ∀ k : Fin 256, (k.val < 256) = True := fun k => eq_true k.isLt
  have n : ∀ k : Fin 4096, (256 + k.val < 256) = False := fun k => eq_false (by omega)
  simp only [p, n, dite_true, dite_false, Nat.add_sub_cancel_left]

end Cert.ReferenceIdeal.Att
end
-- ==== Proof.Rows.lean ====
/- What the parts of one query tile are at an index, over the extended reals, and the two results of the tile as one
   weighted mean of the values. -/
module

public import proofs.«01_k».proof.Proof.Tile
public import proofs.«01_k».proof.Proof.Soft
public import Idealize.ShloMosaic.Lib.Pointwise

@[expose] public section

set_option maxRecDepth 16384

noncomputable section

namespace Cert.KernelIdeal.Att

open Idealize.ShloMosaic Idealize.ShloMosaic.TcCoe Idealize.ShloMosaic.Tactic
open Cert.KernelIdeal Cert.KernelIdeal.Gen Cert.Soft

/-- The bits of the least element. -/
theorem neg_inf : Ideal.ofBits FTy.f32 0xFF800000#32 = ⊥ := by
  simp [Ideal.ofBits, Ideal.ieee]

/-- A score against a context key: the products over the two lane groups. -/
theorem scC_apply (q : FVec Ideal S1024x256 .bf16) (kn kp : Vec Ideal S256x128 .bf16) (i : Fin 1024) (j : Fin 256) :
    (scC q kn kp (ix2 i j) : EReal) = (∑ x : Fin 128, (q (ix2 i ⟨x, by omega⟩) : EReal) * kn (ix2 j x))
      + ∑ x : Fin 128, (q (ix2 i ⟨128 + x, by omega⟩) : EReal) * kp (ix2 j x) := by
  pointwise [scC]

/-- A score against a latent key of a chunk. -/
theorem scL_apply (q : FVec Ideal S1024x256 .bf16) (kn kp : Vec Ideal S512x128 .bf16) (i : Fin 1024) (j : Fin 512) :
    (scL q kn kp (ix2 i j) : EReal) = (∑ x : Fin 128, (q (ix2 i ⟨x, by omega⟩) : EReal) * kn (ix2 j x))
      + ∑ x : Fin 128, (q (ix2 i ⟨128 + x, by omega⟩) : EReal) * kp (ix2 j x) := by
  pointwise [scL]

/-- A row's greatest score over the context keys. -/
theorem rmC_apply (s : FVec Ideal S1024x256 .f32) (i : Fin 1024) :
    (rmC s (ix2 i 0) : EReal) = Finset.univ.fold max ⊥ fun x : Fin 256 => (s (ix2 i x) : EReal) := by
  pointwise [rmC]; rw [neg_inf]

/-- A row's greatest score over a chunk. -/
theorem rmL_apply (s : FVec Ideal S1024x512 .f32) (i : Fin 1024) :
    (rmL s (ix2 i 0) : EReal) = Finset.univ.fold max ⊥ fun x : Fin 512 => (s (ix2 i x) : EReal) := by
  pointwise [rmL]; rw [neg_inf]

/-- A weight of a context key. -/
theorem wC_apply (s : FVec Ideal S1024x256 .f32) (m : FVec Ideal S1024x1 .f32) (i : Fin 1024) (j : Fin 256) :
    (wC s m (ix2 i j) : EReal) = Ideal.exp2 ((s (ix2 i j) : EReal) - m (ix2 i 0)) := by
  pointwise [wC]; rfl

/-- A weight of a latent key. -/
theorem wL_apply (s : FVec Ideal S1024x512 .f32) (m : FVec Ideal S1024x1 .f32) (i : Fin 1024) (j : Fin 512) :
    (wL s m (ix2 i j) : EReal) = Ideal.exp2 ((s (ix2 i j) : EReal) - m (ix2 i 0)) := by
  pointwise [wL]; rfl

/-- A lane of the values' half: the weighted values. -/
theorem oneC_val (w : FVec Ideal S1024x256 .f32) (v : Vec Ideal S256x128 .bf16) (i : Fin 1024) (d : Fin 128) :
    (oneC w v (ix2 i ⟨d, by omega⟩) : EReal) = ∑ x : Fin 256, (w (ix2 i x) : EReal) * v (ix2 x d) := by
  pointwise [oneC]

/-- A lane of the ones' half: the weights. -/
theorem oneC_one (w : FVec Ideal S1024x256 .f32) (v : Vec Ideal S256x128 .bf16) (i : Fin 1024) (d : Fin 128) :
    (oneC w v (ix2 i ⟨128 + d, by omega⟩) : EReal) = ∑ x : Fin 256, (w (ix2 i x) : EReal) := by
  pointwise [oneC]

/-- The same two, for a chunk. -/
theorem oneL_val (w : FVec Ideal S1024x512 .f32) (v : Vec Ideal S512x128 .bf16) (i : Fin 1024) (d : Fin 128) :
    (oneL w v (ix2 i ⟨d, by omega⟩) : EReal) = ∑ x : Fin 512, (w (ix2 i x) : EReal) * v (ix2 x d) := by
  pointwise [oneL]

/-- A lane of the ones' half, for a chunk. -/
theorem oneL_one (w : FVec Ideal S1024x512 .f32) (v : Vec Ideal S512x128 .bf16) (i : Fin 1024) (d : Fin 128) :
    (oneL w v (ix2 i ⟨128 + d, by omega⟩) : EReal) = ∑ x : Fin 512, (w (ix2 i x) : EReal) := by
  pointwise [oneL]

/-- The one-pass result divides the two halves of its accumulator. -/
theorem pay2_apply (w : FVec Ideal S1024x256 .f32) (i : Fin 1024) (d : Fin 128) :
    (k0_pay2 w (ix2 i d) : EReal) = Ideal.div (w (ix2 i ⟨d, by omega⟩)) (w (ix2 i ⟨128 + d, by omega⟩)) := by
  pointwise [k0_pay2]

section Chain

variable (q : FVec Ideal S1024x256 .bf16) (kc pc vc : Vec Ideal S256x128 .bf16) (kl pl vl : Fin 8 → Vec Ideal S512x128 .bf16)
variable (i : Fin 1024) (s0 : Fin 256 → ℝ) (s : ℕ → Fin 512 → ℝ)
variable (h0 : ∀ j, (scC q kc pc (ix2 i j) : EReal) = (s0 j : EReal))
variable (hs : ∀ (n : ℕ) (h : n < 8) (j : Fin 512), (scL q (kl ⟨n, h⟩) (pl ⟨n, h⟩) (ix2 i j) : EReal) = (s n j : EReal))
variable (v0 : Fin 256 → EReal) (v : ℕ → Fin 512 → EReal) (d : Fin 128)
variable (hv0 : ∀ j, (vc (ix2 j d) : EReal) = v0 j) (hv : ∀ (n : ℕ) (h : n < 8) (j : Fin 512), (vl ⟨n, h⟩ (ix2 j d) : EReal) = v n j)

include h0 in
/-- The one-pass reference is a real number. -/
theorem refr_real : ∃ r : ℝ, (refr q kc pc (ix2 i 0) : EReal) = (r : EReal) := by
  rw [refr, rmC_apply]
  simp only [h0]
  exact fold_max_real _ ⟨0, Finset.mem_univ _⟩ s0 ⊥ bot_ne_top

include h0 in
/-- A context weight, from real numbers. -/
theorem wC_real (m : FVec Ideal S1024x1 .f32) (r : ℝ) (hm : (m (ix2 i 0) : EReal) = (r : EReal)) (j : Fin 256) :
    (wC (scC q kc pc) m (ix2 i j) : EReal) = (Real.rpow 2 (s0 j - r) : EReal) := by
  rw [wC_apply, h0, hm, ← EReal.coe_sub, Ideal.exp2_coe]

include hs in
/-- A latent weight, from real numbers. -/
theorem wL_real (m : FVec Ideal S1024x1 .f32) (r : ℝ) (hm : (m (ix2 i 0) : EReal) = (r : EReal)) (n : ℕ) (h : n < 8)
    (j : Fin 512) :
    (wL (scL q (kl ⟨n, h⟩) (pl ⟨n, h⟩)) m (ix2 i j) : EReal) = (Real.rpow 2 (s n j - r) : EReal) := by
  rw [wL_apply, hs n h, hm, ← EReal.coe_sub, Ideal.exp2_coe]

include h0 hs hv0 hv in
/-- The one-pass accumulator's value lanes. -/
theorem acc_val (r : ℝ) (hr : (refr q kc pc (ix2 i 0) : EReal) = (r : EReal)) (n : ℕ) (h : n ≤ 8) :
    (acc q kc pc vc kl pl vl n h (ix2 i ⟨d, by omega⟩) : EReal) = vt s0 s v0 v r n := by
  induction n with
  | zero =>
    rw [acc, oneC_val, vt]
    exact Finset.sum_congr rfl fun j _ => by rw [wC_real q kc pc i s0 h0 _ r hr, hv0]
  | succ n ih =>
    have e := ih (by omega)
    pointwise [acc]
    rw [e, oneL_val, vt]
    exact congrArg _ (Finset.sum_congr rfl fun j _ => by rw [wL_real q kl pl i s hs _ r hr n h, hv n h])

include h0 hs in
/-- The one-pass accumulator's lanes of ones. -/
theorem acc_one (r : ℝ) (hr : (refr q kc pc (ix2 i 0) : EReal) = (r : EReal)) (n : ℕ) (h : n ≤ 8) :
    (acc q kc pc vc kl pl vl n h (ix2 i ⟨128 + d, by omega⟩) : EReal) = (wt s0 s r n : EReal) := by
  induction n with
  | zero =>
    rw [acc, oneC_one, wt, coe_sum']
    exact Finset.sum_congr rfl fun j _ => wC_real q kc pc i s0 h0 _ r hr j
  | succ n ih =>
    have e := ih (by omega)
    pointwise [acc]
    rw [e, oneL_one, wt, EReal.coe_add, coe_sum']
    exact congrArg _ (Finset.sum_congr rfl fun j _ => wL_real q kl pl i s hs _ r hr n h j)

include h0 hs hv0 hv in
/-- **The one-pass result is the mean.** -/
theorem out1_apply : (out1 q kc pc vc kl pl vl (ix2 i d) : EReal) = mean s0 s v0 v 8 := by
  obtain ⟨r, hr⟩ := refr_real q kc pc i s0 h0
  rw [out1, pay2_apply, acc_val q kc pc vc kl pl vl i s0 s h0 hs v0 v d hv0 hv r hr,
    acc_one q kc pc vc kl pl vl i s0 s h0 hs d r hr, div_eq_mean]

include h0 hs in
/-- The running maximum is a real number. -/
theorem mx_real (n : ℕ) (h : n ≤ 8) : ∃ r : ℝ, (mx q kc pc kl pl n h (ix2 i 0) : EReal) = (r : EReal) := by
  induction n with
  | zero =>
    pointwise [mx]
    rw [neg_inf, max_eq_right bot_le, rmC_apply]
    simp only [h0]
    exact fold_max_real _ ⟨0, Finset.mem_univ _⟩ s0 ⊥ bot_ne_top
  | succ n ih =>
    obtain ⟨r, e⟩ := ih (by omega)
    pointwise [mx]
    rw [e, rmL_apply]
    simp only [hs n h]
    obtain ⟨r', e'⟩ := fold_max_real Finset.univ ⟨0, Finset.mem_univ _⟩ (s n) ⊥ bot_ne_top
    rw [e']
    exact ⟨max r r', (EReal.coe_strictMono.monotone.map_max).symm⟩

include h0 hs in
/-- The running sum of the weights. -/
theorem den_val (n : ℕ) (h : n ≤ 8) (r : ℝ) (hr : (mx q kc pc kl pl n h (ix2 i 0) : EReal) = (r : EReal)) :
    (den q kc pc kl pl n h (ix2 i 0) : EReal) = (wt s0 s r n : EReal) := by
  induction n generalizing r with
  | zero =>
    pointwise [den]
    rw [mul_zero, zero_add, wt, coe_sum']
    exact Finset.sum_congr rfl fun j _ => wC_real q kc pc i s0 h0 _ r hr j
  | succ n ih =>
    obtain ⟨r', hr'⟩ := mx_real q kc pc kl pl i s0 s h0 hs n (by omega)
    have e := ih (by omega) r' hr'
    pointwise [den]
    rw [e, hr, hr', ← wt_step s0 s r' r n]
    exact congrArg₂ (· + ·) rfl (Finset.sum_congr rfl fun j _ => wL_real q kl pl i s hs _ r hr n h j)

include h0 hs hv0 hv in
/-- The running sum of the weighted values. -/
theorem num_val (n : ℕ) (h : n ≤ 8) (r : ℝ) (hr : (mx q kc pc kl pl n h (ix2 i 0) : EReal) = (r : EReal)) :
    (num q kc pc vc kl pl vl n h (ix2 i d) : EReal) = vt s0 s v0 v r n := by
  induction n generalizing r with
  | zero =>
    pointwise [num]
    rw [mul_zero, zero_add, vt]
    exact Finset.sum_congr rfl fun j _ => by rw [wC_real q kc pc i s0 h0 _ r hr, hv0]
  | succ n ih =>
    obtain ⟨r', hr'⟩ := mx_real q kc pc kl pl i s0 s h0 hs n (by omega)
    have e := ih (by omega) r' hr'
    pointwise [num]
    rw [e, hr, hr', ← vt_step s0 s v0 v r' r n]
    exact congrArg₂ (· + ·) rfl (Finset.sum_congr rfl fun j _ => by rw [wL_real q kl pl i s hs _ r hr n h, hv n h])

include h0 hs hv0 hv in
/-- **The running-maximum result is the mean.** -/
theorem out2_apply : (out2 q kc pc vc kl pl vl (ix2 i d) : EReal) = mean s0 s v0 v 8 := by
  obtain ⟨r, hr⟩ := mx_real q kc pc kl pl i s0 s h0 hs 8 le_rfl
  have e1 := num_val q kc pc vc kl pl vl i s0 s h0 hs v0 v d hv0 hv 8 le_rfl r hr
  have e2 := den_val q kc pc kl pl i s0 s h0 hs 8 le_rfl r hr
  pointwise [out2]
  rw [e1, e2, div_eq_mean]

end Chain

end Cert.KernelIdeal.Att
end
-- ==== Proof.Blocks.lean ====
/- The output block of the attention kernel at an index, as the weighted mean of the values of its blocks. -/
module

public import proofs.«01_k».proof.Proof.Out
public import proofs.«01_k».proof.Proof.Rows
public import proofs.«01_k».proof.Proof.Spec

@[expose] public section

set_option maxRecDepth 16384

noncomputable section

namespace Cert.KernelIdeal.Att

open Idealize.ShloMosaic Idealize.ShloMosaic.TcCoe Idealize.ShloMosaic.Tactic
open Cert.KernelIdeal Cert.KernelIdeal.Gen Cert.Soft

variable (X2 : Vec Ideal S4096x256 .bf16) (X3 X4 X5 : Vec Ideal S256x128 .bf16) (X6 X7 X8 : Vec Ideal S4096x128 .bf16)

/-- A query tile's rows are rows of the block. -/
theorem qX_apply (k : Fin k0_t1_loop.trips) (i : Fin 1024) (x : Fin 256) (r : Fin 4096) (hr : r.val = 1024 * k.val + i.val) :
    qX X2 k (ix2 i x) = X2 (ix2 r x) := by
  have e := off1_eq k
  pointwise [qX, k0_pay53]
  refine congrArg X2 ?_
  rw [ix2_inj]
  constructor <;> apply Fin.ext <;> simp [e, hr]

/-- A context block is read whole. -/
theorem cX_apply (X : Vec Ideal S256x128 .bf16) (j : Fin 256) (x : Fin 128) : cX X (ix2 j x) = X (ix2 j x) := by
  pointwise [cX]

/-- A chunk's rows are rows of the block. -/
theorem lX_apply (X : Vec Ideal S4096x128 .bf16) (n : Fin 8) (j : Fin 512) (x : Fin 128) :
    lX X n (ix2 j x) = X (ix2 ⟨512 * n.val + j.val, by omega⟩ x) := by
  pointwise [lX]

/-- **The output block.** -/
theorem OUT_apply (r : Fin 4096) (d : Fin 128) (s0 : Fin 256 → ℝ) (s : ℕ → Fin 512 → ℝ) (v0 : Fin 256 → EReal) (v : ℕ → Fin 512 → EReal)
    (h0 : ∀ j, ((∑ x : Fin 128, (X2 (ix2 r ⟨x, by omega⟩) : EReal) * X3 (ix2 j x))
      + ∑ x : Fin 128, (X2 (ix2 r ⟨128 + x, by omega⟩) : EReal) * X4 (ix2 j x)) = (s0 j : EReal))
    (hs : ∀ (n : ℕ) (h : n < 8) (j : Fin 512), ((∑ x : Fin 128, (X2 (ix2 r ⟨x, by omega⟩) : EReal) * X6 (ix2 ⟨512 * n + j.val, by omega⟩ x))
      + ∑ x : Fin 128, (X2 (ix2 r ⟨128 + x, by omega⟩) : EReal) * X7 (ix2 ⟨512 * n + j.val, by omega⟩ x)) = (s n j : EReal))
    (hv0 : ∀ j, (X5 (ix2 j d) : EReal) = v0 j)
    (hv : ∀ (n : ℕ) (h : n < 8) (j : Fin 512), (X8 (ix2 ⟨512 * n + j.val, by omega⟩ d) : EReal) = v n j) :
    (OUT X2 X3 X4 X5 X6 X7 X8 (ix2 r d) : EReal) = mean s0 s v0 v 8 := by
  have hq : ∀ x : Fin 256, qX X2 ⟨r.val / 1024, by rw [trips_eq]; omega⟩ (ix2 ⟨r.val % 1024, Nat.mod_lt _ (by decide)⟩ x) = X2 (ix2 r x) :=
    fun x => qX_apply X2 _ _ x r (by show r.val = 1024 * (r.val / 1024) + r.val % 1024; omega)
  have a0 : ∀ j, (scC (qX X2 ⟨r.val / 1024, by rw [trips_eq]; omega⟩) (cX X3) (cX X4) (ix2 ⟨r.val % 1024, Nat.mod_lt _ (by decide)⟩ j) : EReal) = (s0 j : EReal) := fun j => by
    rw [scC_apply, ← h0 j]
    simp only [hq, cX_apply]
  have a1 : ∀ (n : ℕ) (h : n < 8) (j : Fin 512), (scL (qX X2 ⟨r.val / 1024, by rw [trips_eq]; omega⟩) (lX X6 ⟨n, h⟩) (lX X7 ⟨n, h⟩) (ix2 ⟨r.val % 1024, Nat.mod_lt _ (by decide)⟩ j) : EReal) = (s n j : EReal) := fun n h j => by
    rw [scL_apply, ← hs n h j]
    simp only [hq, lX_apply]
  have b0 : ∀ j, (cX X5 (ix2 j d) : EReal) = v0 j := fun j => by rw [cX_apply, hv0]
  have b1 : ∀ (n : ℕ) (h : n < 8) (j : Fin 512), (lX X8 ⟨n, h⟩ (ix2 j d) : EReal) = v n j := fun n h j => by
    rw [lX_apply, ← hv n h]
  show (tile X2 X3 X4 X5 X6 X7 X8 ⟨r.val / 1024, _⟩ (ix2 ⟨r.val % 1024, _⟩ d) : EReal) = _
  unfold tile
  split
  · exact out2_apply _ _ _ _ _ _ _ _ s0 s a0 a1 v0 v d b0 b1
  · exact out1_apply _ _ _ _ _ _ _ _ s0 s a0 a1 v0 v d b0 b1

/-- **The output block as the attention** of the query row, keys and values that the blocks hold. -/
theorem OUT_att (r : Fin 4096) (d : Fin 128) (q : Fin 128 → EReal) (p : Fin 64 → EReal) (kc : Fin 256 → Fin 128 → EReal) (pc : Fin 256 → Fin 64 → EReal)
    (kl : Fin 4096 → Fin 128 → EReal) (pl : Fin 4096 → Fin 64 → EReal) (vc : Fin 256 → EReal) (vl : Fin 4096 → EReal)
    (hq : Finite q) (hp : Finite p) (hkc : ∀ j, Finite (kc j)) (hpc : ∀ j, Finite (pc j)) (hkl : ∀ j, Finite (kl j)) (hpl : ∀ j, Finite (pl j))
    (q0 : ∀ x : Fin 128, (X2 (ix2 r ⟨x, by omega⟩) : EReal) = q x * (kap : EReal))
    (q1 : ∀ x : Fin 64, (X2 (ix2 r ⟨128 + x, by omega⟩) : EReal) = p x * (kap : EReal))
    (e1 : ∀ (j : Fin 256) (x : Fin 128), (X3 (ix2 j x) : EReal) = kc j x)
    (e2 : ∀ (j : Fin 256) (x : Fin 64), (X4 (ix2 j ⟨x, by omega⟩) : EReal) = pc j x)
    (z2 : ∀ (j : Fin 256) (x : Fin 64), @Eq EReal (X4 (ix2 j ⟨64 + x, by omega⟩)) 0)
    (e3 : ∀ j : Fin 256, (X5 (ix2 j d) : EReal) = vc j)
    (e4 : ∀ (j : Fin 4096) (x : Fin 128), (X6 (ix2 j x) : EReal) = kl j x)
    (e5 : ∀ (j : Fin 4096) (x : Fin 64), (X7 (ix2 j ⟨x, by omega⟩) : EReal) = pl j x)
    (z5 : ∀ (j : Fin 4096) (x : Fin 64), @Eq EReal (X7 (ix2 j ⟨64 + x, by omega⟩)) 0)
    (e6 : ∀ j : Fin 4096, (X8 (ix2 j d) : EReal) = vl j) :
    (OUT X2 X3 X4 X5 X6 X7 X8 (ix2 r d) : EReal) = att q p kc pc kl pl vc vl := by
  refine OUT_apply _ _ _ _ _ _ _ r d _ _ _ _ (fun j => ?_) (fun n hn j => ?_) (fun j => e3 j) (fun n hn j => ?_)
  · exact score_kernel q p hq hp (kc j) (pc j) (hkc j) (hpc j)
      (fun x => X2 (ix2 r ⟨x, by omega⟩)) (fun x => X2 (ix2 r ⟨128 + x, by omega⟩)) (fun x => X3 (ix2 j x)) (fun x => X4 (ix2 j x))
      q0 (e1 j) q1 (e2 j) (z2 j)
  · rw [sc1, dif_pos hn]
    exact score_kernel q p hq hp _ _ (hkl _) (hpl _)
      (fun x => X2 (ix2 r ⟨x, by omega⟩)) (fun x => X2 (ix2 r ⟨128 + x, by omega⟩)) (fun x => X6 (ix2 ⟨512 * n + j, by omega⟩ x)) (fun x => X7 (ix2 ⟨512 * n + j, by omega⟩ x))
      q0 (e4 _) q1 (e5 _) (z5 _)
  · rw [val1, dif_pos hn]
    exact e6 _

end Cert.KernelIdeal.Att
end
-- ==== Proof.Arrays.lean ====
/- The arrays that the host hands to the attention kernel, at an index. -/
module

public import proofs.«01_k».proof.Proof.Body
public import proofs.«01_k».proof.Proof.Blocks
public import proofs.«01_k».proof.Proof.Spec
public import Idealize.ShloMosaic.Lib.Pipeline.ValueKit
public import Idealize.ShloMosaic.Lib.Claim

@[expose] public section

set_option maxRecDepth 16384

noncomputable section

namespace Cert.KernelIdeal.Att

open Idealize.ShloMosaic Idealize.ShloMosaic.TcCoe Idealize.ShloMosaic.Tactic
open Cert.KernelIdeal Cert.KernelIdeal.Gen Cert.Soft

variable (m : (ℓ : Loc nD τ sig) → Buf (Elt Ideal) ℓ) (c : Dev nD)

/-- Argument 0, as extended reals. -/
abbrev arg0 : S2x4096x32x128.Idx → EReal := m ((c.tc : Thread nD τ).loc main_arg0)
/-- Argument 1, as extended reals. -/
abbrev arg1 : S2x4096x32x64.Idx → EReal := m ((c.tc : Thread nD τ).loc main_arg1)
/-- Argument 2, as extended reals. -/
abbrev arg2 : S2x256x32x128.Idx → EReal := m ((c.tc : Thread nD τ).loc main_arg2)
/-- Argument 3, as extended reals. -/
abbrev arg3 : S2x256x64.Idx → EReal := m ((c.tc : Thread nD τ).loc main_arg3)
/-- Argument 4, as extended reals. -/
abbrev arg4 : S2x256x32x128.Idx → EReal := m ((c.tc : Thread nD τ).loc main_arg4)
/-- Argument 5, as extended reals. -/
abbrev arg5 : S2x4096x32x128.Idx → EReal := m ((c.tc : Thread nD τ).loc main_arg5)
/-- Argument 6, as extended reals. -/
abbrev arg6 : S2x4096x64.Idx → EReal := m ((c.tc : Thread nD τ).loc main_arg6)
/-- Argument 7, as extended reals. -/
abbrev arg7 : S2x4096x32x128.Idx → EReal := m ((c.tc : Thread nD τ).loc main_arg7)
/-- The array that the host hands over as value 6, as extended reals. -/
abbrev arr6 : S8192x8192.Idx → EReal := V m c main_v6
/-- The array that the host hands over as value 9, as extended reals. -/
abbrev arr9 : S512x8192.Idx → EReal := V m c main_v9
/-- The array that the host hands over as value 12, as extended reals. -/
abbrev arr12 : S8192x8192.Idx → EReal := V m c main_v12
/-- The array that the host hands over as value 16, as extended reals. -/
abbrev arr16 : S512x128.Idx → EReal := V m c main_v16
/-- The array that the host hands over as value 20, as extended reals. -/
abbrev arr20 : S8192x128.Idx → EReal := V m c main_v20

/-- Indices of four coordinates agree where the coordinates do. -/
theorem ix4_congr {a b e f : ℕ} {i i' : Fin a} {j j' : Fin b} {k k' : Fin e} {l l' : Fin f} (h1 : i.val = i'.val) (h2 : j.val = j'.val) (h3 : k.val = k'.val)
    (h4 : l.val = l'.val) : ix4 i j k l = ix4 i' j' k' l' := by
  rw [Fin.ext h1, Fin.ext h2, Fin.ext h3, Fin.ext h4]

/-- Indices of three coordinates agree where the coordinates do. -/
theorem ix3_congr {a b e : ℕ} {i i' : Fin a} {j j' : Fin b} {k k' : Fin e} (h1 : i.val = i'.val) (h2 : j.val = j'.val) (h3 : k.val = k'.val) :
    ix3 i j k = ix3 i' j' k' := by
  rw [Fin.ext h1, Fin.ext h2, Fin.ext h3]

/-- The scaled queries, first lane group: the part without position. -/
theorem v6_nope (b : Fin 2) (r : Fin 4096) (h : Fin 32) (x : Fin 128) :
    arr6 m c (ix2 ⟨4096 * b + r, by omega⟩ ⟨256 * h + x, by omega⟩)
      = arg0 m c (ix4 b r h x) * (kap : EReal) := by
  unfold arr6
  entry_read
  pointwise
  rw [host_scale, dif_pos (by omega)]
  refine congrArg (· * (kap : EReal)) (congrArg (m (c, Proc.tc.devRef main_arg0)) ?_)
  exact ix4_congr (by dsimp only; omega) (by dsimp only; omega) (by dsimp only; omega) (by dsimp only; omega)

/-- The scaled queries, the part with position. -/
theorem v6_rope (b : Fin 2) (r : Fin 4096) (h : Fin 32) (x : Fin 64) :
    arr6 m c (ix2 ⟨4096 * b + r, by omega⟩ ⟨256 * h + (128 + x), by omega⟩)
      = arg1 m c (ix4 b r h x) * (kap : EReal) := by
  unfold arr6
  entry_read
  pointwise
  rw [host_scale, dif_neg (by omega), dif_pos (by omega)]
  refine congrArg (· * (kap : EReal)) (congrArg (m (c, Proc.tc.devRef main_arg1)) ?_)
  exact ix4_congr (by dsimp only; omega) (by dsimp only; omega) (by dsimp only; omega) (by dsimp only; omega)

/-- The context keys. -/
theorem v9_key (b : Fin 2) (r : Fin 256) (h : Fin 32) (x : Fin 128) :
    arr9 m c (ix2 ⟨256 * b + r, by omega⟩ ⟨256 * h + x, by omega⟩)
      = arg2 m c (ix4 b r h x) := by
  unfold arr9
  entry_read
  pointwise
  rw [dif_pos (by omega)]
  refine congrArg (m (c, Proc.tc.devRef main_arg2)) ?_
  exact ix4_congr (by dsimp only; omega) (by dsimp only; omega) (by dsimp only; omega) (by dsimp only; omega)

/-- The context values. -/
theorem v9_val (b : Fin 2) (r : Fin 256) (h : Fin 32) (x : Fin 128) :
    arr9 m c (ix2 ⟨256 * b + r, by omega⟩ ⟨256 * h + (128 + x), by omega⟩)
      = arg4 m c (ix4 b r h x) := by
  unfold arr9
  entry_read
  pointwise
  rw [dif_neg (by omega)]
  refine congrArg (m (c, Proc.tc.devRef main_arg4)) ?_
  exact ix4_congr (by dsimp only; omega) (by dsimp only; omega) (by dsimp only; omega) (by dsimp only; omega)

/-- The latent keys. -/
theorem v12_key (b : Fin 2) (r : Fin 4096) (h : Fin 32) (x : Fin 128) :
    arr12 m c (ix2 ⟨4096 * b + r, by omega⟩ ⟨256 * h + x, by omega⟩)
      = arg5 m c (ix4 b r h x) := by
  unfold arr12
  entry_read
  pointwise
  rw [dif_pos (by omega)]
  refine congrArg (m (c, Proc.tc.devRef main_arg5)) ?_
  exact ix4_congr (by dsimp only; omega) (by dsimp only; omega) (by dsimp only; omega) (by dsimp only; omega)

/-- The latent values. -/
theorem v12_val (b : Fin 2) (r : Fin 4096) (h : Fin 32) (x : Fin 128) :
    arr12 m c (ix2 ⟨4096 * b + r, by omega⟩ ⟨256 * h + (128 + x), by omega⟩)
      = arg7 m c (ix4 b r h x) := by
  unfold arr12
  entry_read
  pointwise
  rw [dif_neg (by omega)]
  refine congrArg (m (c, Proc.tc.devRef main_arg7)) ?_
  exact ix4_congr (by dsimp only; omega) (by dsimp only; omega) (by dsimp only; omega) (by dsimp only; omega)

/-- The context keys' part with position. -/
theorem v16_key (b : Fin 2) (r : Fin 256) (x : Fin 64) :
    arr16 m c (ix2 ⟨256 * b + r, by omega⟩ ⟨x, by omega⟩)
      = arg3 m c (ix3 b r x) := by
  unfold arr16
  entry_read
  pointwise
  refine congrArg (m (c, Proc.tc.devRef main_arg3)) ?_
  exact ix3_congr (by dsimp only; omega) (by dsimp only; omega) (by dsimp only)

/-- The zeros beside it. -/
theorem v16_zero (b : Fin 2) (r : Fin 256) (x : Fin 64) :
    arr16 m c (ix2 ⟨256 * b + r, by omega⟩ ⟨64 + x, by omega⟩) = 0 := by
  unfold arr16
  entry_read
  pointwise

/-- The latent keys' part with position. -/
theorem v20_key (b : Fin 2) (r : Fin 4096) (x : Fin 64) :
    arr20 m c (ix2 ⟨4096 * b + r, by omega⟩ ⟨x, by omega⟩)
      = arg6 m c (ix3 b r x) := by
  unfold arr20
  entry_read
  pointwise
  refine congrArg (m (c, Proc.tc.devRef main_arg6)) ?_
  exact ix3_congr (by dsimp only; omega) (by dsimp only; omega) (by dsimp only)

/-- The zeros beside it. -/
theorem v20_zero (b : Fin 2) (r : Fin 4096) (x : Fin 64) :
    arr20 m c (ix2 ⟨4096 * b + r, by omega⟩ ⟨64 + x, by omega⟩) = 0 := by
  unfold arr20
  entry_read
  pointwise

end Cert.KernelIdeal.Att
end
-- ==== Proof.Final.lean ====
/- The attention kernel's result array, element by element. -/
module

public import proofs.«01_k».proof.Proof.Arrays
public import Idealize.ShloMosaic.Lib.Pipeline.Covers

@[expose] public section

set_option maxRecDepth 16384

noncomputable section

namespace Cert.KernelIdeal.Att

open Idealize.ShloMosaic Idealize.ShloMosaic.TcCoe Idealize.ShloMosaic.Tactic
open Cert.KernelIdeal Cert.KernelIdeal.Gen Cert.Soft

variable (m : (ℓ : Loc nD τ sig) → Buf (Elt Ideal) ℓ) (c : Dev nD)

/-- The blocks' places: the batch is the slow coordinate of a point, the head the fast one. -/
theorem index0 : ∀ t : Fin cfg0.N, win0_0.index t = ![t.val / 32, t.val % 32] := by decide +kernel
/-- Which block of the context keys a grid point reads or writes. -/
theorem index1 : ∀ t : Fin cfg0.N, win0_1.index t = ![t.val / 32, 2 * (t.val % 32)] := by decide +kernel
/-- Which block of the context keys with position a grid point reads or writes. -/
theorem index2 : ∀ t : Fin cfg0.N, win0_2.index t = ![t.val / 32, 0] := by decide +kernel
/-- Which block of the context values a grid point reads or writes. -/
theorem index3 : ∀ t : Fin cfg0.N, win0_3.index t = ![t.val / 32, 2 * (t.val % 32) + 1] := by decide +kernel
/-- Which block of the latent keys a grid point reads or writes. -/
theorem index4 : ∀ t : Fin cfg0.N, win0_4.index t = ![t.val / 32, 2 * (t.val % 32)] := by decide +kernel
/-- Which block of the latent keys with position a grid point reads or writes. -/
theorem index5 : ∀ t : Fin cfg0.N, win0_5.index t = ![t.val / 32, 0] := by decide +kernel
/-- Which block of the latent values a grid point reads or writes. -/
theorem index6 : ∀ t : Fin cfg0.N, win0_6.index t = ![t.val / 32, 2 * (t.val % 32) + 1] := by decide +kernel
/-- Which block of the result a grid point reads or writes. -/
theorem index7 : ∀ t : Fin cfg0.N, win0_7.index t = ![t.val / 32, t.val % 32] := by decide +kernel

/-- The grid has 64 points: two batches of 32 heads. -/
theorem N_eq : cfg0.N = 64 := by decide

/-- The query block of a point. -/
theorem iblk0 (t : Fin cfg0.N) (r : Fin 4096) (x : Fin 256) (i : Fin 8192) (j : Fin 8192) (hi : i.val = 4096 * (t.val / 32) + r.val)
    (hj : j.val = 256 * (t.val % 32) + x.val) :
    (iblk m c 0 t (ix2 r x) : EReal) = arr6 m c (ix2 i j) := by
  unfold arr6
  blk_ext [iblk, index0 t]

/-- The context keys' block. -/
theorem iblk1 (t : Fin cfg0.N) (r : Fin 256) (x : Fin 128) (i : Fin 512) (j : Fin 8192) (hi : i.val = 256 * (t.val / 32) + r.val)
    (hj : j.val = 256 * (t.val % 32) + x.val) :
    (iblk m c 1 t (ix2 r x) : EReal) = arr9 m c (ix2 i j) := by
  unfold arr9
  blk_ext [iblk, index1 t]

/-- The context keys' block with position. -/
theorem iblk2 (t : Fin cfg0.N) (r : Fin 256) (x : Fin 128) (i : Fin 512) (j : Fin 128) (hi : i.val = 256 * (t.val / 32) + r.val)
    (hj : j.val = x.val) :
    (iblk m c 2 t (ix2 r x) : EReal) = arr16 m c (ix2 i j) := by
  unfold arr16
  blk_ext [iblk, index2 t]

/-- The context values' block. -/
theorem iblk3 (t : Fin cfg0.N) (r : Fin 256) (x : Fin 128) (i : Fin 512) (j : Fin 8192) (hi : i.val = 256 * (t.val / 32) + r.val)
    (hj : j.val = 256 * (t.val % 32) + (128 + x.val)) :
    (iblk m c 3 t (ix2 r x) : EReal) = arr9 m c (ix2 i j) := by
  unfold arr9
  blk_ext [iblk, index3 t]

/-- The latent keys' block. -/
theorem iblk4 (t : Fin cfg0.N) (r : Fin 4096) (x : Fin 128) (i : Fin 8192) (j : Fin 8192) (hi : i.val = 4096 * (t.val / 32) + r.val)
    (hj : j.val = 256 * (t.val % 32) + x.val) :
    (iblk m c 4 t (ix2 r x) : EReal) = arr12 m c (ix2 i j) := by
  unfold arr12
  blk_ext [iblk, index4 t]

/-- The latent keys' block with position. -/
theorem iblk5 (t : Fin cfg0.N) (r : Fin 4096) (x : Fin 128) (i : Fin 8192) (j : Fin 128) (hi : i.val = 4096 * (t.val / 32) + r.val)
    (hj : j.val = x.val) :
    (iblk m c 5 t (ix2 r x) : EReal) = arr20 m c (ix2 i j) := by
  unfold arr20
  blk_ext [iblk, index5 t]

/-- The latent values' block. -/
theorem iblk6 (t : Fin cfg0.N) (r : Fin 4096) (x : Fin 128) (i : Fin 8192) (j : Fin 8192) (hi : i.val = 4096 * (t.val / 32) + r.val)
    (hj : j.val = 256 * (t.val % 32) + (128 + x.val)) :
    (iblk m c 6 t (ix2 r x) : EReal) = arr12 m c (ix2 i j) := by
  unfold arr12
  blk_ext [iblk, index6 t]

/-- The attention's element at a batch, a query, a head and a column of the values, from the arguments. -/
def attAt (b : Fin 2) (r : Fin 4096) (h : Fin 32) (d : Fin 128) : EReal :=
  att (fun x => arg0 m c (ix4 b r h x)) (fun x => arg1 m c (ix4 b r h x)) (fun j x => arg2 m c (ix4 b j h x)) (fun j x => arg3 m c (ix3 b j x))
    (fun j x => arg5 m c (ix4 b j h x)) (fun j x => arg6 m c (ix3 b j x)) (fun j => arg4 m c (ix4 b j h d)) (fun j => arg7 m c (ix4 b j h d))

variable (h0 : Finite (arg0 m c)) (h1 : Finite (arg1 m c)) (h2 : Finite (arg2 m c)) (h3 : Finite (arg3 m c)) (h5 : Finite (arg5 m c)) (h6 : Finite (arg6 m c))

include h0 h1 h2 h3 h5 h6 in
/-- A point's block is the attention of its batch and head. -/
theorem block_apply (t : Fin cfg0.N) (b : Fin 2) (h : Fin 32) (hb : b.val = t.val / 32) (hh : h.val = t.val % 32) (r : Fin 4096) (d : Fin 128) :
    (OUT (iblk m c 0 t) (iblk m c 1 t) (iblk m c 2 t) (iblk m c 3 t) (iblk m c 4 t) (iblk m c 5 t) (iblk m c 6 t) (ix2 r d) : EReal)
      = attAt m c b r h d := by
  have q0 : ∀ x : Fin 128, (iblk m c 0 t (ix2 r ⟨x, by omega⟩) : EReal) = arg0 m c (ix4 b r h x) * (kap : EReal) := fun x =>
    (iblk0 m c t r _ _ _ (by show 4096 * b.val + r.val = _; rw [hb]) (by show 256 * h.val + x.val = _; rw [hh])).trans (v6_nope m c b r h x)
  have q1 : ∀ x : Fin 64, (iblk m c 0 t (ix2 r ⟨128 + x, by omega⟩) : EReal) = arg1 m c (ix4 b r h x) * (kap : EReal) := fun x =>
    (iblk0 m c t r _ _ _ (by show 4096 * b.val + r.val = _; rw [hb]) (by show 256 * h.val + (128 + x.val) = _; rw [hh])).trans (v6_rope m c b r h x)
  have e1 : ∀ (j : Fin 256) (x : Fin 128), (iblk m c 1 t (ix2 j x) : EReal) = arg2 m c (ix4 b j h x) := fun j x =>
    (iblk1 m c t j x _ _ (by show 256 * b.val + j.val = _; rw [hb]) (by show 256 * h.val + x.val = _; rw [hh])).trans (v9_key m c b j h x)
  have e2 : ∀ (j : Fin 256) (x : Fin 64), (iblk m c 2 t (ix2 j ⟨x, by omega⟩) : EReal) = arg3 m c (ix3 b j x) := fun j x =>
    (iblk2 m c t j _ _ _ (by show 256 * b.val + j.val = _; rw [hb]) rfl).trans (v16_key m c b j x)
  have z2 : ∀ (j : Fin 256) (x : Fin 64), @Eq EReal (iblk m c 2 t (ix2 j ⟨64 + x, by omega⟩)) 0 := fun j x =>
    (iblk2 m c t j _ _ _ (by show 256 * b.val + j.val = _; rw [hb]) rfl).trans (v16_zero m c b j x)
  have e3 : ∀ (j : Fin 256), (iblk m c 3 t (ix2 j d) : EReal) = arg4 m c (ix4 b j h d) := fun j =>
    (iblk3 m c t j d _ _ (by show 256 * b.val + j.val = _; rw [hb]) (by show 256 * h.val + (128 + d.val) = _; rw [hh])).trans (v9_val m c b j h d)
  have e4 : ∀ (j : Fin 4096) (x : Fin 128), (iblk m c 4 t (ix2 j x) : EReal) = arg5 m c (ix4 b j h x) := fun j x =>
    (iblk4 m c t j x _ _ (by show 4096 * b.val + j.val = _; rw [hb]) (by show 256 * h.val + x.val = _; rw [hh])).trans (v12_key m c b j h x)
  have e5 : ∀ (j : Fin 4096) (x : Fin 64), (iblk m c 5 t (ix2 j ⟨x, by omega⟩) : EReal) = arg6 m c (ix3 b j x) := fun j x =>
    (iblk5 m c t j _ _ _ (by show 4096 * b.val + j.val = _; rw [hb]) rfl).trans (v20_key m c b j x)
  have z5 : ∀ (j : Fin 4096) (x : Fin 64), @Eq EReal (iblk m c 5 t (ix2 j ⟨64 + x, by omega⟩)) 0 := fun j x =>
    (iblk5 m c t j _ _ _ (by show 4096 * b.val + j.val = _; rw [hb]) rfl).trans (v20_zero m c b j x)
  have e6 : ∀ (j : Fin 4096), (iblk m c 6 t (ix2 j d) : EReal) = arg7 m c (ix4 b j h d) := fun j =>
    (iblk6 m c t j d _ _ (by show 4096 * b.val + j.val = _; rw [hb]) (by show 256 * h.val + (128 + d.val) = _; rw [hh])).trans (v12_val m c b j h d)
  exact OUT_att _ _ _ _ _ _ _ r d _ _ _ _ _ _ _ _ (fun _ => h0 _) (fun _ => h1 _) (fun _ _ => h2 _) (fun _ _ => h3 _) (fun _ _ => h5 _) (fun _ _ => h6 _)
    q0 q1 e1 e2 z2 e3 e4 e5 z5 e6

/-- The result array: row `4096 b + r`, column `128 h + d` holds the attention there. -/
def RES : S8192x4096.Idx → EReal := fun i =>
  attAt m c ⟨(i 0).val / 4096, by have h : (i 0).val < 8192 := (i 0).isLt; omega⟩ ⟨(i 0).val % 4096, by omega⟩
    ⟨(i 1).val / 128, by have h : (i 1).val < 4096 := (i 1).isLt; omega⟩ ⟨(i 1).val % 128, by omega⟩

/-- What a point leaves in the output's block. -/
theorem after7 (t : Fin cfg0.N) : (dats m 0 c).after 7 t
    = OUT (iblk m c 0 t) (iblk m c 1 t) (iblk m c 2 t) (iblk m c 3 t) (iblk m c 4 t) (iblk m c 5 t) (iblk m c 6 t) := rfl

/-- The row of the array at which an element of a point's block lies. -/
theorem emb_row (t : Fin cfg0.N) (y : ((cfg0.win 7).xblock (cfg0.grid.coords t)).Idx) :
    ((((cfg0.win 7).blk t).view.emb y) 0 : ℕ) = 4096 * (t.val / 32) + (y 0).val := by
  blk_simp [index7 t]; omega

/-- Its column. -/
theorem emb_col (t : Fin cfg0.N) (y : ((cfg0.win 7).xblock (cfg0.grid.coords t)).Idx) :
    ((((cfg0.win 7).blk t).view.emb y) 1 : ℕ) = 128 * (t.val % 32) + (y 1).val := by
  blk_simp [index7 t]; omega

/-- Every element of the result lies in a block. -/
theorem covers7 : (cfg0.win 7).Covers := by decide +kernel

/-- The result at an element of a point's block. -/
theorem RES_apply (i : S8192x4096.Idx) (b : Fin 2) (r : Fin 4096) (h : Fin 32) (d : Fin 128) (e0 : (i 0).val = 4096 * b.val + r.val)
    (e1 : (i 1).val = 128 * h.val + d.val) : RES m c i = attAt m c b r h d := by
  unfold RES
  congr 1 <;> apply Fin.ext <;> dsimp only <;> omega

end Cert.KernelIdeal.Att
end
-- ==== Proof.Result.lean ====
/- The attention kernel's result array, after the run. -/
module

public import proofs.«01_k».proof.Proof.Final
public import Idealize.ShloMosaic.Lib.Pipeline.Covers

@[expose] public section

set_option maxRecDepth 16384

noncomputable section

namespace Cert.KernelIdeal.Att

open Idealize.ShloMosaic Idealize.ShloMosaic.TcCoe Idealize.ShloMosaic.Tactic
open Cert.KernelIdeal Cert.KernelIdeal.Gen Cert.Soft

variable (m : (ℓ : Loc nD τ sig) → Buf (Elt Ideal) ℓ) (c : Dev nD)

variable (h0 : Finite (arg0 m c)) (h1 : Finite (arg1 m c)) (h2 : Finite (arg2 m c)) (h3 : Finite (arg3 m c)) (h5 : Finite (arg5 m c)) (h6 : Finite (arg6 m c))

/-- Whatever the schedule's data, if each step leaves in the output's block the values one array has there, then
    the output array is that array once the grid has run. -/
theorem arr_of_after (dat : Pipeline.Dat τ (Elt Ideal) Unit ℕ (UR sig nD τ) ℕ cfg0 c) (G : S8192x4096.Idx → EReal)
    (H : ∀ (t : Fin cfg0.N) (y : ((cfg0.win 7).xblock (cfg0.grid.coords t)).Idx),
      dat.after 7 t y = G ((win0_7.blk t).view.emb y)) : dat.arrAt 7 cfg0.N = G := by
  refine dat.arrAt_eq_of_covers 7 G covers7 fun t hf y => ?_
  blk_simp
  exact H t y

include h0 h1 h2 h3 h5 h6 in
/-- What a step leaves in the output's block is the attention result at the block's place. -/
theorem after_eq (t : Fin cfg0.N) (y : S4096x128.Idx) :
    (OUT (iblk m c 0 t) (iblk m c 1 t) (iblk m c 2 t) (iblk m c 3 t) (iblk m c 4 t) (iblk m c 5 t) (iblk m c 6 t) y : EReal) = RES m c ((win0_7.blk t).view.emb y) := by
  have ht : t.val < 64 := t.isLt.trans_eq N_eq
  refine Eq.trans ?_ (RES_apply m c _ ⟨t.val / 32, by omega⟩ ⟨(y 0).val, (y 0).isLt⟩ ⟨t.val % 32, by omega⟩
    ⟨(y 1).val, (y 1).isLt⟩ (emb_row t y) (emb_col t y)).symm
  exact (congrArg _ (eq_ix2 y)).trans (block_apply m c h0 h1 h2 h3 h5 h6 t _ _ rfl rfl _ _)

include h0 h1 h2 h3 h5 h6 in
/-- Once the grid has run the output array is the attention of the arguments. -/
theorem final : (dats m 0 c).arrAt 7 cfg0.N = RES m c :=
  arr_of_after c (dats m 0 c) (RES m c) fun t y => (congrFun (after7 m c t) y).trans (after_eq m c h0 h1 h2 h3 h5 h6 t y)

end Cert.KernelIdeal.Att
end
-- ==== Proof.Algebraic.lean ====
/- The algebraic claim: the ideal kernel and the reference leave the same array. -/
module

public import proofs.«01_k».proof.Proof.Frames
public import proofs.«01_k».proof.Proof.Gen.Pre_finite_scores
public import proofs.«01_k».proof.Proof.Refer
public import proofs.«01_k».proof.Proof.Result
public import Idealize.ShloMosaic.Lib.Claim

@[expose] public section

set_option maxRecDepth 16384

noncomputable section

namespace Cert.Proof

open Idealize.ShloMosaic Idealize.SL.Sem Idealize.ShloMosaic.TcCoe Idealize.ShloMosaic.Tactic Cert.Soft
open Cert.KernelIdeal.Att (arg0 arg1 arg2 arg3 arg4 arg5 arg6 arg7 RES RES_apply final)

/-- The comparison the precondition makes, read: an array whose magnitudes are below infinity is finite. -/
theorem finite_of_olt {s : Shape} (x : FVec Ideal s .f32) (hb : Shape.BroadcastsInDim ⟨0, ![]⟩ s (![] : Fin 0 → Fin s.rank))
    (h : (cmpf .olt (Host.absf x) (broadcastInDim s ![] hb (constant ⟨0, ![]⟩ .f32 0x7F800000#32 : FVec Ideal ⟨0, ![]⟩ .f32)) : IVec s 1) = fun _ => 1#1) :
    Finite x := by
  intro i
  have hi := congrFun h i
  have hx : max (x i : EReal) (-(x i : EReal)) < ⊤ := by
    by_contra hn
    refine absurd hi ?_
    pointwise
    have hT : Ideal.ofBits .f32 0x7F800000#32 = ⊤ := by simp [Ideal.ofBits, Ideal.ieee]
    rw [hT, decide_eq_false (show ¬ (FloatOps.absf (x i) : EReal) < ⊤ from hn)]
    decide
  refine (EReal.coe_toReal (fun e => ?_) (fun e => ?_)).symm
  · rw [e] at hx; simp at hx
  · rw [e] at hx; simp at hx

variable (m : (ℓ : Loc Cert.KernelIdeal.nD Cert.KernelIdeal.τ Cert.KernelIdeal.sig) → Buf (Elt Ideal) ℓ)

/-- Under the precondition the queries and the keys are finite. -/
theorem finite_args (h : Cert.Pre_KernelIdeal_finite_scores m) (c : Dev Cert.KernelIdeal.nD) :
    Finite (arg0 m c) ∧ Finite (arg1 m c) ∧ Finite (arg2 m c) ∧ Finite (arg3 m c) ∧ Finite (arg5 m c) ∧ Finite (arg6 m c) :=
  have ⟨e0, e1, e2, e3, e5, e6⟩ := h c
  ⟨finite_of_olt _ _ e0, finite_of_olt _ _ e1, finite_of_olt _ _ e2, finite_of_olt _ _ e3, finite_of_olt _ _ e5, finite_of_olt _ _ e6⟩

/-- The reference's array of the kernel's arguments is the kernel's result. -/
theorem reference_eq (h : Cert.Pre_KernelIdeal_finite_scores m) (c : Dev Cert.KernelIdeal.nD) :
    Cert.ReferenceIdeal.Read.val_main_v23 (F := Ideal) (arg0 m c) (arg1 m c) (arg2 m c) (arg3 m c) (arg4 m c) (arg5 m c) (arg6 m c) (arg7 m c)
      = RES m c := by
  obtain ⟨h0, h1, h2, h3, h5, h6⟩ := finite_args m h c
  funext i
  have a := (i 0).isLt
  have b := (i 1).isLt
  change (i 0).val < 8192 at a
  change (i 1).val < 4096 at b
  refine Eq.trans ?_ ((Cert.ReferenceIdeal.Att.ref_apply _ _ _ _ (arg4 m c) _ _ (arg7 m c) h0 h1 h2 h3 h5 h6 ⟨(i 0).val / 4096, by omega⟩ ⟨(i 0).val % 4096, by omega⟩
    ⟨(i 1).val / 128, by omega⟩ ⟨(i 1).val % 128, by omega⟩).trans (RES_apply m c i _ _ _ _ (by dsimp only; omega) (by dsimp only; omega)).symm)
  refine congrArg _ ((eq_ix2 i).trans ?_)
  congr 1 <;> apply Fin.ext <;> dsimp only <;> omega

/-- The ideal kernel's run, without its counters. -/
theorem run_post (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (Pipeline.FramePost Cert.KernelIdeal.cfgs (Cert.KernelIdeal.Att.dats m) 0 (Cert.KernelIdeal.Gen.V m)) :=
  θ_run_mono (Cert.KernelIdeal.Att.run_main m g) fun _ h => h.1

/-- **The algebraic claim.** -/
theorem algebraic : Cert.algebraic_KernelIdeal_ReferenceIdeal_pre_finite_scores := by
  pair_intro
  · run_from run_post m g
  · run_from Cert.ReferenceIdeal.Value.run m' g'
    obtain ⟨h0, h1, h2, h3, h5, h6⟩ := finite_args m hpre c
    obtain ⟨a0, a1, a2, a3, a4, a5, a6, a7⟩ := hagree c
    rw [Cert.ReferenceIdeal.Read.val_main_v23_eq, a0, a1, a2, a3, a4, a5, a6, a7]
    exact (reference_eq m hpre c).trans (final m c h0 h1 h2 h3 h5 h6).symm

end Cert.Proof

end
-- ==== Proof.FnetOut.lean ====
/- The product with the Fourier mixing's output weight, and the expert values cast beside it: the kernel's two result arrays and the reference's, element by element. -/
module

public import proofs.«01_k».proof.Proof.Gen.FnetOutIdeal.Value
public import proofs.«01_k».proof.Proof.Gen.FnetOutRefIdeal.Run
public import proofs.«01_k».proof.Proof.Gen.FnetOutRefIdeal.Read
public import proofs.«01_k».proof.Defs
public import Idealize.ShloMosaic.Lib.Pipeline.ValueKit
public import Idealize.ShloMosaic.Lib.Pipeline.Covers
public import Idealize.ShloMosaic.Lib.Pointwise
public import Idealize.ShloMosaic.Lib.Claim

@[expose] public section

set_option maxRecDepth 16384

noncomputable section

namespace Cert.FnetOutIdeal.Att

open Idealize.ShloMosaic Idealize.ShloMosaic.TcCoe Idealize.ShloMosaic.Tactic
open Cert.FnetOutIdeal Cert.FnetOutIdeal.Gen

variable (m : (ℓ : Loc nD τ sig) → Buf (Elt Ideal) ℓ) (c : Dev nD)

/-- The left factor as the host hands it over, as extended reals. -/
abbrev lhs : S8192x4096.Idx → EReal := V m c main_v1
/-- The weight as the host hands it over, as extended reals. -/
abbrev rhs : S4096x4096.Idx → EReal := V m c main_v3

/-- A grid point's block of the product is the product of its blocks. -/
theorem out_apply (x0 : Vec Ideal S512x4096 .bf16) (x1 : Vec Ideal S4096x1024 .bf16) (x2 : Vec Ideal S1x256x4096 .f32) (r : Fin 512) (x : Fin 1024) :
    (out0_3 x0 x1 x2 (ix2 r x) : EReal) = ∑ k : Fin 4096, (x0 (ix2 r k) : EReal) * x1 (ix2 k x) := by
  unfold out0_3
  frame_out
  pointwise [k0_pay1]

/-- Which block of the left factor a grid point reads. -/
theorem index0 : ∀ t : Fin cfg0.N, win0_0.index t = ![t.val % 16, 0] := by decide +kernel
/-- Which block of the weight a grid point reads. -/
theorem index1 : ∀ t : Fin cfg0.N, win0_1.index t = ![0, t.val / 16] := by decide +kernel
/-- Which block of the result a grid point writes. -/
theorem index3 : ∀ t : Fin cfg0.N, win0_3.index t = ![t.val % 16, t.val / 16] := by decide +kernel
/-- The grid has 64 points. -/
theorem N_eq : cfg0.N = 64 := by decide

/-- The left factor's block at a point. -/
theorem iblk0 (t : Fin cfg0.N) (r : Fin 512) (k : Fin 4096) (i : Fin 8192) (hi : i.val = 512 * (t.val % 16) + r.val) :
    (iblk m c 0 t (ix2 r k) : EReal) = lhs m c (ix2 i k) := by
  unfold lhs
  blk_ext [iblk, index0 t]

/-- The weight's block at a point. -/
theorem iblk1 (t : Fin cfg0.N) (k : Fin 4096) (x : Fin 1024) (j : Fin 4096) (hj : j.val = 1024 * (t.val / 16) + x.val) :
    (iblk m c 1 t (ix2 k x) : EReal) = rhs m c (ix2 k j) := by
  unfold rhs
  blk_ext [iblk, index1 t]

/-- The product of the two arrays that the host hands over. -/
def PROD : S8192x4096.Idx → EReal := fun i => ∑ k : Fin 4096, lhs m c (ix2 (i 0) k) * rhs m c (ix2 k (i 1))

/-- The row of the array at which an element of a point's block lies. -/
theorem emb_row (t : Fin cfg0.N) (y : ((cfg0.win 3).xblock (cfg0.grid.coords t)).Idx) :
    ((((cfg0.win 3).blk t).view.emb y) 0 : ℕ) = 512 * (t.val % 16) + (y 0).val := by
  blk_simp [index3 t]; omega

/-- Its column. -/
theorem emb_col (t : Fin cfg0.N) (y : ((cfg0.win 3).xblock (cfg0.grid.coords t)).Idx) :
    ((((cfg0.win 3).blk t).view.emb y) 1 : ℕ) = 1024 * (t.val / 16) + (y 1).val := by
  blk_simp [index3 t]; omega

/-- Every element of the result lies in a block. -/
theorem covers3 : (cfg0.win 3).Covers := by decide +kernel

/-- Whatever the schedule's data, if each step leaves in the output's block the values one array has there, then
    the output array is that array once the grid has run. -/
theorem arr_of_after (dat : Pipeline.Dat τ (Elt Ideal) Unit ℕ (UR sig nD τ) ℕ cfg0 c) (G : S8192x4096.Idx → EReal)
    (H : ∀ (t : Fin cfg0.N) (y : ((cfg0.win 3).xblock (cfg0.grid.coords t)).Idx),
      dat.after 3 t y = G ((win0_3.blk t).view.emb y)) : dat.arrAt 3 cfg0.N = G := by
  refine dat.arrAt_eq_of_covers 3 G covers3 fun t hf y => ?_
  blk_simp
  exact H t y

/-- What a step leaves in the output's block is the product at the block's place. -/
theorem after_eq (t : Fin cfg0.N) (y : S512x1024.Idx) :
    (out0_3 (iblk m c 0 t) (iblk m c 1 t) (iblk m c 2 t) y : EReal) = PROD m c ((win0_3.blk t).view.emb y) := by
  refine (congrArg (out0_3 (iblk m c 0 t) (iblk m c 1 t) (iblk m c 2 t)) (eq_ix2 y)).trans ((out_apply _ _ _ _ _).trans ?_)
  unfold PROD
  refine Finset.sum_congr rfl fun k _ => ?_
  rw [iblk0 m c t (y 0) k _ (emb_row t y), iblk1 m c t k (y 1) _ (emb_col t y)]

/-- Once the grid has run the output array is the product. -/
theorem final : (dats m 0 c).arrAt 3 cfg0.N = PROD m c :=
  arr_of_after c (dats m 0 c) (PROD m c) fun t y => (congrFun (after0_3 m c t) y).trans (after_eq m c t y)

/-- The mixed sequence as a left factor: its row taken apart. -/
theorem lhs_apply (b : Fin 2) (r : Fin 4096) (k : Fin 4096) (i : Fin 8192) (hi : i.val = 4096 * b.val + r.val) :
    lhs m c (ix2 i k) = m (c, Proc.tc.devRef main_arg0) (ix3 b r k) := by
  unfold lhs
  entry_read
  pointwise
  refine congrArg (m (c, Proc.tc.devRef main_arg0)) ?_
  congr 1 <;> apply Fin.ext <;> dsimp only
  all_goals omega

/-- The weight is the layer's only one. -/
theorem rhs_apply (k j : Fin 4096) : rhs m c (ix2 k j) = m (c, Proc.tc.devRef main_arg1) (ix3 0 k j) := by
  unfold rhs
  entry_read
  pointwise

/-- The expert values as the host hands them over, as extended reals. -/
abbrev vals : S2x16384x4096.Idx → EReal := m (c, Proc.tc.devRef main_arg2)

/-- A grid point's block of the cast values is the block of the values. -/
theorem side_apply (x0 : Vec Ideal S512x4096 .bf16) (x1 : Vec Ideal S4096x1024 .bf16) (x2 : Vec Ideal S1x256x4096 .f32) (r : Fin 256) (x : Fin 4096) :
    (out0_4 x0 x1 x2 (ix2 r x) : EReal) = x2 (ix3 0 r x) := by
  unfold out0_4
  frame_out
  pointwise [k0_pay2]

/-- Which block of the values a grid point reads. -/
theorem index2 : ∀ t : Fin cfg0.N, win0_2.index t = ![0, t.val, 0] := by decide +kernel
/-- Which block of the cast values a grid point writes. -/
theorem index4 : ∀ t : Fin cfg0.N, win0_4.index t = ![t.val, 0] := by decide +kernel

/-- The values' block at a point. -/
theorem iblk2 (t : Fin cfg0.N) (r : Fin 256) (x : Fin 4096) (i : Fin 16384) (j : Fin 4096) (hi : i.val = 256 * t.val + r.val) (hj : j.val = x.val) :
    (iblk m c 2 t (ix3 0 r x) : EReal) = V m c main_arg2 (ix3 0 i j) := by
  blk_ext [iblk, index2 t]

/-- The first layer's values. -/
def VALS : S16384x4096.Idx → EReal := fun i => vals m c (ix3 0 (i 0) (i 1))

/-- The row of the array at which an element of a point's block of values lies. -/
theorem emb_row' (t : Fin cfg0.N) (y : ((cfg0.win 4).xblock (cfg0.grid.coords t)).Idx) :
    ((((cfg0.win 4).blk t).view.emb y) 0 : ℕ) = 256 * t.val + (y 0).val := by
  blk_simp [index4 t]; omega

/-- Its column. -/
theorem emb_col' (t : Fin cfg0.N) (y : ((cfg0.win 4).xblock (cfg0.grid.coords t)).Idx) :
    ((((cfg0.win 4).blk t).view.emb y) 1 : ℕ) = (y 1).val := by
  blk_simp [index4 t]

/-- Every element of the cast values lies in a block. -/
theorem covers4 : (cfg0.win 4).Covers := by decide +kernel

/-- The same of the second output array. -/
theorem side_of_after (dat : Pipeline.Dat τ (Elt Ideal) Unit ℕ (UR sig nD τ) ℕ cfg0 c) (G : S16384x4096.Idx → EReal)
    (H : ∀ (t : Fin cfg0.N) (y : ((cfg0.win 4).xblock (cfg0.grid.coords t)).Idx),
      dat.after 4 t y = G ((win0_4.blk t).view.emb y)) : dat.arrAt 4 cfg0.N = G := by
  refine dat.arrAt_eq_of_covers 4 G covers4 fun t hf y => ?_
  blk_simp
  exact H t y

/-- What a step leaves in the second output's block is the first layer's values at the block's place. -/
theorem side_eq (t : Fin cfg0.N) (y : S256x4096.Idx) :
    (out0_4 (iblk m c 0 t) (iblk m c 1 t) (iblk m c 2 t) y : EReal) = VALS m c ((win0_4.blk t).view.emb y) := by
  refine (congrArg (out0_4 (iblk m c 0 t) (iblk m c 1 t) (iblk m c 2 t)) (eq_ix2 y)).trans ((side_apply _ _ _ _ _).trans ?_)
  refine (iblk2 m c t (y 0) (y 1) _ _ (emb_row' t y) (emb_col' t y)).trans ?_
  rw [V_main_arg2]
  rfl

/-- Once the grid has run the second output array is the first layer's values. -/
theorem side_final : (dats m 0 c).arrAt 4 cfg0.N = VALS m c :=
  side_of_after c (dats m 0 c) (VALS m c) fun t y => (congrFun (after0_4 m c t) y).trans (side_eq m c t y)

end Cert.FnetOutIdeal.Att

namespace Cert.FnetOut.Proof

open Idealize.ShloMosaic Idealize.ShloMosaic.TcCoe Idealize.ShloMosaic.Tactic
open Cert.FnetOutIdeal.Att

variable (m : (ℓ : Loc Cert.FnetOutIdeal.nD Cert.FnetOutIdeal.τ Cert.FnetOutIdeal.sig) → Buf (Elt Ideal) ℓ) (c : Dev Cert.FnetOutIdeal.nD)

/-- The reference's first result is the same product. -/
theorem reference_eq : Cert.FnetOutRefIdeal.Read.val_main_v3 (F := Ideal)
    (m ((c.tc : Thread Cert.FnetOutIdeal.nD Cert.FnetOutIdeal.τ).loc Cert.FnetOutIdeal.main_arg0))
    (m ((c.tc : Thread Cert.FnetOutIdeal.nD Cert.FnetOutIdeal.τ).loc Cert.FnetOutIdeal.main_arg1)) = PROD m c := by
  funext i
  have hb : (i 0).val < 8192 := (i 0).isLt
  unfold PROD
  rw [eq_ix2 i]
  pointwise [Cert.FnetOutRefIdeal.Read.val_main_v3, Cert.FnetOutRefIdeal.Read.val_main_v2, Cert.FnetOutRefIdeal.Read.val_main_v1, Cert.FnetOutRefIdeal.Read.val_main_v0]
  refine Finset.sum_congr rfl fun k _ => ?_
  exact (congrArg₂ (fun a b : EReal => a * b) (lhs_apply m c ⟨(i 0).val / 4096, by omega⟩ ⟨(i 0).val % 4096, by omega⟩ k _ (by dsimp only; omega))
    (rhs_apply m c k _)).symm

/-- The reference's second result is the same values. -/
theorem reference_side : Cert.FnetOutRefIdeal.Read.val_main_v6 (F := Ideal)
    (m ((c.tc : Thread Cert.FnetOutIdeal.nD Cert.FnetOutIdeal.τ).loc Cert.FnetOutIdeal.main_arg2)) = VALS m c := by
  funext i
  unfold VALS
  rw [eq_ix2 i]
  pointwise [Cert.FnetOutRefIdeal.Read.val_main_v6, Cert.FnetOutRefIdeal.Read.val_main_v5, Cert.FnetOutRefIdeal.Read.val_main_v4]
  all_goals first | done | rfl

/-- **The algebraic claim of the Fourier mixing's output product.** -/
theorem algebraic : Cert.algebraic_FnetOutIdeal_FnetOutRefIdeal := by
  pair_intro
  · run_from Cert.FnetOutIdeal.Value.run_blocks m g
  · run_from Cert.FnetOutRefIdeal.Value.run m' g'
    · rw [Cert.FnetOutRefIdeal.Read.val_main_v3_eq]
      exact (reference_eq m c).trans (final m c).symm
    · rw [Cert.FnetOutRefIdeal.Read.val_main_v6_eq]
      exact (reference_side m c).trans (side_final m c).symm

end Cert.FnetOut.Proof

end
-- ==== Proof.MlaIn.lean ====
/- The product with the latent attention's input weight: the kernel's result array and its reference, element by element. -/
module

public import proofs.«01_k».proof.Proof.Gen.MlaInIdeal.Value
public import proofs.«01_k».proof.Proof.Gen.MlaInRefIdeal.Run
public import proofs.«01_k».proof.Proof.Gen.MlaInRefIdeal.Read
public import proofs.«01_k».proof.Proof.Gen.Pre_finite_factors
public import proofs.«01_k».proof.Proof.Algebraic
public import proofs.«01_k».proof.Defs
public import Idealize.ShloMosaic.Lib.Pipeline.ValueKit
public import Idealize.ShloMosaic.Lib.Pipeline.Covers
public import Idealize.ShloMosaic.Lib.Pointwise
public import Idealize.ShloMosaic.Lib.Claim

@[expose] public section

set_option maxRecDepth 16384

noncomputable section

namespace Cert.MlaInIdeal.Att

open Idealize.ShloMosaic Idealize.ShloMosaic.TcCoe Idealize.ShloMosaic.Tactic
open Cert.MlaInIdeal Cert.MlaInIdeal.Gen Cert.Soft

variable (m : (ℓ : Loc nD τ sig) → Buf (Elt Ideal) ℓ) (c : Dev nD)

/-- The left factor as the host hands it over, as extended reals. -/
abbrev lhs : S8192x4096.Idx → EReal := V m c main_v15
/-- The weight as the host hands it over, as extended reals. -/
abbrev rhs : S4096x1664.Idx → EReal := V m c main_v13

/-- A grid point's block of the product is the product of its blocks. -/
theorem out_apply (x0 : Vec Ideal S512x4096 .bf16) (x1 : Vec Ideal S4096x1664 .bf16) (r : Fin 512) (x : Fin 1664) :
    (out0_2 x0 x1 (ix2 r x) : EReal) = ∑ k : Fin 4096, (x0 (ix2 r k) : EReal) * x1 (ix2 k x) := by
  unfold out0_2
  frame_out
  pointwise [k0_pay1]

/-- Which block of the left factor a grid point reads. -/
theorem index0 : ∀ t : Fin cfg0.N, win0_0.index t = ![t.val, 0] := by decide +kernel
/-- Which block of the weight a grid point reads. -/
theorem index1 : ∀ t : Fin cfg0.N, win0_1.index t = ![0, 0] := by decide +kernel
/-- Which block of the result a grid point writes. -/
theorem index2 : ∀ t : Fin cfg0.N, win0_2.index t = ![t.val, 0] := by decide +kernel
/-- The grid has 16 points. -/
theorem N_eq : cfg0.N = 16 := by decide

/-- The left factor's block at a point. -/
theorem iblk0 (t : Fin cfg0.N) (r : Fin 512) (k : Fin 4096) (i : Fin 8192) (hi : i.val = 512 * t.val + r.val) :
    (iblk m c 0 t (ix2 r k) : EReal) = lhs m c (ix2 i k) := by
  unfold lhs
  blk_ext [iblk, index0 t]

/-- The weight's block at a point. -/
theorem iblk1 (t : Fin cfg0.N) (k : Fin 4096) (x : Fin 1664) (j : Fin 1664) (hj : j.val = x.val) :
    (iblk m c 1 t (ix2 k x) : EReal) = rhs m c (ix2 k j) := by
  unfold rhs
  blk_ext [iblk, index1 t]

/-- The product of the two arrays that the host hands over. -/
def PROD : S8192x1664.Idx → EReal := fun i => ∑ k : Fin 4096, lhs m c (ix2 (i 0) k) * rhs m c (ix2 k (i 1))

/-- The row of the array at which an element of a point's block lies. -/
theorem emb_row (t : Fin cfg0.N) (y : ((cfg0.win 2).xblock (cfg0.grid.coords t)).Idx) :
    ((((cfg0.win 2).blk t).view.emb y) 0 : ℕ) = 512 * t.val + (y 0).val := by
  blk_simp [index2 t]; omega

/-- Its column. -/
theorem emb_col (t : Fin cfg0.N) (y : ((cfg0.win 2).xblock (cfg0.grid.coords t)).Idx) :
    ((((cfg0.win 2).blk t).view.emb y) 1 : ℕ) = (y 1).val := by
  blk_simp [index2 t]

/-- Every element of the result lies in a block. -/
theorem covers2 : (cfg0.win 2).Covers := by decide +kernel

/-- Whatever the schedule's data, if each step leaves in the output's block the values one array has there, then
    the output array is that array once the grid has run. -/
theorem arr_of_after (dat : Pipeline.Dat τ (Elt Ideal) Unit ℕ (UR sig nD τ) ℕ cfg0 c) (G : S8192x1664.Idx → EReal)
    (H : ∀ (t : Fin cfg0.N) (y : ((cfg0.win 2).xblock (cfg0.grid.coords t)).Idx),
      dat.after 2 t y = G ((win0_2.blk t).view.emb y)) : dat.arrAt 2 cfg0.N = G := by
  refine dat.arrAt_eq_of_covers 2 G covers2 fun t hf y => ?_
  blk_simp
  exact H t y

/-- What a step leaves in the output's block is the product at the block's place. -/
theorem after_eq (t : Fin cfg0.N) (y : S512x1664.Idx) :
    (out0_2 (iblk m c 0 t) (iblk m c 1 t) y : EReal) = PROD m c ((win0_2.blk t).view.emb y) := by
  refine (congrArg (out0_2 (iblk m c 0 t) (iblk m c 1 t)) (eq_ix2 y)).trans ((out_apply _ _ _ _).trans ?_)
  unfold PROD
  refine Finset.sum_congr rfl fun k _ => ?_
  rw [iblk0 m c t (y 0) k _ (emb_row t y), iblk1 m c t k (y 1) _ (emb_col t y)]

/-- Once the grid has run the output array is the product. -/
theorem final : (dats m 0 c).arrAt 2 cfg0.N = PROD m c :=
  arr_of_after c (dats m 0 c) (PROD m c) fun t y => (congrFun (after0_2 m c t) y).trans (after_eq m c t y)

/-- The activations. -/
abbrev arg0 : S2x4096x4096.Idx → EReal := m (c, Proc.tc.devRef main_arg0)
/-- The weight. -/
abbrev arg1 : S1x4096x1600.Idx → EReal := m (c, Proc.tc.devRef main_arg1)

/-- The activations as a left factor: the row is a batch and a token. -/
theorem lhs_apply (b : Fin 2) (r : Fin 4096) (k : Fin 4096) (i : Fin 8192) (hi : i.val = 4096 * b.val + r.val) :
    lhs m c (ix2 i k) = arg0 m c (ix3 b r k) := by
  unfold lhs arg0
  entry_read
  pointwise
  refine congrArg (m (c, Proc.tc.devRef main_arg0)) ?_
  congr 1 <;> apply Fin.ext <;> dsimp only <;> omega

/-- The weight as the host hands it over: its own columns, and after them the 64 last ones turned, in each half the
    second 16 with their sign changed, then the first 16. -/
theorem rhs_apply (k : Fin 4096) (j : Fin 1664) : rhs m c (ix2 k j) =
    if h : j.val < 1600 then arg1 m c (ix3 0 k ⟨j.val, h⟩)
    else if h' : (j.val - 1600) / 16 % 2 < 1 then -arg1 m c (ix3 0 k ⟨1536 + ((j.val - 1600) / 32 * 32 + 16 + (j.val - 1600) % 16), by omega⟩)
    else arg1 m c (ix3 0 k ⟨1536 + ((j.val - 1600) / 32 * 32 + (j.val - 1600) % 16), by omega⟩) := by
  unfold rhs arg1
  entry_read
  pointwise

/-- A sum of products of reals with the second factors' signs changed. -/
theorem neg_sum {ι : Type} [Fintype ι] (a b : ι → EReal) (ha : ∀ i, a i = ((a i).toReal : EReal)) (hb : ∀ i, b i = ((b i).toReal : EReal)) :
    -(∑ i, a i * b i) = ∑ i, a i * -b i := by
  have e : (∑ i, a i * b i) = ((∑ i, (a i).toReal * (b i).toReal : ℝ) : EReal) := by
    rw [coe_sum']
    exact Finset.sum_congr rfl fun i _ => by rw [EReal.coe_mul, ← ha, ← hb]
  have e' : (∑ i, a i * -b i) = ((∑ i, -((a i).toReal * (b i).toReal) : ℝ) : EReal) := by
    rw [coe_sum']
    exact Finset.sum_congr rfl fun i _ => by rw [EReal.coe_neg, EReal.coe_mul, ← ha, ← hb, mul_neg]
  rw [e, e', Finset.sum_neg_distrib, EReal.coe_neg]

/-- A row times the weight and its turned columns is the row times the weight, with its own last elements turned. -/
theorem turned (A : Fin 4096 → EReal) (W : S1x4096x1600.Idx → EReal) (hA : ∀ k, A k = ((A k).toReal : EReal)) (hW : Finite W) (j : Fin 1664) :
    (if h : j.val < 1600 then ∑ k : Fin 4096, A k * W (ix3 0 k ⟨j.val, h⟩)
      else if h' : (j.val - 1600) / 16 % 2 < 1 then -∑ k : Fin 4096, A k * W (ix3 0 k ⟨1536 + ((j.val - 1600) / 32 * 32 + 16 + (j.val - 1600) % 16), by omega⟩)
      else ∑ k : Fin 4096, A k * W (ix3 0 k ⟨1536 + ((j.val - 1600) / 32 * 32 + (j.val - 1600) % 16), by omega⟩))
    = ∑ k : Fin 4096, A k * (if h : j.val < 1600 then W (ix3 0 k ⟨j.val, h⟩)
      else if h' : (j.val - 1600) / 16 % 2 < 1 then -W (ix3 0 k ⟨1536 + ((j.val - 1600) / 32 * 32 + 16 + (j.val - 1600) % 16), by omega⟩)
      else W (ix3 0 k ⟨1536 + ((j.val - 1600) / 32 * 32 + (j.val - 1600) % 16), by omega⟩)) := by
  by_cases h : j.val < 1600
  · simp only [dif_pos h]
  · simp only [dif_neg h]
    by_cases h' : (j.val - 1600) / 16 % 2 < 1
    · simp only [dif_pos h']
      exact neg_sum _ _ hA fun _ => hW _
    · simp only [dif_neg h']

end Cert.MlaInIdeal.Att

namespace Cert.MlaIn.Proof

open Idealize.ShloMosaic Idealize.ShloMosaic.TcCoe Idealize.ShloMosaic.Tactic
open Cert.MlaInIdeal.Att Cert.Soft

variable (m : (ℓ : Loc Cert.MlaInIdeal.nD Cert.MlaInIdeal.τ Cert.MlaInIdeal.sig) → Buf (Elt Ideal) ℓ) (c : Dev Cert.MlaInIdeal.nD)

/-- Under the precondition both arguments are finite. -/
theorem finite_args (h : Cert.Pre_MlaInIdeal_finite_factors m) (c : Dev Cert.MlaInIdeal.nD) : Finite (arg0 m c) ∧ Finite (arg1 m c) :=
  have ⟨e0, e1⟩ := h c
  ⟨Cert.Proof.finite_of_olt _ _ e0, Cert.Proof.finite_of_olt _ _ e1⟩

/-- The reference's result is the same product. -/
theorem reference_eq (h0 : Finite (arg0 m c)) (h1 : Finite (arg1 m c)) : Cert.MlaInRefIdeal.Read.val_main_v14 (F := Ideal) (arg0 m c) (arg1 m c) = PROD m c := by
  funext i
  have hb : (i 0).val < 8192 := (i 0).isLt
  unfold PROD
  rw [eq_ix2 i]
  pointwise [Cert.MlaInRefIdeal.Read.val_main_v14, Cert.MlaInRefIdeal.Read.val_main_v13, Cert.MlaInRefIdeal.Read.val_main_v12, Cert.MlaInRefIdeal.Read.val_main_v11, Cert.MlaInRefIdeal.Read.val_main_v10, Cert.MlaInRefIdeal.Read.val_main_v9, Cert.MlaInRefIdeal.Read.val_main_v8, Cert.MlaInRefIdeal.Read.val_main_v7, Cert.MlaInRefIdeal.Read.val_main_v6, Cert.MlaInRefIdeal.Read.val_main_v5, Cert.MlaInRefIdeal.Read.val_main_v4, Cert.MlaInRefIdeal.Read.val_main_v3, Cert.MlaInRefIdeal.Read.val_main_v2, Cert.MlaInRefIdeal.Read.val_main_v1, Cert.MlaInRefIdeal.Read.val_main_v0]
  have hl : ∀ k, lhs m c (ix2 (i 0) k) = arg0 m c (ix3 ⟨(i 0).val / 4096, by omega⟩ ⟨(i 0).val % 4096, by omega⟩ k) :=
    fun k => lhs_apply m c _ _ k _ (by dsimp only; omega)
  refine Eq.trans ?_ (Finset.sum_congr rfl fun k _ => congrArg₂ (fun a b : EReal => a * b) (hl k) (rhs_apply m c k (i 1))).symm
  exact turned (fun k => arg0 m c (ix3 ⟨(i 0).val / 4096, by omega⟩ ⟨(i 0).val % 4096, by omega⟩ k)) (arg1 m c) (fun _ => h0 _) h1 (i 1)

/-- **The algebraic claim of the latent attention's input product.** -/
theorem algebraic : Cert.algebraic_MlaInIdeal_MlaInRefIdeal_pre_finite_factors := by
  pair_intro
  · run_from Cert.MlaInIdeal.Value.run_blocks m g
  · run_from Cert.MlaInRefIdeal.Value.run m' g'
    obtain ⟨h0, h1⟩ := finite_args m hpre c
    obtain ⟨a0, a1⟩ := hagree c
    rw [Cert.MlaInRefIdeal.Read.val_main_v14_eq]
    try rw [a0, a1]
    exact (reference_eq m c h0 h1).trans (final m c).symm

end Cert.MlaIn.Proof

end
-- ==== Proof.MlaOut.lean ====
/- The product with the latent attention's output weight: the kernel's result array and its reference, element by element. -/
module

public import proofs.«01_k».proof.Proof.Gen.MlaOutIdeal.Value
public import proofs.«01_k».proof.Proof.Gen.MlaOutRefIdeal.Run
public import proofs.«01_k».proof.Proof.Gen.MlaOutRefIdeal.Read
public import proofs.«01_k».proof.Defs
public import Idealize.ShloMosaic.Lib.Pipeline.ValueKit
public import Idealize.ShloMosaic.Lib.Pipeline.Covers
public import Idealize.ShloMosaic.Lib.Pointwise
public import Idealize.ShloMosaic.Lib.Claim

@[expose] public section

set_option maxRecDepth 16384

noncomputable section

namespace Cert.MlaOutIdeal.Att

open Idealize.ShloMosaic Idealize.ShloMosaic.TcCoe Idealize.ShloMosaic.Tactic
open Cert.MlaOutIdeal Cert.MlaOutIdeal.Gen

variable (m : (ℓ : Loc nD τ sig) → Buf (Elt Ideal) ℓ) (c : Dev nD)

/-- The left factor as the host hands it over, as extended reals. -/
abbrev lhs : S8192x4096.Idx → EReal := V m c main_v1
/-- The weight as the host hands it over, as extended reals. -/
abbrev rhs : S4096x4096.Idx → EReal := V m c main_v3

/-- A grid point's block of the product is the product of its blocks. -/
theorem out_apply (x0 : Vec Ideal S512x4096 .bf16) (x1 : Vec Ideal S4096x1024 .bf16) (r : Fin 512) (x : Fin 1024) :
    (out0_2 x0 x1 (ix2 r x) : EReal) = ∑ k : Fin 4096, (x0 (ix2 r k) : EReal) * x1 (ix2 k x) := by
  unfold out0_2
  frame_out
  pointwise [k0_pay1]

/-- Which block of the left factor a grid point reads. -/
theorem index0 : ∀ t : Fin cfg0.N, win0_0.index t = ![t.val % 16, 0] := by decide +kernel
/-- Which block of the weight a grid point reads. -/
theorem index1 : ∀ t : Fin cfg0.N, win0_1.index t = ![0, t.val / 16] := by decide +kernel
/-- Which block of the result a grid point writes. -/
theorem index2 : ∀ t : Fin cfg0.N, win0_2.index t = ![t.val % 16, t.val / 16] := by decide +kernel
/-- The grid has 64 points. -/
theorem N_eq : cfg0.N = 64 := by decide

/-- The left factor's block at a point. -/
theorem iblk0 (t : Fin cfg0.N) (r : Fin 512) (k : Fin 4096) (i : Fin 8192) (hi : i.val = 512 * (t.val % 16) + r.val) :
    (iblk m c 0 t (ix2 r k) : EReal) = lhs m c (ix2 i k) := by
  unfold lhs
  blk_ext [iblk, index0 t]

/-- The weight's block at a point. -/
theorem iblk1 (t : Fin cfg0.N) (k : Fin 4096) (x : Fin 1024) (j : Fin 4096) (hj : j.val = 1024 * (t.val / 16) + x.val) :
    (iblk m c 1 t (ix2 k x) : EReal) = rhs m c (ix2 k j) := by
  unfold rhs
  blk_ext [iblk, index1 t]

/-- The product of the two arrays that the host hands over. -/
def PROD : S8192x4096.Idx → EReal := fun i => ∑ k : Fin 4096, lhs m c (ix2 (i 0) k) * rhs m c (ix2 k (i 1))

/-- The row of the array at which an element of a point's block lies. -/
theorem emb_row (t : Fin cfg0.N) (y : ((cfg0.win 2).xblock (cfg0.grid.coords t)).Idx) :
    ((((cfg0.win 2).blk t).view.emb y) 0 : ℕ) = 512 * (t.val % 16) + (y 0).val := by
  blk_simp [index2 t]; omega

/-- Its column. -/
theorem emb_col (t : Fin cfg0.N) (y : ((cfg0.win 2).xblock (cfg0.grid.coords t)).Idx) :
    ((((cfg0.win 2).blk t).view.emb y) 1 : ℕ) = 1024 * (t.val / 16) + (y 1).val := by
  blk_simp [index2 t]; omega

/-- Every element of the result lies in a block. -/
theorem covers2 : (cfg0.win 2).Covers := by decide +kernel

/-- Whatever the schedule's data, if each step leaves in the output's block the values one array has there, then
    the output array is that array once the grid has run. -/
theorem arr_of_after (dat : Pipeline.Dat τ (Elt Ideal) Unit ℕ (UR sig nD τ) ℕ cfg0 c) (G : S8192x4096.Idx → EReal)
    (H : ∀ (t : Fin cfg0.N) (y : ((cfg0.win 2).xblock (cfg0.grid.coords t)).Idx),
      dat.after 2 t y = G ((win0_2.blk t).view.emb y)) : dat.arrAt 2 cfg0.N = G := by
  refine dat.arrAt_eq_of_covers 2 G covers2 fun t hf y => ?_
  blk_simp
  exact H t y

/-- What a step leaves in the output's block is the product at the block's place. -/
theorem after_eq (t : Fin cfg0.N) (y : S512x1024.Idx) :
    (out0_2 (iblk m c 0 t) (iblk m c 1 t) y : EReal) = PROD m c ((win0_2.blk t).view.emb y) := by
  refine (congrArg (out0_2 (iblk m c 0 t) (iblk m c 1 t)) (eq_ix2 y)).trans ((out_apply _ _ _ _).trans ?_)
  unfold PROD
  refine Finset.sum_congr rfl fun k _ => ?_
  rw [iblk0 m c t (y 0) k _ (emb_row t y), iblk1 m c t k (y 1) _ (emb_col t y)]

/-- Once the grid has run the output array is the product. -/
theorem final : (dats m 0 c).arrAt 2 cfg0.N = PROD m c :=
  arr_of_after c (dats m 0 c) (PROD m c) fun t y => (congrFun (after0_2 m c t) y).trans (after_eq m c t y)

/-- The attention's result as a left factor: its row and column taken apart. -/
theorem lhs_apply (b : Fin 2) (r : Fin 4096) (k : Fin 4096) (i : Fin 8192) (hi : i.val = 4096 * b.val + r.val) :
    lhs m c (ix2 i k) = m (c, Proc.tc.devRef main_arg0) (ix4 b r ⟨k.val / 128, by omega⟩ ⟨k.val % 128, by omega⟩) := by
  unfold lhs
  entry_read
  pointwise
  refine congrArg (m (c, Proc.tc.devRef main_arg0)) ?_
  congr 1 <;> apply Fin.ext <;> dsimp only <;> omega

/-- The weight is the layer's only one. -/
theorem rhs_apply (k j : Fin 4096) : rhs m c (ix2 k j) = m (c, Proc.tc.devRef main_arg1) (ix3 0 k j) := by
  unfold rhs
  entry_read
  pointwise

end Cert.MlaOutIdeal.Att

namespace Cert.MlaOut.Proof

open Idealize.ShloMosaic Idealize.ShloMosaic.TcCoe Idealize.ShloMosaic.Tactic
open Cert.MlaOutIdeal.Att

variable (m : (ℓ : Loc Cert.MlaOutIdeal.nD Cert.MlaOutIdeal.τ Cert.MlaOutIdeal.sig) → Buf (Elt Ideal) ℓ) (c : Dev Cert.MlaOutIdeal.nD)

/-- The reference's result is the same product. -/
theorem reference_eq : Cert.MlaOutRefIdeal.Read.val_main_v4 (F := Ideal)
    (m ((c.tc : Thread Cert.MlaOutIdeal.nD Cert.MlaOutIdeal.τ).loc Cert.MlaOutIdeal.main_arg0))
    (m ((c.tc : Thread Cert.MlaOutIdeal.nD Cert.MlaOutIdeal.τ).loc Cert.MlaOutIdeal.main_arg1)) = PROD m c := by
  funext i
  have hb : (i 0).val < 8192 := (i 0).isLt
  unfold PROD
  rw [eq_ix2 i]
  pointwise [Cert.MlaOutRefIdeal.Read.val_main_v4, Cert.MlaOutRefIdeal.Read.val_main_v3, Cert.MlaOutRefIdeal.Read.val_main_v2, Cert.MlaOutRefIdeal.Read.val_main_v1, Cert.MlaOutRefIdeal.Read.val_main_v0]
  refine Finset.sum_congr rfl fun k _ => ?_
  exact (congrArg₂ (fun a b : EReal => a * b) (lhs_apply m c ⟨(i 0).val / 4096, by omega⟩ ⟨(i 0).val % 4096, by omega⟩ k _ (by dsimp only; omega))
    (rhs_apply m c k _)).symm

/-- **The algebraic claim of the latent attention's output product.** -/
theorem algebraic : Cert.algebraic_MlaOutIdeal_MlaOutRefIdeal := by
  pair_intro
  · run_from Cert.MlaOutIdeal.Value.run_blocks m g
  · run_from Cert.MlaOutRefIdeal.Value.run m' g'
    obtain ⟨a0, a1⟩ := hagree c
    rw [Cert.MlaOutRefIdeal.Read.val_main_v4_eq]
    try rw [a0, a1]
    exact (reference_eq m c).trans (final m c).symm

end Cert.MlaOut.Proof

end
-- ==== Proof.Q.lean ====
/- The queries of the latent attention: the kernel's result array and its reference, element by element. -/
module

public import proofs.«01_k».proof.Proof.Gen.QIdeal.Value
public import proofs.«01_k».proof.Proof.Gen.QRefIdeal.Run
public import proofs.«01_k».proof.Proof.Gen.QRefIdeal.Read
public import proofs.«01_k».proof.Proof.Gen.Pre_finite_weights
public import proofs.«01_k».proof.Proof.MlaIn
public import Idealize.ShloMosaic.Lib.Pipeline.ReadBack

@[expose] public section

set_option maxRecDepth 16384

noncomputable section

namespace Cert.QIdeal.Att

open Idealize.ShloMosaic Idealize.ShloMosaic.TcCoe Idealize.ShloMosaic.Tactic
open Cert.QIdeal Cert.QIdeal.Gen Cert.Soft

/-- A row divided by the root of its mean square, times the gain. -/
def nrm (z g : Fin 1024 → EReal) (k : Fin 1024) : EReal :=
  z k * Ideal.rsqrt (Ideal.div (∑ x : Fin 1024, z x * z x) (Ideal.ofBits FTy.f32 1149239296#32) + Ideal.ofBits FTy.f32 897988541#32) * g k

/-- Each odd group of 128 columns times the table, plus its own product turned by half the group; the even groups as they are. -/
def rot {n : ℕ} (hn : n % 128 = 0) (W : Fin n → EReal) (C : Fin 128 → EReal) (x : Fin n) : EReal :=
  if x.val / 128 % 2 = 0 then W x
  else W x * C ⟨x.val % 128, by omega⟩ + W ⟨x.val / 128 * 128 + (x.val % 128 + 128 - 64) % 128, by omega⟩ * C ⟨(x.val % 128 + 128 - 64) % 128, by omega⟩

/-- At a column of a larger array whose groups begin where the block's do, the same. -/
theorem rot_block {n n' : ℕ} (hn : n % 128 = 0) (hn' : n' % 128 = 0) (W : Fin n → EReal) (W' : Fin n' → EReal) (C C' : Fin 128 → EReal)
    (s : ℕ) (hs : s % 256 = 0) (x : Fin n) (j : Fin n') (hj : j.val = s + x.val)
    (hW : ∀ (a : Fin n) (b : Fin n'), b.val = s + a.val → W a = W' b) (hC : ∀ l, C l = C' l) : rot hn W C x = rot hn' W' C' j := by
  unfold rot
  have e : (⟨j.val % 128, by omega⟩ : Fin 128) = ⟨x.val % 128, by omega⟩ := Fin.ext (by dsimp only; omega)
  have e' : (⟨(j.val % 128 + 128 - 64) % 128, by omega⟩ : Fin 128) = ⟨(x.val % 128 + 128 - 64) % 128, by omega⟩ := Fin.ext (by dsimp only; omega)
  by_cases h : x.val / 128 % 2 = 0
  · rw [if_pos h, if_pos (by omega)]
    exact hW _ _ hj
  · rw [if_neg h, if_neg (by omega), hC, hC, e, e', hW x j hj]
    congr 2
    exact hW _ _ (by dsimp only; omega)

/-- The scratch's rows: the rows of the low-rank block, normed. -/
theorem norm_apply (Z : Vec Ideal S1024x1024 .f32) (g : Vec Ideal S1x1024 .f32) (r k : Fin 1024) :
    (k0_pay4 Z g (ix2 r k) : EReal) = nrm (fun x => Z (ix2 r x)) (fun x => g (ix2 0 x)) k := by
  unfold nrm
  pointwise [k0_pay4]

/-- The block of the product. -/
theorem prod_apply (A : Vec Ideal S1024x1024 .bf16) (X : Vec Ideal S1024x2048 .bf16) (r : Fin 1024) (x : Fin 2048) :
    (k0_pay5 A X (ix2 r x) : EReal) = ∑ k : Fin 1024, (A (ix2 r k) : EReal) * X (ix2 k x) := by
  pointwise [k0_pay5]

/-- The table's block is used as it is read. -/
theorem table_id (C : Vec Ideal S1024x128 .f32) : k0_pay6 C = C := by
  funext i
  pointwise [k0_pay6]

section
variable (W : FVec Ideal S1024x2048 .f32) (C : FVec Ideal S1024x128 .f32)

/-- A block of the queries from the block of the product and the table. -/
def BLK : Vec Ideal S1024x2048 .bf16 := fun y => (rot (n := 2048) (by decide) (fun x => W (ix2 (y 0) x)) (fun l => C (ix2 (y 0) l)) (y 1) : EReal)

/-- The block at an index given by its coordinates. -/
theorem BLK_apply (y : S1024x2048.Idx) (r : Fin 1024) (x : Fin 2048) (hr : (y 0).val = r.val) (hx : (y 1).val = x.val) :
    (BLK W C y : EReal) = rot (n := 2048) (by decide) (fun x => W (ix2 r x)) (fun l => C (ix2 r l)) x := by
  have a : y 0 = r := Fin.ext hr
  have b : y 1 = x := Fin.ext hx
  unfold BLK
  rw [a, b]

/-- A store of 128 columns of the product is the block at its place. -/
theorem store_even (o : ℕ) (ho : o % 256 = 0) (ho' : o ≤ 1920) (w : FVec Ideal S1024x128 .bf16) (x : S1024x128.Idx) (y : S1024x2048.Idx)
    (hw : ∀ (r : Fin 1024) (l : Fin 128), (w (ix2 r l) : EReal) = W (ix2 r ⟨o + l.val, by omega⟩))
    (h0 : (y 0).val = 0 + 1 * (x 0).val) (h1 : (y 1).val = o + 1 * (x 1).val) : w x = BLK W C y := by
  have hl : (x 1).val < 128 := (x 1).isLt
  refine (congrArg w (eq_ix2 x)).trans ((hw _ _).trans ?_)
  rw [BLK_apply W C y (x 0) ⟨o + (x 1).val, by omega⟩ (by omega) (by dsimp only; omega)]
  unfold rot
  rw [if_pos (by dsimp only; omega)]

/-- An odd group's column. -/
theorem rot_odd (W : Fin 2048 → EReal) (C : Fin 128 → EReal) (o : ℕ) (ho : o % 256 = 128) (ho' : o ≤ 1920) (l : Fin 128) :
    rot (n := 2048) (by decide) W C ⟨o + l.val, by omega⟩
      = W ⟨o + l.val, by omega⟩ * C l + W ⟨o + (l.val + 128 - 64) % 128, by omega⟩ * C ⟨(l.val + 128 - 64) % 128, by omega⟩ := by
  unfold rot
  rw [if_neg (by dsimp only; omega)]
  have e : (⟨(o + l.val) % 128, by omega⟩ : Fin 128) = l := Fin.ext (by dsimp only; omega)
  have e' : (⟨((o + l.val) % 128 + 128 - 64) % 128, by omega⟩ : Fin 128) = ⟨(l.val + 128 - 64) % 128, by omega⟩ := Fin.ext (by dsimp only; omega)
  have e'' : (⟨(o + l.val) / 128 * 128 + ((o + l.val) % 128 + 128 - 64) % 128, by omega⟩ : Fin 2048) = ⟨o + (l.val + 128 - 64) % 128, by omega⟩ := Fin.ext (by dsimp only; omega)
  simp only [e, e', e'']

/-- A store of 128 columns times the table, and the same turned, is the block at its place. -/
theorem store_odd (o : ℕ) (ho : o % 256 = 128) (ho' : o ≤ 1920) (w : FVec Ideal S1024x128 .bf16) (x : S1024x128.Idx) (y : S1024x2048.Idx)
    (hw : ∀ (r : Fin 1024) (l : Fin 128), (w (ix2 r l) : EReal) = W (ix2 r ⟨o + l.val, by omega⟩) * C (ix2 r l)
      + W (ix2 r ⟨o + (l.val + 128 - 64) % 128, by omega⟩) * C (ix2 r ⟨(l.val + 128 - 64) % 128, by omega⟩))
    (h0 : (y 0).val = 0 + 1 * (x 0).val) (h1 : (y 1).val = o + 1 * (x 1).val) : w x = BLK W C y := by
  have hl : (x 1).val < 128 := (x 1).isLt
  refine (congrArg w (eq_ix2 x)).trans ((hw _ _).trans ?_)
  rw [BLK_apply W C y (x 0) ⟨o + (x 1).val, by omega⟩ (by omega) (by dsimp only; omega)]
  exact (rot_odd (fun a => W (ix2 (x 0) a)) (fun l => C (ix2 (x 0) l)) o ho ho' (x 1)).symm

end

section
variable (A : Vec Ideal S1024x1024 .bf16) (X : Vec Ideal S1024x2048 .bf16) (C : Vec Ideal S1024x128 .f32)

/-- What a point leaves in the output's block, from the scratch and the blocks of the weight and of the table. -/
def OUT : Vec Ideal S1024x2048 .bf16 :=
  View.canon [
    ⟨Rect.unit ![0, 1920] ![1024, 128] inb_S1024x2048_S1024x128_0_1920, k0_pay3 (k0_pay5 A X) (k0_pay6 C)⟩,
    ⟨Rect.unit ![0, 1792] ![1024, 128] inb_S1024x2048_S1024x128_0_1792, k0_pay2 (k0_pay5 A X)⟩,
    ⟨Rect.unit ![0, 1664] ![1024, 128] inb_S1024x2048_S1024x128_0_1664, k0_pay1 (k0_pay5 A X) (k0_pay6 C)⟩,
    ⟨Rect.unit ![0, 1536] ![1024, 128] inb_S1024x2048_S1024x128_0_1536, k0_pay20 (k0_pay5 A X)⟩,
    ⟨Rect.unit ![0, 1408] ![1024, 128] inb_S1024x2048_S1024x128_0_1408, k0_pay19 (k0_pay5 A X) (k0_pay6 C)⟩,
    ⟨Rect.unit ![0, 1280] ![1024, 128] inb_S1024x2048_S1024x128_0_1280, k0_pay18 (k0_pay5 A X)⟩,
    ⟨Rect.unit ![0, 1152] ![1024, 128] inb_S1024x2048_S1024x128_0_1152, k0_pay17 (k0_pay5 A X) (k0_pay6 C)⟩,
    ⟨Rect.unit ![0, 1024] ![1024, 128] inb_S1024x2048_S1024x128_0_1024, k0_pay16 (k0_pay5 A X)⟩,
    ⟨Rect.unit ![0, 896] ![1024, 128] inb_S1024x2048_S1024x128_0_896, k0_pay15 (k0_pay5 A X) (k0_pay6 C)⟩,
    ⟨Rect.unit ![0, 768] ![1024, 128] inb_S1024x2048_S1024x128_0_768, k0_pay14 (k0_pay5 A X)⟩,
    ⟨Rect.unit ![0, 640] ![1024, 128] inb_S1024x2048_S1024x128_0_640, k0_pay13 (k0_pay6 C) (k0_pay12 A X)⟩,
    ⟨Rect.unit ![0, 512] ![1024, 128] inb_S1024x2048_S1024x128_0_512, k0_pay11 A X⟩,
    ⟨Rect.unit ![0, 384] ![1024, 128] inb_S1024x2048_S1024x128_0_384, k0_pay10 A X C⟩,
    ⟨Rect.unit ![0, 256] ![1024, 128] inb_S1024x2048_S1024x128_0_256, k0_pay9 A X⟩,
    ⟨Rect.unit ![0, 128] ![1024, 128] inb_S1024x2048_S1024x128_0_128, k0_pay8 A X C⟩,
    ⟨Rect.unit ![0, 0] ![1024, 128] inb_S1024x2048_S1024x128_0_0, k0_pay7 A X⟩]

/-- It is the block of the queries. -/
theorem OUT_eq (y : S1024x2048.Idx) : (OUT A X C y : EReal) = BLK (k0_pay5 A X) (k0_pay6 C) y := by
  unfold OUT
  refine View.canon_apply_of_pieces (BLK (k0_pay5 A X) (k0_pay6 C)) _ ?_ y (View.cover_of_tiledL (s := S1024x2048) _ S1024x128.size (by sl_kernel_rfl) y)
  intro pc hpc
  rcases List.mem_cons.mp hpc with rfl | hpc
  · exact fun x => store_odd (k0_pay5 A X) (k0_pay6 C) 1920 (by decide) (by decide) _ x _ (fun r l => by pointwise [k0_pay3]) rfl rfl
  rcases List.mem_cons.mp hpc with rfl | hpc
  · exact fun x => store_even (k0_pay5 A X) (k0_pay6 C) 1792 (by decide) (by decide) _ x _ (fun r l => by pointwise [k0_pay2]) rfl rfl
  rcases List.mem_cons.mp hpc with rfl | hpc
  · exact fun x => store_odd (k0_pay5 A X) (k0_pay6 C) 1664 (by decide) (by decide) _ x _ (fun r l => by pointwise [k0_pay1]) rfl rfl
  rcases List.mem_cons.mp hpc with rfl | hpc
  · exact fun x => store_even (k0_pay5 A X) (k0_pay6 C) 1536 (by decide) (by decide) _ x _ (fun r l => by pointwise [k0_pay20]) rfl rfl
  rcases List.mem_cons.mp hpc with rfl | hpc
  · exact fun x => store_odd (k0_pay5 A X) (k0_pay6 C) 1408 (by decide) (by decide) _ x _ (fun r l => by pointwise [k0_pay19]) rfl rfl
  rcases List.mem_cons.mp hpc with rfl | hpc
  · exact fun x => store_even (k0_pay5 A X) (k0_pay6 C) 1280 (by decide) (by decide) _ x _ (fun r l => by pointwise [k0_pay18]) rfl rfl
  rcases List.mem_cons.mp hpc with rfl | hpc
  · exact fun x => store_odd (k0_pay5 A X) (k0_pay6 C) 1152 (by decide) (by decide) _ x _ (fun r l => by pointwise [k0_pay17]) rfl rfl
  rcases List.mem_cons.mp hpc with rfl | hpc
  · exact fun x => store_even (k0_pay5 A X) (k0_pay6 C) 1024 (by decide) (by decide) _ x _ (fun r l => by pointwise [k0_pay16]) rfl rfl
  rcases List.mem_cons.mp hpc with rfl | hpc
  · exact fun x => store_odd (k0_pay5 A X) (k0_pay6 C) 896 (by decide) (by decide) _ x _ (fun r l => by pointwise [k0_pay15]) rfl rfl
  rcases List.mem_cons.mp hpc with rfl | hpc
  · exact fun x => store_even (k0_pay5 A X) (k0_pay6 C) 768 (by decide) (by decide) _ x _ (fun r l => by pointwise [k0_pay14]) rfl rfl
  rcases List.mem_cons.mp hpc with rfl | hpc
  · exact fun x => store_odd (k0_pay5 A X) (k0_pay6 C) 640 (by decide) (by decide) _ x _ (fun r l => by pointwise [k0_pay13, k0_pay12]) rfl rfl
  rcases List.mem_cons.mp hpc with rfl | hpc
  · exact fun x => store_even (k0_pay5 A X) (k0_pay6 C) 512 (by decide) (by decide) _ x _ (fun r l => by pointwise [k0_pay11]) rfl rfl
  rcases List.mem_cons.mp hpc with rfl | hpc
  · exact fun x => store_odd (k0_pay5 A X) (k0_pay6 C) 384 (by decide) (by decide) _ x _ (fun r l => by pointwise [k0_pay10]) rfl rfl
  rcases List.mem_cons.mp hpc with rfl | hpc
  · exact fun x => store_even (k0_pay5 A X) (k0_pay6 C) 256 (by decide) (by decide) _ x _ (fun r l => by pointwise [k0_pay9]) rfl rfl
  rcases List.mem_cons.mp hpc with rfl | hpc
  · exact fun x => store_odd (k0_pay5 A X) (k0_pay6 C) 128 (by decide) (by decide) _ x _ (fun r l => by pointwise [k0_pay8]) rfl rfl
  rcases List.mem_cons.mp hpc with rfl | hpc
  · exact fun x => store_even (k0_pay5 A X) (k0_pay6 C) 0 (by decide) (by decide) _ x _ (fun r l => by pointwise [k0_pay7]) rfl rfl
  nomatch hpc

end

variable (m : (ℓ : Loc nD τ sig) → Buf (Elt Ideal) ℓ) (c : Dev nD)

/-- The first point of a row of blocks leaves the normed rows in the scratch. -/
theorem scratch_first (t : Fin cfg0.N) (h0 : t.val % 4 = 0) :
    (outsAt0 m c t.val t.isLt).2 = k0_pay4 (View.ld (iblk m c 0 t) (Rect.unit ![0, 0] ![1024, 1024] inb_S1024x1664_S1024x1024_0_0)) (iblk m c 1 t) := by
  rw [outsAt0_A m c t h0]
  frame_out
  rfl

/-- Every other point leaves the scratch as the point before left it. -/
theorem scratch_next (t : Fin cfg0.N) (h0 : ¬t.val % 4 = 0) (h : t.val - 1 < cfg0.N) :
    (outsAt0 m c t.val t.isLt).2 = (outsAt0 m c (t.val - 1) h).2 := by
  rw [outsAt0_B m c t h0]
  rfl

/-- The output's block at a point, from the scratch the point leaves. -/
theorem out_eq (t : Fin cfg0.N) : (outsAt0 m c t.val t.isLt).1 = OUT (outsAt0 m c t.val t.isLt).2 (iblk m c 2 t) (iblk m c 3 t) := by
  by_cases h0 : t.val % 4 = 0
  · rw [scratch_first m c t h0, outsAt0_A m c t h0]
    frame_out
    rfl
  · rw [scratch_next m c t h0 (by omega), outsAt0_B m c t h0]
    frame_out
    simp only [read_unread_whole]

/-- The low-rank rows as the host hands them over, as extended reals. -/
abbrev lat : S8192x1664.Idx → EReal := V m c main_v28
/-- The gain as the host hands it over, as extended reals. -/
abbrev gain : S1x1024.Idx → EReal := V m c main_v38
/-- The weight as the host hands it over, as extended reals. -/
abbrev wts : S1024x8192.Idx → EReal := V m c main_v15
/-- The table as the host hands it over, as extended reals. -/
abbrev tab : S8192x128.Idx → EReal := V m c main_v37
/-- Argument 0, as extended reals. -/
abbrev arg0 : S2x4096x1600.Idx → EReal := m (c, Proc.tc.devRef main_arg0)
/-- Argument 1, as extended reals. -/
abbrev arg1 : S1x1024.Idx → EReal := m (c, Proc.tc.devRef main_arg1)
/-- Argument 2, as extended reals. -/
abbrev arg2 : S1x1024x6144.Idx → EReal := m (c, Proc.tc.devRef main_arg2)
/-- Argument 3, as extended reals. -/
abbrev arg3 : S4096x2x16.Idx → EReal := m (c, Proc.tc.devRef main_arg3)
/-- Argument 4, as extended reals. -/
abbrev arg4 : S4096x2x16.Idx → EReal := m (c, Proc.tc.devRef main_arg4)

/-- Which block of the rows a grid point reads. -/
theorem index0 : ∀ t : Fin cfg0.N, win0_0.index t = ![t.val / 4, 0] := by decide +kernel
/-- Which block of the gain a grid point reads. -/
theorem index1 : ∀ t : Fin cfg0.N, win0_1.index t = ![0, 0] := by decide +kernel
/-- Which block of the weight a grid point reads. -/
theorem index2 : ∀ t : Fin cfg0.N, win0_2.index t = ![0, t.val % 4] := by decide +kernel
/-- Which block of the table a grid point reads. -/
theorem index3 : ∀ t : Fin cfg0.N, win0_3.index t = ![t.val / 4, 0] := by decide +kernel
/-- Which block of the result a grid point writes. -/
theorem index4 : ∀ t : Fin cfg0.N, win0_4.index t = ![t.val / 4, t.val % 4] := by decide +kernel
/-- The grid has 32 points. -/
theorem N_eq : cfg0.N = 32 := by decide

/-- The rows' block at a point. -/
theorem iblk0 (t : Fin cfg0.N) (r : Fin 1024) (k : Fin 1664) (i : Fin 8192) (hi : i.val = 1024 * (t.val / 4) + r.val) :
    (iblk m c 0 t (ix2 r k) : EReal) = lat m c (ix2 i k) := by
  unfold lat
  blk_ext [iblk, index0 t]

/-- The gain's block at a point. -/
theorem iblk1 (t : Fin cfg0.N) (k : Fin 1024) : (iblk m c 1 t (ix2 0 k) : EReal) = gain m c (ix2 0 k) := by
  unfold gain
  blk_ext [iblk, index1 t]

/-- The weight's block at a point. -/
theorem iblk2 (t : Fin cfg0.N) (k : Fin 1024) (x : Fin 2048) (j : Fin 8192) (hj : j.val = 2048 * (t.val % 4) + x.val) :
    (iblk m c 2 t (ix2 k x) : EReal) = wts m c (ix2 k j) := by
  unfold wts
  blk_ext [iblk, index2 t]

/-- The table's block at a point. -/
theorem iblk3 (t : Fin cfg0.N) (r : Fin 1024) (l : Fin 128) (i : Fin 8192) (hi : i.val = 1024 * (t.val / 4) + r.val) :
    (iblk m c 3 t (ix2 r l) : EReal) = tab m c (ix2 i l) := by
  unfold tab
  blk_ext [iblk, index3 t]

/-- A normed row of the arrays. -/
def row (i : Fin 8192) : Fin 1024 → EReal := nrm (fun x => lat m c (ix2 i ⟨x.val, by omega⟩)) (fun x => gain m c (ix2 0 x))

/-- The first columns of a block of rows. -/
theorem ld_apply (X : Vec Ideal S1024x1664 .f32) (r k : Fin 1024) :
    (View.ld X (Rect.unit ![0, 0] ![1024, 1024] inb_S1024x1664_S1024x1024_0_0) (ix2 r k) : EReal) = X (ix2 r ⟨k.val, by omega⟩) := by
  pointwise

/-- What the first point of a row of blocks leaves in the scratch: its normed rows. -/
theorem scratch_row (t : Fin cfg0.N) (h0 : t.val % 4 = 0) (r k : Fin 1024) (i : Fin 8192) (hi : i.val = 1024 * (t.val / 4) + r.val) :
    ((outsAt0 m c t.val t.isLt).2 (ix2 r k) : EReal) = row m c i k := by
  refine (congrFun (scratch_first m c t h0) _).trans ((norm_apply _ _ r k).trans ?_)
  exact congrArg₂ (fun z g => nrm z g k) (funext fun x => (ld_apply _ r x).trans (iblk0 m c t r _ i hi)) (funext fun x => iblk1 m c t x)

/-- What every point leaves in the scratch: the normed rows of its row of blocks. -/
theorem scratch_eq (n : ℕ) : ∀ (hn : n < cfg0.N) (r k : Fin 1024) (i : Fin 8192), i.val = 1024 * (n / 4) + r.val →
    ((outsAt0 m c n hn).2 (ix2 r k) : EReal) = row m c i k := by
  induction n with
  | zero => exact fun hn r k i hi => scratch_row m c ⟨0, hn⟩ rfl r k i hi
  | succ n ih =>
    intro hn r k i hi
    by_cases h0 : (n + 1) % 4 = 0
    · exact scratch_row m c ⟨n + 1, hn⟩ h0 r k i hi
    · refine (congrFun (scratch_next m c ⟨n + 1, hn⟩ h0 (Nat.lt_of_succ_lt hn)) _).trans ?_
      exact ih (Nat.lt_of_succ_lt hn) r k i (by omega)

/-- The queries of the arrays that the host hands over. -/
def RES : S8192x8192.Idx → EReal := fun i =>
  rot (n := 8192) (by decide) (fun j => ∑ k : Fin 1024, row m c (i 0) k * wts m c (ix2 k j)) (fun l => tab m c (ix2 (i 0) l)) (i 1)

/-- The row of the array at which an element of a point's block lies. -/
theorem emb_row (t : Fin cfg0.N) (y : ((cfg0.win 4).xblock (cfg0.grid.coords t)).Idx) :
    ((((cfg0.win 4).blk t).view.emb y) 0 : ℕ) = 1024 * (t.val / 4) + (y 0).val := by
  blk_simp [index4 t]; omega

/-- Its column. -/
theorem emb_col (t : Fin cfg0.N) (y : ((cfg0.win 4).xblock (cfg0.grid.coords t)).Idx) :
    ((((cfg0.win 4).blk t).view.emb y) 1 : ℕ) = 2048 * (t.val % 4) + (y 1).val := by
  blk_simp [index4 t]; omega

/-- Every element of the result lies in a block. -/
theorem covers4 : (cfg0.win 4).Covers := by decide +kernel

/-- Whatever the schedule's data, if each step leaves in the output's block the values one array has there, then
    the output array is that array once the grid has run. -/
theorem arr_of_after (dat : Pipeline.Dat τ (Elt Ideal) Unit ℕ (UR sig nD τ) ℕ cfg0 c) (G : S8192x8192.Idx → EReal)
    (H : ∀ (t : Fin cfg0.N) (y : ((cfg0.win 4).xblock (cfg0.grid.coords t)).Idx),
      dat.after 4 t y = G ((win0_4.blk t).view.emb y)) : dat.arrAt 4 cfg0.N = G := by
  refine dat.arrAt_eq_of_covers 4 G covers4 fun t hf y => ?_
  blk_simp
  exact H t y

/-- What a step leaves in the output's block is the queries at the block's place. -/
theorem after_eq (t : Fin cfg0.N) (y : S1024x2048.Idx) :
    ((outsAt0 m c t.val t.isLt).1 y : EReal) = RES m c ((win0_4.blk t).view.emb y) := by
  rw [out_eq]
  refine (OUT_eq _ _ _ y).trans ?_
  unfold BLK RES
  refine rot_block _ _ _ _ _ _ (2048 * (t.val % 4)) (by omega) _ _ (emb_col t y) (fun a b hb => ?_) (fun l => ?_)
  · refine (prod_apply _ _ _ _).trans (Finset.sum_congr rfl fun k _ => ?_)
    exact congrArg₂ (fun a b : EReal => a * b) (scratch_eq m c t.val t.isLt (y 0) k _ (emb_row t y)) (iblk2 m c t k a b hb)
  · rw [table_id]
    exact iblk3 m c t (y 0) l _ (emb_row t y)

/-- Once the grid has run the output array is the queries. -/
theorem final : (dats m 0 c).arrAt 4 cfg0.N = RES m c :=
  arr_of_after c (dats m 0 c) (RES m c) fun t y => (congrFun (after0_4 m c t) y).trans (after_eq m c t y)

/-- The low-rank rows are the argument's: a row is a batch and a token. -/
theorem lat_apply (b : Fin 2) (r : Fin 4096) (k : Fin 1024) (i : Fin 8192) (hi : i.val = 4096 * b.val + r.val) :
    lat m c (ix2 i ⟨k.val, by omega⟩) = arg0 m c (ix3 b r ⟨k.val, by omega⟩) := by
  unfold lat arg0
  entry_read
  pointwise
  rw [dif_pos (by omega)]
  refine congrArg (m (c, Proc.tc.devRef main_arg0)) ?_
  congr 1 <;> apply Fin.ext <;> dsimp only <;> omega

/-- The gain is the argument. -/
theorem gain_apply (k : Fin 1024) : gain m c (ix2 0 k) = arg1 m c (ix2 0 k) := by
  unfold gain arg1
  entry_read
  pointwise

/-- The weight as the host hands it over: a head's own 192 columns, and after them the last 64 of these turned, in each
    half the second 16 with their sign changed, then the first 16. -/
theorem wts_apply (k : Fin 1024) (j : Fin 8192) : wts m c (ix2 k j) =
    if h : j.val % 256 < 192 then arg2 m c (ix3 0 k ⟨j.val / 256 * 192 + j.val % 256, by omega⟩)
    else if h' : (j.val % 256 - 192) / 16 % 2 < 1 then -arg2 m c (ix3 0 k ⟨j.val / 256 * 192 + (128 + ((j.val % 256 - 192) / 32 * 32 + 16 + (j.val % 256 - 192) % 16)), by omega⟩)
    else arg2 m c (ix3 0 k ⟨j.val / 256 * 192 + (128 + ((j.val % 256 - 192) / 32 * 32 + (j.val % 256 - 192) % 16)), by omega⟩) := by
  unfold wts arg2
  entry_read
  pointwise

/-- The table as the host hands it over: a token's cosines, each half of them twice, and then its sines likewise. -/
theorem tab_apply (i : Fin 8192) (l : Fin 128) : tab m c (ix2 i l) =
    if l.val < 64 then arg3 m c (ix3 ⟨i.val % 4096, by omega⟩ ⟨l.val % 64 / 32, by omega⟩ ⟨l.val % 16, by omega⟩)
    else arg4 m c (ix3 ⟨i.val % 4096, by omega⟩ ⟨l.val % 64 / 32, by omega⟩ ⟨l.val % 16, by omega⟩) := by
  unfold tab arg3 arg4
  entry_read
  pointwise
  split_ifs <;> refine congrArg (m _) ?_ <;> congr 1 <;> apply Fin.ext <;> dsimp only <;> omega

/-- A square is not negative. -/
theorem sq_nonneg' (a : EReal) : 0 ≤ a * a := by
  induction a with
  | bot => exact le_top
  | top => exact le_top
  | coe r => exact_mod_cast mul_self_nonneg r

/-- A sum of squares with an infinite one among them is infinite. -/
theorem sum_top (z : Fin 1024 → EReal) (k : Fin 1024) (h : z k * z k = ⊤) : (∑ x, z x * z x) = ⊤ :=
  top_le_iff.mp (h.symm.le.trans (Finset.single_le_sum (f := fun x => z x * z x) (fun x _ => sq_nonneg' (z x)) (Finset.mem_univ k)))

/-- A normed row is real whenever the gain is: a row with an infinite element is normed to zero. -/
theorem nrm_real (z g : Fin 1024 → EReal) (hg : ∀ k, g k = ((g k).toReal : EReal)) (k : Fin 1024) :
    nrm z g k = ((nrm z g k).toReal : EReal) := by
  have hc : Ideal.ofBits FTy.f32 1149239296#32 = ((1024 : ℝ) : EReal) := by
    simp [Ideal.ofBits, Ideal.ieee, -EReal.coe_mul]; norm_num
  have he : Ideal.ofBits FTy.f32 897988541#32 = ((8796093 / 8796093022208 : ℝ) : EReal) := by
    simp [Ideal.ofBits, Ideal.ieee, -EReal.coe_mul]; norm_num
  unfold nrm
  rw [hc, he, div_coe _ _ (by norm_num)]
  by_cases hz : ∀ k, z k = ((z k).toReal : EReal)
  · have e : (∑ x, z x * z x) = ((∑ x, (z x).toReal * (z x).toReal : ℝ) : EReal) := by
      rw [coe_sum']
      exact Finset.sum_congr rfl fun x _ => by rw [EReal.coe_mul, ← hz]
    have hS : 0 ≤ ∑ x, (z x).toReal * (z x).toReal := Finset.sum_nonneg fun x _ => mul_self_nonneg _
    rw [e, ← EReal.coe_mul, ← EReal.coe_add]
    generalize hS' : (∑ x, (z x).toReal * (z x).toReal) = S at hS
    have hp : 0 < S * (1024 : ℝ)⁻¹ + 8796093 / 8796093022208 := by positivity
    have hr : Ideal.rsqrt ((S * (1024 : ℝ)⁻¹ + 8796093 / 8796093022208 : ℝ) : EReal) = (((Real.sqrt (S * (1024 : ℝ)⁻¹ + 8796093 / 8796093022208))⁻¹ : ℝ) : EReal) := by
      show (if S * (1024 : ℝ)⁻¹ + 8796093 / 8796093022208 < 0 then (⊥ : EReal) else if S * (1024 : ℝ)⁻¹ + 8796093 / 8796093022208 = 0 then ⊤ else _) = _
      rw [if_neg (not_lt.mpr hp.le), if_neg hp.ne']
    rw [hr, hz k, hg k, ← EReal.coe_mul, ← EReal.coe_mul, EReal.toReal_coe]
  · obtain ⟨x, hx⟩ := not_forall.mp hz
    have ht : z x * z x = ⊤ := by
      generalize z x = a at hx
      induction a with
      | bot => rfl
      | top => rfl
      | coe r => exact absurd rfl hx
    have hr : Ideal.rsqrt ⊤ = 0 := rfl
    rw [sum_top z x ht, EReal.top_mul_coe_of_pos (by norm_num), EReal.top_add_coe, hr, mul_zero, zero_mul, EReal.toReal_zero, EReal.coe_zero]

/-- One head's columns as the reference has them: 128 as they are, then 64 turned by the table's angles, twice. -/
def refhead (Q : Fin 192 → EReal) (cs sn : Fin 2 → Fin 16 → EReal) (x : Fin 256) : EReal :=
  if h : x.val < 128 then Q ⟨x.val, by omega⟩
  else if h : x.val - 128 < 64 then
    if h' : (x.val - 128) / 16 % 2 < 1 then
      Q ⟨128 + ((x.val - 128) / 32 * 32 + (x.val - 128) % 16), by omega⟩ * cs ⟨(x.val - 128) / 32, by omega⟩ ⟨(x.val - 128) % 16, by omega⟩
        - Q ⟨128 + ((x.val - 128) / 32 * 32 + 16 + (x.val - 128) % 16), by omega⟩ * sn ⟨(x.val - 128) / 32, by omega⟩ ⟨(x.val - 128) % 16, by omega⟩
    else
      Q ⟨128 + ((x.val - 128) / 32 * 32 + (x.val - 128) % 16), by omega⟩ * sn ⟨(x.val - 128) / 32, by omega⟩ ⟨(x.val - 128) % 16, by omega⟩
        + Q ⟨128 + ((x.val - 128) / 32 * 32 + 16 + (x.val - 128) % 16), by omega⟩ * cs ⟨(x.val - 128) / 32, by omega⟩ ⟨(x.val - 128) % 16, by omega⟩
  else
    if h' : (x.val - 128 - 64) / 16 % 2 < 1 then
      Q ⟨128 + ((x.val - 128 - 64) / 32 * 32 + (x.val - 128 - 64) % 16), by omega⟩ * cs ⟨(x.val - 128 - 64) / 32, by omega⟩ ⟨(x.val - 128 - 64) % 16, by omega⟩
        - Q ⟨128 + ((x.val - 128 - 64) / 32 * 32 + 16 + (x.val - 128 - 64) % 16), by omega⟩ * sn ⟨(x.val - 128 - 64) / 32, by omega⟩ ⟨(x.val - 128 - 64) % 16, by omega⟩
    else
      Q ⟨128 + ((x.val - 128 - 64) / 32 * 32 + (x.val - 128 - 64) % 16), by omega⟩ * sn ⟨(x.val - 128 - 64) / 32, by omega⟩ ⟨(x.val - 128 - 64) % 16, by omega⟩
        + Q ⟨128 + ((x.val - 128 - 64) / 32 * 32 + 16 + (x.val - 128 - 64) % 16), by omega⟩ * cs ⟨(x.val - 128 - 64) / 32, by omega⟩ ⟨(x.val - 128 - 64) % 16, by omega⟩

/-- The 256 products of a row with a head's columns, the last 64 of them turned. -/
def col (Q : Fin 192 → EReal) (x : Fin 256) : EReal :=
  if h : x.val < 192 then Q ⟨x.val, h⟩
  else if h' : (x.val - 192) / 16 % 2 < 1 then -Q ⟨128 + ((x.val - 192) / 32 * 32 + 16 + (x.val - 192) % 16), by omega⟩
  else Q ⟨128 + ((x.val - 192) / 32 * 32 + (x.val - 192) % 16), by omega⟩

/-- The products times the table and turned are the head as the reference has it. -/
theorem head_eq (Q : Fin 192 → EReal) (cs sn : Fin 2 → Fin 16 → EReal) (W : Fin 8192 → EReal) (C : Fin 128 → EReal) (j : Fin 8192)
    (hW : ∀ (a : Fin 8192) (x : Fin 256), a.val = j.val / 256 * 256 + x.val → W a = col Q x)
    (hC : ∀ l : Fin 128, C l = if l.val < 64 then cs ⟨l.val % 64 / 32, by omega⟩ ⟨l.val % 16, by omega⟩ else sn ⟨l.val % 64 / 32, by omega⟩ ⟨l.val % 16, by omega⟩) :
    rot (n := 8192) (by decide) W C j = refhead Q cs sn ⟨j.val % 256, by omega⟩ := by
  have q : ∀ a b : Fin 192, a.val = b.val → Q a = Q b := fun a b h => congrArg Q (Fin.ext h)
  have t : ∀ (f : Fin 2 → Fin 16 → EReal) (a b : Fin 2) (d e : Fin 16), a.val = b.val → d.val = e.val → f a d = f b e :=
    fun f a b d e h h' => by rw [Fin.ext h, Fin.ext h']
  unfold rot refhead
  by_cases h1 : j.val % 256 < 128
  · rw [if_pos (by omega), dif_pos h1, hW j ⟨j.val % 256, by omega⟩ (by dsimp only; omega)]
    unfold col
    rw [dif_pos (by dsimp only; omega)]
  rw [if_neg (by omega), dif_neg h1]
  rw [hW j ⟨j.val % 256, by omega⟩ (by dsimp only; omega), hW _ ⟨128 + (j.val % 128 + 128 - 64) % 128, by omega⟩ (by dsimp only; omega), hC, hC]
  unfold col
  dsimp only
  by_cases h2 : j.val % 256 - 128 < 64
  · rw [dif_pos h2, dif_pos (by omega), if_pos (by omega), dif_neg (by omega), if_neg (by omega)]
    by_cases h3 : (j.val % 256 - 128) / 16 % 2 < 1
    · rw [dif_pos h3, dif_pos (by omega), neg_mul, ← sub_eq_add_neg]
      refine congrArg₂ (fun a b : EReal => a - b) (congrArg₂ (fun a b : EReal => a * b) (q _ _ ?_) (t _ _ _ _ _ ?_ ?_)) (congrArg₂ (fun a b : EReal => a * b) (q _ _ ?_) (t _ _ _ _ _ ?_ ?_)) <;> dsimp only <;> omega
    · rw [dif_neg h3, dif_neg (by omega), add_comm]
      refine congrArg₂ (fun a b : EReal => a + b) (congrArg₂ (fun a b : EReal => a * b) (q _ _ ?_) (t _ _ _ _ _ ?_ ?_)) (congrArg₂ (fun a b : EReal => a * b) (q _ _ ?_) (t _ _ _ _ _ ?_ ?_)) <;> dsimp only <;> omega
  · rw [dif_neg h2, dif_neg (by omega), if_neg (by omega)]
    by_cases h3 : (j.val % 256 - 128 - 64) / 16 % 2 < 1
    · rw [dif_pos h3, dif_pos (by omega), dif_pos (by omega), if_pos (by omega), neg_mul, add_comm, ← sub_eq_add_neg]
      refine congrArg₂ (fun a b : EReal => a - b) (congrArg₂ (fun a b : EReal => a * b) (q _ _ ?_) (t _ _ _ _ _ ?_ ?_)) (congrArg₂ (fun a b : EReal => a * b) (q _ _ ?_) (t _ _ _ _ _ ?_ ?_)) <;> dsimp only <;> omega
    · rw [dif_neg h3, dif_neg (by omega), dif_pos (by omega), if_pos (by omega)]
      refine congrArg₂ (fun a b : EReal => a + b) (congrArg₂ (fun a b : EReal => a * b) (q _ _ ?_) (t _ _ _ _ _ ?_ ?_)) (congrArg₂ (fun a b : EReal => a * b) (q _ _ ?_) (t _ _ _ _ _ ?_ ?_)) <;> dsimp only <;> omega

/-- A normed row of the arguments. -/
def qrow (x0 : S2x4096x1600.Idx → EReal) (x1 : S1x1024.Idx → EReal) (b : Fin 2) (r : Fin 4096) : Fin 1024 → EReal :=
  nrm (fun x => x0 (ix3 b r ⟨x.val, by omega⟩)) (fun x => x1 (ix2 0 x))

/-- The products of a row of the arguments with a head's own columns. -/
def qry (x0 : S2x4096x1600.Idx → EReal) (x1 : S1x1024.Idx → EReal) (x2 : S1x1024x6144.Idx → EReal) (b : Fin 2) (r : Fin 4096) (h : Fin 32) (x : Fin 192) : EReal :=
  ∑ k : Fin 1024, qrow x0 x1 b r k * x2 (ix3 0 k ⟨h.val * 192 + x.val, by omega⟩)

/-- The reference's products before the rotation. -/
theorem ref_qry (x0 : S2x4096x1600.Idx → EReal) (x1 : S1x1024.Idx → EReal) (x2 : S1x1024x6144.Idx → EReal) (b : Fin 2) (r : Fin 4096) (h : Fin 32) (x : Fin 192) :
    Cert.QRefIdeal.Read.val_main_v17 (F := Ideal) x0 x1 x2 (ix4 b r h x) = qry x0 x1 x2 b r h x := by
  unfold qry qrow nrm
  pointwise [Cert.QRefIdeal.Read.val_main_v17, Cert.QRefIdeal.Read.val_main_v16, Cert.QRefIdeal.Read.val_main_v15, Cert.QRefIdeal.Read.val_main_v14, Cert.QRefIdeal.Read.val_main_v13, Cert.QRefIdeal.Read.val_main_v12, Cert.QRefIdeal.Read.val_main_v11, Cert.QRefIdeal.Read.val_main_v10, Cert.QRefIdeal.Read.val_main_v9, Cert.QRefIdeal.Read.val_main_v8, Cert.QRefIdeal.Read.val_main_v7, Cert.QRefIdeal.Read.val_main_v6, Cert.QRefIdeal.Read.val_main_v5, Cert.QRefIdeal.Read.val_main_v4, Cert.QRefIdeal.Read.val_main_v3, Cert.QRefIdeal.Read.val_main_v2, Cert.QRefIdeal.Read.val_main_v1, Cert.QRefIdeal.Read.val_main_v0, Cert.QRefIdeal.Read.val_main_cst, Cert.QRefIdeal.Read.val_main_cst_0, Cert.QRefIdeal.Read.val_main_cst_1]

/-- The reference's result at an index. -/
theorem ref_apply (x0 : S2x4096x1600.Idx → EReal) (x1 : S1x1024.Idx → EReal) (x2 : S1x1024x6144.Idx → EReal) (x3 x4 : S4096x2x16.Idx → EReal) (i j : Fin 8192) :
    Cert.QRefIdeal.Read.val_main_v47 (F := Ideal) x0 x1 x2 x3 x4 (ix2 i j)
      = refhead (qry x0 x1 x2 ⟨i.val / 4096, by omega⟩ ⟨i.val % 4096, by omega⟩ ⟨j.val / 256, by omega⟩)
          (fun a e => x3 (ix3 ⟨i.val % 4096, by omega⟩ a e)) (fun a e => x4 (ix3 ⟨i.val % 4096, by omega⟩ a e)) ⟨j.val % 256, by omega⟩ := by
  have e : qry x0 x1 x2 ⟨i.val / 4096, by omega⟩ ⟨i.val % 4096, by omega⟩ ⟨j.val / 256, by omega⟩
      = fun x => Cert.QRefIdeal.Read.val_main_v17 (F := Ideal) x0 x1 x2 (ix4 ⟨i.val / 4096, by omega⟩ ⟨i.val % 4096, by omega⟩ ⟨j.val / 256, by omega⟩ x) :=
    funext fun x => (ref_qry x0 x1 x2 _ _ _ x).symm
  rw [e]
  unfold refhead
  pointwise [Cert.QRefIdeal.Read.val_main_v47, Cert.QRefIdeal.Read.val_main_v46, Cert.QRefIdeal.Read.val_main_v45, Cert.QRefIdeal.Read.val_main_v44, Cert.QRefIdeal.Read.val_main_v43, Cert.QRefIdeal.Read.val_main_v42, Cert.QRefIdeal.Read.val_main_v41, Cert.QRefIdeal.Read.val_main_v40, Cert.QRefIdeal.Read.val_main_v39, Cert.QRefIdeal.Read.val_main_v38, Cert.QRefIdeal.Read.val_main_v37, Cert.QRefIdeal.Read.val_main_v36, Cert.QRefIdeal.Read.val_main_v35, Cert.QRefIdeal.Read.val_main_v34, Cert.QRefIdeal.Read.val_main_v33, Cert.QRefIdeal.Read.val_main_v32, Cert.QRefIdeal.Read.val_main_v31, Cert.QRefIdeal.Read.val_main_v30, Cert.QRefIdeal.Read.val_main_v29, Cert.QRefIdeal.Read.val_main_v28, Cert.QRefIdeal.Read.val_main_v27, Cert.QRefIdeal.Read.val_main_v26, Cert.QRefIdeal.Read.val_main_v25, Cert.QRefIdeal.Read.val_main_v24, Cert.QRefIdeal.Read.val_main_v23, Cert.QRefIdeal.Read.val_main_v22, Cert.QRefIdeal.Read.val_main_v21, Cert.QRefIdeal.Read.val_main_v20, Cert.QRefIdeal.Read.val_main_v19, Cert.QRefIdeal.Read.val_main_v18]

/-- A row times a head's columns as the host hands them over. -/
theorem col_eq (N : Fin 1024 → EReal) (hN : ∀ k, N k = ((N k).toReal : EReal)) (w : S1x1024x6144.Idx → EReal) (hw : Finite w) (h : Fin 32) (a : Fin 8192)
    (x : Fin 256) (ha : a.val = h.val * 256 + x.val) :
    (∑ k : Fin 1024, N k * (if h : a.val % 256 < 192 then w (ix3 0 k ⟨a.val / 256 * 192 + a.val % 256, by omega⟩)
      else if h' : (a.val % 256 - 192) / 16 % 2 < 1 then -w (ix3 0 k ⟨a.val / 256 * 192 + (128 + ((a.val % 256 - 192) / 32 * 32 + 16 + (a.val % 256 - 192) % 16)), by omega⟩)
      else w (ix3 0 k ⟨a.val / 256 * 192 + (128 + ((a.val % 256 - 192) / 32 * 32 + (a.val % 256 - 192) % 16)), by omega⟩)))
    = col (fun x => ∑ k : Fin 1024, N k * w (ix3 0 k ⟨h.val * 192 + x.val, by omega⟩)) x := by
  have q : ∀ (k : Fin 1024) (a b : Fin 6144), a.val = b.val → w (ix3 0 k a) = w (ix3 0 k b) := fun k a b e => by rw [Fin.ext e]
  unfold col
  by_cases h1 : x.val < 192
  · rw [dif_pos h1]
    refine Finset.sum_congr rfl fun k _ => ?_
    rw [dif_pos (by omega)]
    exact congrArg (fun b : EReal => N k * b) (q k _ _ (by dsimp only; omega))
  · rw [dif_neg h1]
    by_cases h2 : (x.val - 192) / 16 % 2 < 1
    · rw [dif_pos h2, Cert.MlaInIdeal.Att.neg_sum _ _ hN fun _ => hw _]
      refine Finset.sum_congr rfl fun k _ => ?_
      rw [dif_neg (by omega), dif_pos (by omega)]
      exact congrArg (fun b : EReal => N k * -b) (q k _ _ (by dsimp only; omega))
    · rw [dif_neg h2]
      refine Finset.sum_congr rfl fun k _ => ?_
      rw [dif_neg (by omega), dif_neg (by omega)]
      exact congrArg (fun b : EReal => N k * b) (q k _ _ (by dsimp only; omega))

variable (h1 : Finite (arg1 m c)) (h2 : Finite (arg2 m c))

/-- A normed row of the arrays is a normed row of the arguments. -/
theorem row_eq (i : Fin 8192) : row m c i = qrow (arg0 m c) (arg1 m c) ⟨i.val / 4096, by omega⟩ ⟨i.val % 4096, by omega⟩ := by
  unfold row qrow
  refine congrArg₂ nrm (funext fun x => ?_) (funext fun x => gain_apply m c x)
  exact lat_apply m c _ _ x i (by dsimp only; omega)

include h1 h2 in
/-- The queries of the arrays are the reference's result. -/
theorem res_eq (i j : Fin 8192) : RES m c (ix2 i j) = Cert.QRefIdeal.Read.val_main_v47 (F := Ideal) (arg0 m c) (arg1 m c) (arg2 m c) (arg3 m c) (arg4 m c) (ix2 i j) := by
  rw [ref_apply]
  show rot (n := 8192) (by decide) (fun j => ∑ k : Fin 1024, row m c i k * wts m c (ix2 k j)) (fun l => tab m c (ix2 i l)) j = _
  refine head_eq _ _ _ _ _ j (fun a x ha => ?_) (fun l => tab_apply m c i l)
  have hr : ∀ k, row m c i k = ((row m c i k).toReal : EReal) := fun k => by
    rw [row_eq]; exact nrm_real _ _ (fun _ => h1 _) k
  refine (Finset.sum_congr rfl fun k _ => congrArg (fun b : EReal => row m c i k * b) (wts_apply m c k a)).trans ?_
  refine (col_eq (row m c i) hr (arg2 m c) h2 ⟨j.val / 256, by omega⟩ a x ha).trans ?_
  rw [row_eq]
  rfl

end Cert.QIdeal.Att

namespace Cert.Q.Proof

open Idealize.ShloMosaic Idealize.ShloMosaic.TcCoe Idealize.ShloMosaic.Tactic
open Cert.QIdeal.Att Cert.Soft

variable (m : (ℓ : Loc Cert.QIdeal.nD Cert.QIdeal.τ Cert.QIdeal.sig) → Buf (Elt Ideal) ℓ) (c : Dev Cert.QIdeal.nD)

/-- Under the precondition the gain and the weight are finite. -/
theorem finite_args (h : Cert.Pre_QIdeal_finite_weights m) (c : Dev Cert.QIdeal.nD) : Finite (arg1 m c) ∧ Finite (arg2 m c) :=
  have ⟨e1, e2⟩ := h c
  ⟨Cert.Proof.finite_of_olt _ _ e1, Cert.Proof.finite_of_olt _ _ e2⟩

/-- **The algebraic claim of the queries.** -/
theorem algebraic : Cert.algebraic_QIdeal_QRefIdeal_pre_finite_weights := by
  pair_intro
  · run_from Cert.QIdeal.Value.run_blocks m g
  · run_from Cert.QRefIdeal.Value.run m' g'
    obtain ⟨h1, h2⟩ := finite_args m hpre c
    obtain ⟨a0, a1, a2, a3, a4⟩ := hagree c
    rw [Cert.QRefIdeal.Read.val_main_v47_eq]
    try rw [a0, a1, a2, a3, a4]
    refine Eq.trans (funext fun i => ?_) (final m c).symm
    rw [eq_ix2 (n0 := 8192) (n1 := 8192) i]
    exact (res_eq m c h1 h2 (i 0) (i 1)).symm

end Cert.Q.Proof

end
-- ==== Proof.Scores.lean ====
/- The expert scores: the kernel's result array and its reference, element by element. -/
module

public import proofs.«01_k».proof.Proof.Algebraic
public import proofs.«01_k».proof.Proof.Gen.ScoresIdeal.Value
public import proofs.«01_k».proof.Proof.Gen.ScoresRefIdeal.Run
public import proofs.«01_k».proof.Proof.Gen.ScoresRefIdeal.Read
public import proofs.«01_k».proof.Proof.Gen.Pre_finite_inputs
public import proofs.«01_k».proof.Defs
public import Idealize.ShloMosaic.Lib.Pipeline.ValueKit
public import Idealize.ShloMosaic.Lib.Pipeline.Covers
public import Idealize.ShloMosaic.Lib.Pointwise
public import Idealize.ShloMosaic.Lib.Claim

@[expose] public section

set_option maxRecDepth 16384

noncomputable section

namespace Cert.ScoresIdeal.Att

open Idealize.ShloMosaic Idealize.ShloMosaic.TcCoe Idealize.ShloMosaic.Tactic
open Cert.ScoresIdeal Cert.ScoresIdeal.Gen Cert.Soft

/-- Two operands each split in a part and what is left of it give one product, if all are real: what is left is 0. -/
theorem split_sum {ι : Type} [Fintype ι] (k q : ι → EReal) (hk : ∀ i, k i = ((k i).toReal : EReal)) (hq : ∀ i, q i = ((q i).toReal : EReal)) :
    (∑ i, k i * q i) + (∑ i, (k i - k i) * q i) + (∑ i, k i * (q i - q i)) = ∑ i, k i * q i := by
  have z : ∀ x : EReal, x = (x.toReal : EReal) → x - x = 0 := fun x hx => by rw [hx, ← EReal.coe_sub, sub_self]; rfl
  simp only [z _ (hk _), z _ (hq _), zero_mul, mul_zero, Finset.sum_const_zero, add_zero]

/-- A sum of products of reals is a real. -/
theorem sum_real {ι : Type} [Fintype ι] (a b : ι → EReal) (ha : ∀ i, a i = ((a i).toReal : EReal)) (hb : ∀ i, b i = ((b i).toReal : EReal)) :
    (∑ i, a i * b i) = ((∑ i, a i * b i).toReal : EReal) := by
  have e : (∑ i, a i * b i) = ((∑ i, (a i).toReal * (b i).toReal : ℝ) : EReal) := by
    rw [coe_sum']
    exact Finset.sum_congr rfl fun i _ => by rw [EReal.coe_mul, ← ha, ← hb]
  rw [e, EReal.toReal_coe]

variable (X0 : Vec Ideal S512x4096 .bf16) (X1 : Vec Ideal S4096x1024 .bf16)

/-- A query's element: the product of the blocks. -/
def qry (r : Fin 512) (x : Fin 1024) : EReal := ∑ k : Fin 4096, (X0 (ix2 r k) : EReal) * X1 (ix2 k x)

/-- The queries, rounded. -/
theorem hi_apply (r : Fin 512) (x : Fin 1024) : (k0_pay4 X0 X1 (ix2 r x) : EReal) = qry X0 X1 r x := by
  unfold qry
  pointwise [k0_pay4, k0_pay3]

/-- What the rounding leaves. -/
theorem lo_apply (r : Fin 512) (x : Fin 1024) : (k0_pay5 X0 X1 (ix2 r x) : EReal) = qry X0 X1 r x - qry X0 X1 r x := by
  rw [← hi_apply]
  pointwise [k0_pay5, k0_pay4]

variable (K : Vec Ideal S1x128x128 .f32) (hK : Finite (ι := S1x128x128.Idx) K) (hQ : ∀ r x, qry X0 X1 r x = ((qry X0 X1 r x).toReal : EReal))

/-- A head's scores from the three products of the split operands. -/
theorem three (p : Fin 8) (i : Fin 128) (l : Fin 512) (hK : Finite (ι := S1x128x128.Idx) K) (hQ : ∀ r x, qry X0 X1 r x = ((qry X0 X1 r x).toReal : EReal)) :
    (∑ d : Fin 128, (K (ix3 0 i d) : EReal) * k0_pay4 X0 X1 (ix2 l ⟨128 * p.val + d.val, by omega⟩))
      + (∑ d : Fin 128, ((K (ix3 0 i d) : EReal) - K (ix3 0 i d)) * k0_pay4 X0 X1 (ix2 l ⟨128 * p.val + d.val, by omega⟩))
      + (∑ d : Fin 128, (K (ix3 0 i d) : EReal) * k0_pay5 X0 X1 (ix2 l ⟨128 * p.val + d.val, by omega⟩))
      = ∑ d : Fin 128, (K (ix3 0 i d) : EReal) * qry X0 X1 l ⟨128 * p.val + d.val, by omega⟩ := by
  simp only [hi_apply, lo_apply]
  exact split_sum _ _ (fun _ => hK _) (fun _ => hQ _ _)

include hK hQ in
/-- The first head of a block. -/
theorem piece0 (i : Fin 128) (l : Fin 512) : ((k0_pay6 X0 X1 K) (ix3 0 i l) : EReal)
    = ∑ d : Fin 128, (K (ix3 0 i d) : EReal) * qry X0 X1 l ⟨128 * (0 : Fin 8).val + d.val, by omega⟩ := by
  rw [← three X0 X1 K 0 i l hK hQ]
  generalize hA : k0_pay4 X0 X1 = A
  generalize hB : k0_pay5 X0 X1 = B
  pointwise [k0_pay6]
  rw [hA, hB]

include hK hQ in
/-- The second head of a block. -/
theorem piece1 (i : Fin 128) (l : Fin 512) : ((k0_pay11 (k0_pay8 K) (k0_pay9 X0 X1 K) (k0_pay10 X0 X1)) (ix3 0 i l) : EReal)
    = ∑ d : Fin 128, (K (ix3 0 i d) : EReal) * qry X0 X1 l ⟨128 * (1 : Fin 8).val + d.val, by omega⟩ := by
  rw [← three X0 X1 K 1 i l hK hQ]
  generalize hA : k0_pay4 X0 X1 = A
  generalize hB : k0_pay5 X0 X1 = B
  pointwise [k0_pay11, k0_pay8, k0_pay9, k0_pay10, k0_pay7]
  rw [hA, hB]

include hK hQ in
/-- The third head of a block. -/
theorem piece2 (i : Fin 128) (l : Fin 512) : ((k0_pay12 (k0_pay4 X0 X1) (k0_pay5 X0 X1) K) (ix3 0 i l) : EReal)
    = ∑ d : Fin 128, (K (ix3 0 i d) : EReal) * qry X0 X1 l ⟨128 * (2 : Fin 8).val + d.val, by omega⟩ := by
  rw [← three X0 X1 K 2 i l hK hQ]
  generalize hA : k0_pay4 X0 X1 = A
  generalize hB : k0_pay5 X0 X1 = B
  pointwise [k0_pay12]

include hK hQ in
/-- The fourth head of a block. -/
theorem piece3 (i : Fin 128) (l : Fin 512) : ((k0_pay14 (k0_pay13 (k0_pay4 X0 X1) (k0_pay5 X0 X1) K)) (ix3 0 i l) : EReal)
    = ∑ d : Fin 128, (K (ix3 0 i d) : EReal) * qry X0 X1 l ⟨128 * (3 : Fin 8).val + d.val, by omega⟩ := by
  rw [← three X0 X1 K 3 i l hK hQ]
  generalize hA : k0_pay4 X0 X1 = A
  generalize hB : k0_pay5 X0 X1 = B
  pointwise [k0_pay14, k0_pay13]

include hK hQ in
/-- The fifth head of a block. -/
theorem piece4 (i : Fin 128) (l : Fin 512) : ((k0_pay15 (k0_pay4 X0 X1) (k0_pay5 X0 X1) K) (ix3 0 i l) : EReal)
    = ∑ d : Fin 128, (K (ix3 0 i d) : EReal) * qry X0 X1 l ⟨128 * (4 : Fin 8).val + d.val, by omega⟩ := by
  rw [← three X0 X1 K 4 i l hK hQ]
  generalize hA : k0_pay4 X0 X1 = A
  generalize hB : k0_pay5 X0 X1 = B
  pointwise [k0_pay15]

include hK hQ in
/-- The sixth head of a block. -/
theorem piece5 (i : Fin 128) (l : Fin 512) : ((k0_pay16 (k0_pay4 X0 X1) (k0_pay5 X0 X1) K) (ix3 0 i l) : EReal)
    = ∑ d : Fin 128, (K (ix3 0 i d) : EReal) * qry X0 X1 l ⟨128 * (5 : Fin 8).val + d.val, by omega⟩ := by
  rw [← three X0 X1 K 5 i l hK hQ]
  generalize hA : k0_pay4 X0 X1 = A
  generalize hB : k0_pay5 X0 X1 = B
  pointwise [k0_pay16]

include hK hQ in
/-- The seventh head of a block. -/
theorem piece6 (i : Fin 128) (l : Fin 512) : ((k0_pay1 (k0_pay4 X0 X1) (k0_pay5 X0 X1) K) (ix3 0 i l) : EReal)
    = ∑ d : Fin 128, (K (ix3 0 i d) : EReal) * qry X0 X1 l ⟨128 * (6 : Fin 8).val + d.val, by omega⟩ := by
  rw [← three X0 X1 K 6 i l hK hQ]
  generalize hA : k0_pay4 X0 X1 = A
  generalize hB : k0_pay5 X0 X1 = B
  pointwise [k0_pay1]

include hK hQ in
/-- The eighth head of a block. -/
theorem piece7 (i : Fin 128) (l : Fin 512) : ((k0_pay2 (k0_pay4 X0 X1) (k0_pay5 X0 X1) K) (ix3 0 i l) : EReal)
    = ∑ d : Fin 128, (K (ix3 0 i d) : EReal) * qry X0 X1 l ⟨128 * (7 : Fin 8).val + d.val, by omega⟩ := by
  rw [← three X0 X1 K 7 i l hK hQ]
  generalize hA : k0_pay4 X0 X1 = A
  generalize hB : k0_pay5 X0 X1 = B
  pointwise [k0_pay2]

variable (X2 : Vec Ideal S8x128x128 .f32) (hX2 : Finite (ι := S8x128x128.Idx) X2)

/-- A block of the scores at an index: the head's sub-key against the head's columns of the query. -/
def BLK : Vec Ideal S8x128x512 .f32 := fun y => (∑ d : Fin 128, (X2 (ix3 (y 0) (y 1) d) : EReal) * qry X0 X1 (y 2) ⟨128 * (y 0).val + d.val, by have h : (y 0).val < 8 := (y 0).isLt; omega⟩ : EReal)

/-- The block at an index given by its coordinates. -/
theorem BLK_apply (y : S8x128x512.Idx) (p : Fin 8) (i : Fin 128) (l : Fin 512) (hp : (y 0).val = p.val) (hi : (y 1).val = i.val) (hl : (y 2).val = l.val) :
    BLK X0 X1 X2 y = ∑ d : Fin 128, (X2 (ix3 p i d) : EReal) * qry X0 X1 l ⟨128 * p.val + d.val, by omega⟩ := by
  have a : y 0 = p := Fin.ext hp
  have b : y 1 = i := Fin.ext hi
  have e : y 2 = l := Fin.ext hl
  unfold BLK
  simp only [a, b, e]

/-- A store's index has no head of its own. -/
theorem ix_unit (x : S1x128x512.Idx) : x = ix3 (0 : Fin 1) (x 1) (x 2) := by
  refine (eq_ix3 (n0 := 1) (n1 := 128) (n2 := 512) x).trans ?_
  congr 1
  exact Subsingleton.elim (α := Fin 1) _ _

/-- One head's store, at an index of its own, is the block at the place where it is stored. -/
theorem store_eq (p : Fin 8) (K : Vec Ideal S1x128x128 .f32) (w : FVec Ideal S1x128x512 .f32) (x : S1x128x512.Idx) (y : S8x128x512.Idx)
    (hw : ∀ i l, (w (ix3 0 i l) : EReal) = ∑ d : Fin 128, (K (ix3 0 i d) : EReal) * qry X0 X1 l ⟨128 * p.val + d.val, by omega⟩)
    (hK : ∀ i d, (K (ix3 0 i d) : EReal) = X2 (ix3 p i d)) (h0 : (y 0).val = p.val + 1 * (x 0).val) (h1 : (y 1).val = 0 + 1 * (x 1).val) (h2 : (y 2).val = 0 + 1 * (x 2).val) :
    w x = BLK X0 X1 X2 y := by
  have hx : (x 0).val < 1 := (x 0).isLt
  refine (congrArg w (ix_unit x)).trans ((hw _ _).trans ?_)
  rw [BLK_apply X0 X1 X2 y p (x 1) (x 2) (by omega) (by omega) (by omega)]
  exact Finset.sum_congr rfl fun d _ => congrArg (fun a : EReal => a * _) (hK _ _)

include hQ hX2 in
/-- What the body leaves in the output's block. -/
theorem out_eq (y : S8x128x512.Idx) : (out0_3 X0 X1 X2 y : EReal) = BLK X0 X1 X2 y := by
  unfold out0_3 k0_pay17 k0_pay18
  refine View.canon_apply_of_pieces (BLK X0 X1 X2) _ ?_ y (cover0_3 _ _ _ _ _ _ _ _ y)
  intro pc hpc
  have e0 : View.ld X0 r0_0 = X0 := by frame_out
  have e1 : View.ld X1 r0_1 = X1 := by frame_out
  rw [e0, e1] at hpc
  have hf : ∀ r : Rect S8x128x128, Finite (ι := r.shape.Idx) (View.ld X2 r) := fun r i => hX2 _
  rcases List.mem_cons.mp hpc with rfl | hpc
  · exact fun x => store_eq X0 X1 X2 7 _ _ x _ (piece7 X0 X1 _ (hf _) hQ) (fun i d => by pointwise) rfl rfl rfl
  rcases List.mem_cons.mp hpc with rfl | hpc
  · exact fun x => store_eq X0 X1 X2 6 _ _ x _ (piece6 X0 X1 _ (hf _) hQ) (fun i d => by pointwise) rfl rfl rfl
  rcases List.mem_cons.mp hpc with rfl | hpc
  · exact fun x => store_eq X0 X1 X2 5 _ _ x _ (piece5 X0 X1 _ (hf _) hQ) (fun i d => by pointwise) rfl rfl rfl
  rcases List.mem_cons.mp hpc with rfl | hpc
  · exact fun x => store_eq X0 X1 X2 4 _ _ x _ (piece4 X0 X1 _ (hf _) hQ) (fun i d => by pointwise) rfl rfl rfl
  rcases List.mem_cons.mp hpc with rfl | hpc
  · exact fun x => store_eq X0 X1 X2 3 _ _ x _ (piece3 X0 X1 _ (hf _) hQ) (fun i d => by pointwise) rfl rfl rfl
  rcases List.mem_cons.mp hpc with rfl | hpc
  · exact fun x => store_eq X0 X1 X2 2 _ _ x _ (piece2 X0 X1 _ (hf _) hQ) (fun i d => by pointwise) rfl rfl rfl
  rcases List.mem_cons.mp hpc with rfl | hpc
  · exact fun x => store_eq X0 X1 X2 1 _ _ x _ (piece1 X0 X1 _ (hf _) hQ) (fun i d => by pointwise) rfl rfl rfl
  rcases List.mem_cons.mp hpc with rfl | hpc
  · exact fun x => store_eq X0 X1 X2 0 _ _ x _ (piece0 X0 X1 _ (hf _) hQ) (fun i d => by pointwise) rfl rfl rfl
  nomatch hpc

variable (m : (ℓ : Loc nD τ sig) → Buf (Elt Ideal) ℓ) (c : Dev nD)

/-- The activations as the host hands them over, as extended reals. -/
abbrev acts : S8192x4096.Idx → EReal := V m c main_v4
/-- The query weights as the host hands them over, as extended reals. -/
abbrev wts : S4096x2048.Idx → EReal := V m c main_v5
/-- The sub-keys as the host hands them over, as extended reals. -/
abbrev keys : S16x128x128.Idx → EReal := V m c main_v3
/-- Argument 0, as extended reals. -/
abbrev arg0 : S8192x4096.Idx → EReal := m ((c.tc : Thread nD τ).loc main_arg0)
/-- Argument 1, as extended reals. -/
abbrev arg1 : S4096x2048.Idx → EReal := m ((c.tc : Thread nD τ).loc main_arg1)
/-- Argument 2, as extended reals. -/
abbrev arg2 : S8x128x128.Idx → EReal := m ((c.tc : Thread nD τ).loc main_arg2)
/-- Argument 3, as extended reals. -/
abbrev arg3 : S8x128x128.Idx → EReal := m ((c.tc : Thread nD τ).loc main_arg3)

/-- Which block of the activations a grid point reads. -/
theorem index0 : ∀ t : Fin cfg0.N, win0_0.index t = ![t.val % 16, 0] := by decide +kernel
/-- Which block of the query weights a grid point reads. -/
theorem index1 : ∀ t : Fin cfg0.N, win0_1.index t = ![0, t.val / 16] := by decide +kernel
/-- Which block of the sub-keys a grid point reads. -/
theorem index2 : ∀ t : Fin cfg0.N, win0_2.index t = ![t.val / 16, 0, 0] := by decide +kernel
/-- Which block of the result a grid point writes. -/
theorem index3 : ∀ t : Fin cfg0.N, win0_3.index t = ![t.val / 16, 0, t.val % 16] := by decide +kernel

/-- The activations' block at a point. -/
theorem iblk0 (t : Fin cfg0.N) (r : Fin 512) (k : Fin 4096) (i : Fin 8192) (hi : i.val = 512 * (t.val % 16) + r.val) :
    (iblk m c 0 t (ix2 r k) : EReal) = acts m c (ix2 i k) := by
  unfold acts
  blk_ext [iblk, index0 t]

/-- The query weights' block at a point. -/
theorem iblk1 (t : Fin cfg0.N) (k : Fin 4096) (x : Fin 1024) (j : Fin 2048) (hj : j.val = 1024 * (t.val / 16) + x.val) :
    (iblk m c 1 t (ix2 k x) : EReal) = wts m c (ix2 k j) := by
  unfold wts
  blk_ext [iblk, index1 t]

/-- The sub-keys' block at a point. -/
theorem iblk2 (t : Fin cfg0.N) (p : Fin 8) (i d : Fin 128) (j : Fin 16) (hj : j.val = 8 * (t.val / 16) + p.val) :
    (iblk m c 2 t (ix3 p i d) : EReal) = keys m c (ix3 j i d) := by
  unfold keys
  blk_ext [iblk, index2 t]

/-- The activations are the argument. -/
theorem acts_apply (i : Fin 8192) (k : Fin 4096) : acts m c (ix2 i k) = arg0 m c (ix2 i k) := by
  unfold acts
  entry_read
  pointwise

/-- The query weights are the argument. -/
theorem wts_apply (k : Fin 4096) (j : Fin 2048) : wts m c (ix2 k j) = arg1 m c (ix2 k j) := by
  unfold wts
  entry_read
  pointwise

/-- The sub-keys: the two halves of a head in turn. -/
theorem keys_apply (h : Fin 8) (s : Fin 2) (j : Fin 16) (hj : j.val = 2 * h.val + s.val) (i d : Fin 128) :
    keys m c (ix3 j i d) = if s.val = 0 then arg2 m c (ix3 h i d) else arg3 m c (ix3 h i d) := by
  unfold keys
  entry_read
  pointwise
  have hs : s.val < 2 := s.isLt
  have e : (⟨j.val / 2, by omega⟩ : Fin 8) = h := Fin.ext (by dsimp only; omega)
  by_cases hs0 : s.val = 0
  · rw [dif_pos (by omega), if_pos hs0]
    exact congrArg (fun q => m (c, Proc.tc.devRef main_arg2) (ix3 q i d)) e
  · rw [dif_neg (by omega), if_neg hs0]
    exact congrArg (fun q => m (c, Proc.tc.devRef main_arg3) (ix3 q i d)) e

/-- The scores of the arrays that the host hands over. -/
def RES : S16x128x8192.Idx → EReal := fun i =>
  ∑ d : Fin 128, keys m c (ix3 (i 0) (i 1) d) * ∑ k : Fin 4096, acts m c (ix2 (i 2) k) * wts m c (ix2 k ⟨128 * (i 0).val + d.val, by have h : (i 0).val < 16 := (i 0).isLt; omega⟩)

/-- The head of the array at which an element of a point's block lies. -/
theorem emb_head (t : Fin cfg0.N) (y : ((cfg0.win 3).xblock (cfg0.grid.coords t)).Idx) :
    ((((cfg0.win 3).blk t).view.emb y) 0 : ℕ) = 8 * (t.val / 16) + (y 0).val := by
  blk_simp [index3 t]; omega

/-- Its sub-key. -/
theorem emb_key (t : Fin cfg0.N) (y : ((cfg0.win 3).xblock (cfg0.grid.coords t)).Idx) :
    ((((cfg0.win 3).blk t).view.emb y) 1 : ℕ) = (y 1).val := by
  blk_simp [index3 t]

/-- Its row of the activations. -/
theorem emb_row (t : Fin cfg0.N) (y : ((cfg0.win 3).xblock (cfg0.grid.coords t)).Idx) :
    ((((cfg0.win 3).blk t).view.emb y) 2 : ℕ) = 512 * (t.val % 16) + (y 2).val := by
  blk_simp [index3 t]; omega

/-- Every element of the result lies in a block. -/
theorem covers3 : (cfg0.win 3).Covers := by decide +kernel

/-- Whatever the schedule's data, if each step leaves in the output's block the values one array has there, then
    the output array is that array once the grid has run. -/
theorem arr_of_after (dat : Pipeline.Dat τ (Elt Ideal) Unit ℕ (UR sig nD τ) ℕ cfg0 c) (G : S16x128x8192.Idx → EReal)
    (H : ∀ (t : Fin cfg0.N) (y : ((cfg0.win 3).xblock (cfg0.grid.coords t)).Idx),
      dat.after 3 t y = G ((win0_3.blk t).view.emb y)) : dat.arrAt 3 cfg0.N = G := by
  refine dat.arrAt_eq_of_covers 3 G covers3 fun t hf y => ?_
  blk_simp
  exact H t y

variable (h0 : Finite (arg0 m c)) (h1 : Finite (arg1 m c)) (h2 : Finite (arg2 m c)) (h3 : Finite (arg3 m c))

include h0 in
/-- The activations are real. -/
theorem acts_real (i : Fin 8192) (k : Fin 4096) : acts m c (ix2 i k) = ((acts m c (ix2 i k)).toReal : EReal) := by
  rw [acts_apply]; exact h0 _

include h1 in
/-- The query weights are real. -/
theorem wts_real (k : Fin 4096) (j : Fin 2048) : wts m c (ix2 k j) = ((wts m c (ix2 k j)).toReal : EReal) := by
  rw [wts_apply]; exact h1 _

include h2 h3 in
/-- The sub-keys are real. -/
theorem keys_real (j : Fin 16) (i d : Fin 128) : keys m c (ix3 j i d) = ((keys m c (ix3 j i d)).toReal : EReal) := by
  rw [keys_apply m c ⟨j.val / 2, by omega⟩ ⟨j.val % 2, by omega⟩ j (by dsimp only; omega)]
  split_ifs
  · exact h2 _
  · exact h3 _

/-- A block's query is the arrays' query. -/
theorem qry_apply (t : Fin cfg0.N) (r : Fin 512) (x : Fin 1024) (i : Fin 8192) (j : Fin 2048) (hi : i.val = 512 * (t.val % 16) + r.val)
    (hj : j.val = 1024 * (t.val / 16) + x.val) :
    qry (iblk m c 0 t) (iblk m c 1 t) r x = ∑ k : Fin 4096, acts m c (ix2 i k) * wts m c (ix2 k j) := by
  unfold qry
  exact Finset.sum_congr rfl fun k _ => congrArg₂ (fun a b : EReal => a * b) (iblk0 m c t r k i hi) (iblk1 m c t k x j hj)

/-- The grid has 32 points. -/
theorem N_eq : cfg0.N = 32 := by decide

include h0 h1 h2 h3 in
/-- What a step leaves in the output's block is the scores at the block's place. -/
theorem after_eq (t : Fin cfg0.N) (y : S8x128x512.Idx) :
    (out0_3 (iblk m c 0 t) (iblk m c 1 t) (iblk m c 2 t) y : EReal) = RES m c ((win0_3.blk t).view.emb y) := by
  have ht : t.val < 32 := t.isLt.trans_eq N_eq
  have hy : (y 0).val < 8 := (y 0).isLt
  refine (out_eq _ _ (fun r x => ?_) _ (fun i => ?_) y).trans ?_
  · rw [qry_apply m c t r x ⟨512 * (t.val % 16) + r.val, by omega⟩ ⟨1024 * (t.val / 16) + x.val, by omega⟩ rfl rfl]
    exact sum_real _ _ (fun _ => acts_real m c h0 _ _) (fun _ => wts_real m c h1 _ _)
  · have hi : (i 0).val < 8 := (i 0).isLt
    have e : (iblk m c 2 t i : EReal) = keys m c (ix3 ⟨8 * (t.val / 16) + (i 0).val, by omega⟩ (i 1) (i 2)) :=
      (congrArg (iblk m c 2 t) (eq_ix3 i)).trans (iblk2 m c t (i 0) (i 1) (i 2) _ rfl)
    exact e.trans ((keys_real m c h2 h3 _ _ _).trans (congrArg (fun a : EReal => (a.toReal : EReal)) e.symm))
  · unfold BLK RES
    refine Finset.sum_congr rfl fun d _ => congrArg₂ (fun a b : EReal => a * b) ?_ ?_
    · refine (iblk2 m c t (y 0) (y 1) d _ (emb_head t y)).trans (congrArg (fun q => keys m c (ix3 _ q d)) (Fin.ext (emb_key t y).symm))
    · exact qry_apply m c t (y 2) _ _ _ (emb_row t y) (by
        have e : ((((win0_3).blk t).view.emb y) 0 : ℕ) = 8 * (t.val / 16) + (y 0).val := emb_head t y
        show 128 * ((((win0_3).blk t).view.emb y) 0 : ℕ) + d.val = 1024 * (t.val / 16) + (128 * (y 0).val + d.val)
        rw [e]
        omega)

include h0 h1 h2 h3 in
/-- Once the grid has run the output array is the scores. -/
theorem final : (dats m 0 c).arrAt 3 cfg0.N = RES m c :=
  arr_of_after c (dats m 0 c) (RES m c) fun t y => (congrFun (after0_3 m c t) y).trans (after_eq m c h0 h1 h2 h3 t y)

end Cert.ScoresIdeal.Att

namespace Cert.Scores.Proof

open Idealize.ShloMosaic Idealize.ShloMosaic.TcCoe Idealize.ShloMosaic.Tactic
open Cert.ScoresIdeal.Att Cert.Soft

variable (m : (ℓ : Loc Cert.ScoresIdeal.nD Cert.ScoresIdeal.τ Cert.ScoresIdeal.sig) → Buf (Elt Ideal) ℓ) (c : Dev Cert.ScoresIdeal.nD)

/-- Under the precondition all arguments are finite. -/
theorem finite_args (h : Cert.Pre_ScoresIdeal_finite_inputs m) (c : Dev Cert.ScoresIdeal.nD) :
    Finite (arg0 m c) ∧ Finite (arg1 m c) ∧ Finite (arg2 m c) ∧ Finite (arg3 m c) :=
  have ⟨e0, e1, e2, e3⟩ := h c
  ⟨Cert.Proof.finite_of_olt _ _ e0, Cert.Proof.finite_of_olt _ _ e1, Cert.Proof.finite_of_olt _ _ e2, Cert.Proof.finite_of_olt _ _ e3⟩

/-- The reference's result is the same scores. -/
theorem reference_eq : Cert.ScoresRefIdeal.Read.val_main_v14 (F := Ideal) (arg0 m c) (arg1 m c) (arg2 m c) (arg3 m c) = RES m c := by
  funext i
  have hb : (i 0).val < 16 := (i 0).isLt
  unfold RES
  rw [eq_ix3 i]
  pointwise [Cert.ScoresRefIdeal.Read.val_main_v14, Cert.ScoresRefIdeal.Read.val_main_v13, Cert.ScoresRefIdeal.Read.val_main_v12, Cert.ScoresRefIdeal.Read.val_main_v11,
    Cert.ScoresRefIdeal.Read.val_main_v10, Cert.ScoresRefIdeal.Read.val_main_v9, Cert.ScoresRefIdeal.Read.val_main_v8, Cert.ScoresRefIdeal.Read.val_main_v7,
    Cert.ScoresRefIdeal.Read.val_main_v6, Cert.ScoresRefIdeal.Read.val_main_v5, Cert.ScoresRefIdeal.Read.val_main_v4, Cert.ScoresRefIdeal.Read.val_main_v3,
    Cert.ScoresRefIdeal.Read.val_main_v2, Cert.ScoresRefIdeal.Read.val_main_v1, Cert.ScoresRefIdeal.Read.val_main_v0]
  refine Eq.trans ?_ (Finset.sum_congr rfl fun d _ => (congrArg₂ (fun a b : EReal => a * b)
    (keys_apply m c ⟨(i 0).val / 2, by omega⟩ ⟨(i 0).val % 2, by omega⟩ (i 0) (by dsimp only; omega) (i 1) d)
    (Finset.sum_congr rfl fun k _ => congrArg₂ (fun a b : EReal => a * b) (acts_apply m c (i 2) k) (wts_apply m c k ⟨128 * (i 0).val + d.val, by omega⟩))).symm)
  by_cases hs : (i 0).val % 2 = 0
  · rw [dif_pos (by omega)]
    refine Finset.sum_congr rfl fun d _ => congrArg₂ (fun a b : EReal => a * b) (if_pos hs).symm (Finset.sum_congr rfl fun k _ => ?_)
    exact congrArg (fun q => arg0 m c (ix2 (i 2) k) * arg1 m c (ix2 k q)) (Fin.ext (by dsimp only; omega))
  · rw [dif_neg (by omega)]
    refine Finset.sum_congr rfl fun d _ => congrArg₂ (fun a b : EReal => a * b) (if_neg hs).symm (Finset.sum_congr rfl fun k _ => ?_)
    exact congrArg (fun q => arg0 m c (ix2 (i 2) k) * arg1 m c (ix2 k q)) (Fin.ext (by dsimp only; omega))

/-- **The algebraic claim of the expert scores.** -/
theorem algebraic : Cert.algebraic_ScoresIdeal_ScoresRefIdeal_pre_finite_inputs := by
  pair_intro
  · run_from Cert.ScoresIdeal.Value.run_blocks m g
  · run_from Cert.ScoresRefIdeal.Value.run m' g'
    obtain ⟨h0, h1, h2, h3⟩ := finite_args m hpre c
    obtain ⟨a0, a1, a2, a3⟩ := hagree c
    rw [Cert.ScoresRefIdeal.Read.val_main_v14_eq, a3]
    exact (reference_eq m c).trans (final m c h0 h1 h2 h3).symm

end Cert.Scores.Proof

end
-- ==== Proof.lean ====
module

public import proofs.«01_k».proof.Proof.Frames
public import proofs.«01_k».proof.Proof.Algebraic
public import proofs.«01_k».proof.Proof.FnetOut
public import proofs.«01_k».proof.Proof.MlaIn
public import proofs.«01_k».proof.Proof.MlaOut
public import proofs.«01_k».proof.Proof.Q
public import proofs.«01_k».proof.Proof.Scores
public import proofs.«01_k».proof.Proof.Gen.FnetOut.Frame
public import proofs.«01_k».proof.Proof.Gen.MlaOut.Frame
public import proofs.«01_k».proof.Proof.Gen.Scores.Frame
public import proofs.«01_k».proof.Proof.Gen.FnetOutIdeal.Value
public import proofs.«01_k».proof.Proof.Gen.FnetOutRefIdeal.Run
public import proofs.«01_k».proof.Proof.Gen.FnetOutRefIdeal.Read
public import proofs.«01_k».proof.Proof.Gen.MlaOutIdeal.Value
public import proofs.«01_k».proof.Proof.Gen.MlaOutRefIdeal.Run
public import proofs.«01_k».proof.Proof.Gen.MlaOutRefIdeal.Read
public import proofs.«01_k».proof.Proof.Gen.ScoresIdeal.Value
public import proofs.«01_k».proof.Proof.Gen.ScoresRefIdeal.Run
public import proofs.«01_k».proof.Proof.Gen.ScoresRefIdeal.Read
public import proofs.«01_k».proof.Proof.Gen.Pre_finite_inputs
public import proofs.«01_k».proof.Proof.Gen.Q.Frame
public import proofs.«01_k».proof.Proof.Gen.QIdeal.Value
public import proofs.«01_k».proof.Proof.Gen.QRefIdeal.Run
public import proofs.«01_k».proof.Proof.Gen.QRefIdeal.Read
public import proofs.«01_k».proof.Proof.Gen.Pre_finite_weights
public import proofs.«01_k».proof.Proof.Gen.MlaIn.Frame
public import proofs.«01_k».proof.Proof.Gen.MlaInIdeal.Value
public import proofs.«01_k».proof.Proof.Gen.MlaInRefIdeal.Run
public import proofs.«01_k».proof.Proof.Gen.MlaInRefIdeal.Read
public import proofs.«01_k».proof.Proof.Gen.Pre_finite_factors

@[expose] public section

noncomputable section

namespace Cert.Proof

open Idealize.ShloMosaic Idealize.SL.Sem

/-- This reference runs, leaves its arguments and ends with every counter at zero. -/
theorem frame_FnetOut : Cert.quiescent_FnetOutRefIdeal := fun m ρ _ =>
  (θ_run Cert.FnetOutRefIdeal.defs _ _).mono (fun r h => ⟨fun c => (h c).2.2, sem_eq_zero_of_no_sems (by decide) r.2⟩)
    (Cert.FnetOutRefIdeal.Value.run (F := Ideal) m ρ)

/-- This reference runs, leaves its arguments and ends with every counter at zero. -/
theorem frame_MlaOut : Cert.quiescent_MlaOutRefIdeal := fun m ρ _ =>
  (θ_run Cert.MlaOutRefIdeal.defs _ _).mono (fun r h => ⟨fun c => (h c).2, sem_eq_zero_of_no_sems (by decide) r.2⟩)
    (Cert.MlaOutRefIdeal.Value.run (F := Ideal) m ρ)

/-- This reference runs, leaves its arguments and ends with every counter at zero. -/
theorem frame_Scores : Cert.quiescent_ScoresRefIdeal := fun m ρ _ =>
  (θ_run Cert.ScoresRefIdeal.defs _ _).mono (fun r h => ⟨fun c => (h c).2, sem_eq_zero_of_no_sems (by decide) r.2⟩)
    (Cert.ScoresRefIdeal.Value.run (F := Ideal) m ρ)

/-- This reference runs, leaves its arguments and ends with every counter at zero. -/
theorem frame_MlaIn : Cert.quiescent_MlaInRefIdeal := fun m ρ _ =>
  (θ_run Cert.MlaInRefIdeal.defs _ _).mono (fun r h => ⟨fun c => (h c).2, sem_eq_zero_of_no_sems (by decide) r.2⟩)
    (Cert.MlaInRefIdeal.Value.run (F := Ideal) m ρ)

/-- This reference runs, leaves its arguments and ends with every counter at zero. -/
theorem frame_Q : Cert.quiescent_QRefIdeal := fun m ρ _ =>
  (θ_run Cert.QRefIdeal.defs _ _).mono (fun r h => ⟨fun c => (h c).2, sem_eq_zero_of_no_sems (by decide) r.2⟩)
    (Cert.QRefIdeal.Value.run (F := Ideal) m ρ)

/-- The claims together. -/
theorem claim : Cert.Claim := ⟨Cert.Kernel.Gen.facts, Cert.KernelIdeal.Gen.facts, Cert.ReferenceIdeal.Gen.facts,
  Cert.FnetOut.Gen.facts, Cert.FnetOutIdeal.Gen.facts, Cert.FnetOutRefIdeal.Gen.facts,
  Cert.MlaOut.Gen.facts, Cert.MlaOutIdeal.Gen.facts, Cert.MlaOutRefIdeal.Gen.facts,
  Cert.Scores.Gen.facts, Cert.ScoresIdeal.Gen.facts, Cert.ScoresRefIdeal.Gen.facts,
  Cert.MlaIn.Gen.facts, Cert.MlaInIdeal.Gen.facts, Cert.MlaInRefIdeal.Gen.facts,
  Cert.Q.Gen.facts, Cert.QIdeal.Gen.facts, Cert.QRefIdeal.Gen.facts,
  Cert.Pre_finite_scores.Gen.facts, Cert.Pre_finite_inputs.Gen.facts, Cert.Pre_finite_factors.Gen.facts, Cert.Pre_finite_weights.Gen.facts,
  frame_kernel, frame_ideal, fun m ρ _ => frame_ideal m ρ trivial, frame_reference, fun m ρ _ => frame_reference m ρ trivial,
  fun m ρ _ => Cert.FnetOut.Gen.frame m ρ, fun m ρ _ => Cert.FnetOutIdeal.Gen.frame m ρ, frame_FnetOut,
  fun m ρ _ => Cert.MlaOut.Gen.frame m ρ, fun m ρ _ => Cert.MlaOutIdeal.Gen.frame m ρ, frame_MlaOut,
  fun m ρ _ => Cert.Scores.Gen.frame m ρ, fun m ρ _ => Cert.ScoresIdeal.Gen.frame m ρ, fun m ρ _ => Cert.ScoresIdeal.Gen.frame m ρ,
  frame_Scores, fun m ρ _ => frame_Scores m ρ trivial,
  fun m ρ _ => Cert.MlaIn.Gen.frame m ρ, fun m ρ _ => Cert.MlaInIdeal.Gen.frame m ρ, fun m ρ _ => Cert.MlaInIdeal.Gen.frame m ρ,
  frame_MlaIn, fun m ρ _ => frame_MlaIn m ρ trivial,
  fun m ρ _ => Cert.Q.Gen.frame m ρ, fun m ρ _ => Cert.QIdeal.Gen.frame m ρ, fun m ρ _ => Cert.QIdeal.Gen.frame m ρ,
  frame_Q, fun m ρ _ => frame_Q m ρ trivial,
  trivial, algebraic, trivial, Cert.FnetOut.Proof.algebraic, trivial, Cert.MlaOut.Proof.algebraic, trivial, Cert.Scores.Proof.algebraic,
  trivial, Cert.MlaIn.Proof.algebraic, trivial, Cert.Q.Proof.algebraic⟩

end Cert.Proof

end
